-- ==== Defs.lean ====
def Pre_Kernel (m : (ℓ : Loc Cert.Kernel.nD Cert.Kernel.τ Cert.Kernel.sig) → Buf (Elt Bits) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_FfnMid (m : (ℓ : Loc Cert.FfnMid.nD Cert.FfnMid.τ Cert.FfnMid.sig) → Buf (Elt Bits) ℓ) : Prop :=
  True

def Pre_FfnMidIdeal (m : (ℓ : Loc Cert.FfnMidIdeal.nD Cert.FfnMidIdeal.τ Cert.FfnMidIdeal.sig) → Buf (Elt Ideal) ℓ) : Prop :=
  True

def Pre_FfnMidRefIdeal (m : (ℓ : Loc Cert.FfnMidRefIdeal.nD Cert.FfnMidRefIdeal.τ Cert.FfnMidRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Repack (m : (ℓ : Loc Cert.Repack.nD Cert.Repack.τ Cert.Repack.sig) → Buf (Elt Bits) ℓ) : Prop :=
  True

def Pre_RepackIdeal (m : (ℓ : Loc Cert.RepackIdeal.nD Cert.RepackIdeal.τ Cert.RepackIdeal.sig) → Buf (Elt Ideal) ℓ) : Prop :=
  True

def Pre_Fcum (m : (ℓ : Loc Cert.Fcum.nD Cert.Fcum.τ Cert.Fcum.sig) → Buf (Elt Bits) ℓ) : Prop :=
  True

def Pre_FcumIdeal (m : (ℓ : Loc Cert.FcumIdeal.nD Cert.FcumIdeal.τ Cert.FcumIdeal.sig) → Buf (Elt Ideal) ℓ) : Prop :=
  True

def Pre_Swa (m : (ℓ : Loc Cert.Swa.nD Cert.Swa.τ Cert.Swa.sig) → Buf (Elt Bits) ℓ) : Prop :=
  True

def Pre_SwaIdeal (m : (ℓ : Loc Cert.SwaIdeal.nD Cert.SwaIdeal.τ Cert.SwaIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_FfnMid [hFfnMid : Cert.FfnMid.Facts] : Prop :=
  ∀ (m : (ℓ : Loc Cert.FfnMid.nD Cert.FfnMid.τ Cert.FfnMid.sig) → Buf (Elt Bits) ℓ) (g : Dev Cert.FfnMid.nD → PrngReg), Pre_FfnMid m →
    θ_run (Cert.FfnMid.defs (F := Bits)) (onTc (τ := Cert.FfnMid.τ) (Cert.FfnMid.main (F := Bits))) ⟨m, fun _ => 0, g⟩ (fun r => (∀ c : Dev Cert.FfnMid.nD,
      r.2.mem ((c.tc : Thread Cert.FfnMid.nD Cert.FfnMid.τ).loc Cert.FfnMid.main_arg0) = m ((c.tc : Thread Cert.FfnMid.nD Cert.FfnMid.τ).loc Cert.FfnMid.main_arg0)
      ∧ r.2.mem ((c.tc : Thread Cert.FfnMid.nD Cert.FfnMid.τ).loc Cert.FfnMid.main_arg1) = m ((c.tc : Thread Cert.FfnMid.nD Cert.FfnMid.τ).loc Cert.FfnMid.main_arg1)
      ∧ r.2.mem ((c.tc : Thread Cert.FfnMid.nD Cert.FfnMid.τ).loc Cert.FfnMid.main_arg2) = m ((c.tc : Thread Cert.FfnMid.nD Cert.FfnMid.τ).loc Cert.FfnMid.main_arg2)
      ∧ r.2.mem ((c.tc : Thread Cert.FfnMid.nD Cert.FfnMid.τ).loc Cert.FfnMid.main_arg3) = m ((c.tc : Thread Cert.FfnMid.nD Cert.FfnMid.τ).loc Cert.FfnMid.main_arg3)
      ∧ r.2.mem ((c.tc : Thread Cert.FfnMid.nD Cert.FfnMid.τ).loc Cert.FfnMid.main_arg4) = m ((c.tc : Thread Cert.FfnMid.nD Cert.FfnMid.τ).loc Cert.FfnMid.main_arg4)
      ∧ r.2.mem ((c.tc : Thread Cert.FfnMid.nD Cert.FfnMid.τ).loc Cert.FfnMid.main_arg5) = m ((c.tc : Thread Cert.FfnMid.nD Cert.FfnMid.τ).loc Cert.FfnMid.main_arg5)
      ∧ r.2.mem ((c.tc : Thread Cert.FfnMid.nD Cert.FfnMid.τ).loc Cert.FfnMid.main_arg6) = m ((c.tc : Thread Cert.FfnMid.nD Cert.FfnMid.τ).loc Cert.FfnMid.main_arg6))
      ∧ r.2.sem = fun _ => 0)

def quiescent_FfnMidIdeal [hFfnMidIdeal : Cert.FfnMidIdeal.Facts] : Prop :=
  ∀ (m : (ℓ : Loc Cert.FfnMidIdeal.nD Cert.FfnMidIdeal.τ Cert.FfnMidIdeal.sig) → Buf (Elt Ideal) ℓ) (g : Dev Cert.FfnMidIdeal.nD → PrngReg), Pre_FfnMidIdeal m →
    θ_run (Cert.FfnMidIdeal.defs (F := Ideal)) (onTc (τ := Cert.FfnMidIdeal.τ) (Cert.FfnMidIdeal.main (F := Ideal))) ⟨m, fun _ => 0, g⟩ (fun r => (∀ c : Dev Cert.FfnMidIdeal.nD,
      r.2.mem ((c.tc : Thread Cert.FfnMidIdeal.nD Cert.FfnMidIdeal.τ).loc Cert.FfnMidIdeal.main_arg0) = m ((c.tc : Thread Cert.FfnMidIdeal.nD Cert.FfnMidIdeal.τ).loc Cert.FfnMidIdeal.main_arg0)
      ∧ r.2.mem ((c.tc : Thread Cert.FfnMidIdeal.nD Cert.FfnMidIdeal.τ).loc Cert.FfnMidIdeal.main_arg1) = m ((c.tc : Thread Cert.FfnMidIdeal.nD Cert.FfnMidIdeal.τ).loc Cert.FfnMidIdeal.main_arg1)
      ∧ r.2.mem ((c.tc : Thread Cert.FfnMidIdeal.nD Cert.FfnMidIdeal.τ).loc Cert.FfnMidIdeal.main_arg2) = m ((c.tc : Thread Cert.FfnMidIdeal.nD Cert.FfnMidIdeal.τ).loc Cert.FfnMidIdeal.main_arg2)
      ∧ r.2.mem ((c.tc : Thread Cert.FfnMidIdeal.nD Cert.FfnMidIdeal.τ).loc Cert.FfnMidIdeal.main_arg3) = m ((c.tc : Thread Cert.FfnMidIdeal.nD Cert.FfnMidIdeal.τ).loc Cert.FfnMidIdeal.main_arg3)
      ∧ r.2.mem ((c.tc : Thread Cert.FfnMidIdeal.nD Cert.FfnMidIdeal.τ).loc Cert.FfnMidIdeal.main_arg4) = m ((c.tc : Thread Cert.FfnMidIdeal.nD Cert.FfnMidIdeal.τ).loc Cert.FfnMidIdeal.main_arg4)
      ∧ r.2.mem ((c.tc : Thread Cert.FfnMidIdeal.nD Cert.FfnMidIdeal.τ).loc Cert.FfnMidIdeal.main_arg5) = m ((c.tc : Thread Cert.FfnMidIdeal.nD Cert.FfnMidIdeal.τ).loc Cert.FfnMidIdeal.main_arg5)
      ∧ r.2.mem ((c.tc : Thread Cert.FfnMidIdeal.nD Cert.FfnMidIdeal.τ).loc Cert.FfnMidIdeal.main_arg6) = m ((c.tc : Thread Cert.FfnMidIdeal.nD Cert.FfnMidIdeal.τ).loc Cert.FfnMidIdeal.main_arg6))
      ∧ r.2.sem = fun _ => 0)

def quiescent_FfnMidRefIdeal [hFfnMidRefIdeal : Cert.FfnMidRefIdeal.Facts] : Prop :=
  ∀ (m : (ℓ : Loc Cert.FfnMidRefIdeal.nD Cert.FfnMidRefIdeal.τ Cert.FfnMidRefIdeal.sig) → Buf (Elt Ideal) ℓ) (g : Dev Cert.FfnMidRefIdeal.nD → PrngReg), Pre_FfnMidRefIdeal m →
    θ_run (Cert.FfnMidRefIdeal.defs (F := Ideal)) (onTc (τ := Cert.FfnMidRefIdeal.τ) (Cert.FfnMidRefIdeal.main (F := Ideal))) ⟨m, fun _ => 0, g⟩ (fun r => (∀ c : Dev Cert.FfnMidRefIdeal.nD,
      r.2.mem ((c.tc : Thread Cert.FfnMidRefIdeal.nD Cert.FfnMidRefIdeal.τ).loc Cert.FfnMidRefIdeal.main_arg0) = m ((c.tc : Thread Cert.FfnMidRefIdeal.nD Cert.FfnMidRefIdeal.τ).loc Cert.FfnMidRefIdeal.main_arg0)
      ∧ r.2.mem ((c.tc : Thread Cert.FfnMidRefIdeal.nD Cert.FfnMidRefIdeal.τ).loc Cert.FfnMidRefIdeal.main_arg1) = m ((c.tc : Thread Cert.FfnMidRefIdeal.nD Cert.FfnMidRefIdeal.τ).loc Cert.FfnMidRefIdeal.main_arg1)
      ∧ r.2.mem ((c.tc : Thread Cert.FfnMidRefIdeal.nD Cert.FfnMidRefIdeal.τ).loc Cert.FfnMidRefIdeal.main_arg2) = m ((c.tc : Thread Cert.FfnMidRefIdeal.nD Cert.FfnMidRefIdeal.τ).loc Cert.FfnMidRefIdeal.main_arg2)
      ∧ r.2.mem ((c.tc : Thread Cert.FfnMidRefIdeal.nD Cert.FfnMidRefIdeal.τ).loc Cert.FfnMidRefIdeal.main_arg3) = m ((c.tc : Thread Cert.FfnMidRefIdeal.nD Cert.FfnMidRefIdeal.τ).loc Cert.FfnMidRefIdeal.main_arg3)
      ∧ r.2.mem ((c.tc : Thread Cert.FfnMidRefIdeal.nD Cert.FfnMidRefIdeal.τ).loc Cert.FfnMidRefIdeal.main_arg4) = m ((c.tc : Thread Cert.FfnMidRefIdeal.nD Cert.FfnMidRefIdeal.τ).loc Cert.FfnMidRefIdeal.main_arg4)
      ∧ r.2.mem ((c.tc : Thread Cert.FfnMidRefIdeal.nD Cert.FfnMidRefIdeal.τ).loc Cert.FfnMidRefIdeal.main_arg5) = m ((c.tc : Thread Cert.FfnMidRefIdeal.nD Cert.FfnMidRefIdeal.τ).loc Cert.FfnMidRefIdeal.main_arg5)
      ∧ r.2.mem ((c.tc : Thread Cert.FfnMidRefIdeal.nD Cert.FfnMidRefIdeal.τ).loc Cert.FfnMidRefIdeal.main_arg6) = m ((c.tc : Thread Cert.FfnMidRefIdeal.nD Cert.FfnMidRefIdeal.τ).loc Cert.FfnMidRefIdeal.main_arg6))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3))
      ∧ r.2.sem = fun _ => 0)

def quiescent_Repack [hRepack : Cert.Repack.Facts] : Prop :=
  ∀ (m : (ℓ : Loc Cert.Repack.nD Cert.Repack.τ Cert.Repack.sig) → Buf (Elt Bits) ℓ) (g : Dev Cert.Repack.nD → PrngReg), Pre_Repack m →
    θ_run (Cert.Repack.defs (F := Bits)) (onTc (τ := Cert.Repack.τ) (Cert.Repack.main (F := Bits))) ⟨m, fun _ => 0, g⟩ (fun r => (∀ c : Dev Cert.Repack.nD,
      r.2.mem ((c.tc : Thread Cert.Repack.nD Cert.Repack.τ).loc Cert.Repack.main_arg0) = m ((c.tc : Thread Cert.Repack.nD Cert.Repack.τ).loc Cert.Repack.main_arg0))
      ∧ r.2.sem = fun _ => 0)

def quiescent_RepackIdeal [hRepackIdeal : Cert.RepackIdeal.Facts] : Prop :=
  ∀ (m : (ℓ : Loc Cert.RepackIdeal.nD Cert.RepackIdeal.τ Cert.RepackIdeal.sig) → Buf (Elt Ideal) ℓ) (g : Dev Cert.RepackIdeal.nD → PrngReg), Pre_RepackIdeal m →
    θ_run (Cert.RepackIdeal.defs (F := Ideal)) (onTc (τ := Cert.RepackIdeal.τ) (Cert.RepackIdeal.main (F := Ideal))) ⟨m, fun _ => 0, g⟩ (fun r => (∀ c : Dev Cert.RepackIdeal.nD,
      r.2.mem ((c.tc : Thread Cert.RepackIdeal.nD Cert.RepackIdeal.τ).loc Cert.RepackIdeal.main_arg0) = m ((c.tc : Thread Cert.RepackIdeal.nD Cert.RepackIdeal.τ).loc Cert.RepackIdeal.main_arg0))
      ∧ r.2.sem = fun _ => 0)

def quiescent_Fcum [hFcum : Cert.Fcum.Facts] : Prop :=
  ∀ (m : (ℓ : Loc Cert.Fcum.nD Cert.Fcum.τ Cert.Fcum.sig) → Buf (Elt Bits) ℓ) (g : Dev Cert.Fcum.nD → PrngReg), Pre_Fcum m →
    θ_run (Cert.Fcum.defs (F := Bits)) (onTc (τ := Cert.Fcum.τ) (Cert.Fcum.main (F := Bits))) ⟨m, fun _ => 0, g⟩ (fun r => (∀ c : Dev Cert.Fcum.nD,
      r.2.mem ((c.tc : Thread Cert.Fcum.nD Cert.Fcum.τ).loc Cert.Fcum.main_arg0) = m ((c.tc : Thread Cert.Fcum.nD Cert.Fcum.τ).loc Cert.Fcum.main_arg0)
      ∧ r.2.mem ((c.tc : Thread Cert.Fcum.nD Cert.Fcum.τ).loc Cert.Fcum.main_arg1) = m ((c.tc : Thread Cert.Fcum.nD Cert.Fcum.τ).loc Cert.Fcum.main_arg1)
      ∧ r.2.mem ((c.tc : Thread Cert.Fcum.nD Cert.Fcum.τ).loc Cert.Fcum.main_arg2) = m ((c.tc : Thread Cert.Fcum.nD Cert.Fcum.τ).loc Cert.Fcum.main_arg2))
      ∧ r.2.sem = fun _ => 0)

def quiescent_FcumIdeal [hFcumIdeal : Cert.FcumIdeal.Facts] : Prop :=
  ∀ (m : (ℓ : Loc Cert.FcumIdeal.nD Cert.FcumIdeal.τ Cert.FcumIdeal.sig) → Buf (Elt Ideal) ℓ) (g : Dev Cert.FcumIdeal.nD → PrngReg), Pre_FcumIdeal m →
    θ_run (Cert.FcumIdeal.defs (F := Ideal)) (onTc (τ := Cert.FcumIdeal.τ) (Cert.FcumIdeal.main (F := Ideal))) ⟨m, fun _ => 0, g⟩ (fun r => (∀ c : Dev Cert.FcumIdeal.nD,
      r.2.mem ((c.tc : Thread Cert.FcumIdeal.nD Cert.FcumIdeal.τ).loc Cert.FcumIdeal.main_arg0) = m ((c.tc : Thread Cert.FcumIdeal.nD Cert.FcumIdeal.τ).loc Cert.FcumIdeal.main_arg0)
      ∧ r.2.mem ((c.tc : Thread Cert.FcumIdeal.nD Cert.FcumIdeal.τ).loc Cert.FcumIdeal.main_arg1) = m ((c.tc : Thread Cert.FcumIdeal.nD Cert.FcumIdeal.τ).loc Cert.FcumIdeal.main_arg1)
      ∧ r.2.mem ((c.tc : Thread Cert.FcumIdeal.nD Cert.FcumIdeal.τ).loc Cert.FcumIdeal.main_arg2) = m ((c.tc : Thread Cert.FcumIdeal.nD Cert.FcumIdeal.τ).loc Cert.FcumIdeal.main_arg2))
      ∧ r.2.sem = fun _ => 0)

def quiescent_Swa [hSwa : Cert.Swa.Facts] : Prop :=
  ∀ (m : (ℓ : Loc Cert.Swa.nD Cert.Swa.τ Cert.Swa.sig) → Buf (Elt Bits) ℓ) (g : Dev Cert.Swa.nD → PrngReg), Pre_Swa m →
    θ_run (Cert.Swa.defs (F := Bits)) (onTc (τ := Cert.Swa.τ) (Cert.Swa.main (F := Bits))) ⟨m, fun _ => 0, g⟩ (fun r => (∀ c : Dev Cert.Swa.nD,
      r.2.mem ((c.tc : Thread Cert.Swa.nD Cert.Swa.τ).loc Cert.Swa.main_arg0) = m ((c.tc : Thread Cert.Swa.nD Cert.Swa.τ).loc Cert.Swa.main_arg0)
      ∧ r.2.mem ((c.tc : Thread Cert.Swa.nD Cert.Swa.τ).loc Cert.Swa.main_arg1) = m ((c.tc : Thread Cert.Swa.nD Cert.Swa.τ).loc Cert.Swa.main_arg1))
      ∧ r.2.sem = fun _ => 0)

def quiescent_SwaIdeal [hSwaIdeal : Cert.SwaIdeal.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1))
      ∧ r.2.sem = fun _ => 0)

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)) →
    ∃ (v0 : (c : Dev Cert.MergeIdeal.nD) → Buf (Elt Ideal) ((c.tc : Thread Cert.MergeIdeal.nD Cert.MergeIdeal.τ).loc Cert.MergeIdeal.main_v3)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v3) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v33) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v66) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def preserves_FfnMid_FfnMidIdeal : Prop :=
  True

def algebraic_FfnMidIdeal_FfnMidRefIdeal [hFfnMidIdeal : Cert.FfnMidIdeal.Facts] [hFfnMidRefIdeal : Cert.FfnMidRefIdeal.Facts] : Prop :=
  ∀ (m : (ℓ : Loc Cert.FfnMidIdeal.nD Cert.FfnMidIdeal.τ Cert.FfnMidIdeal.sig) → Buf (Elt Ideal) ℓ) (g : Dev Cert.FfnMidIdeal.nD → PrngReg)
    (m' : (ℓ : Loc Cert.FfnMidRefIdeal.nD Cert.FfnMidRefIdeal.τ Cert.FfnMidRefIdeal.sig) → Buf (Elt Ideal) ℓ) (g' : Dev Cert.FfnMidRefIdeal.nD → PrngReg), Pre_FfnMidIdeal m →
    (∀ c : Dev Cert.FfnMidIdeal.nD,
      m' ((c.tc : Thread Cert.FfnMidRefIdeal.nD Cert.FfnMidRefIdeal.τ).loc Cert.FfnMidRefIdeal.main_arg0) = m ((c.tc : Thread Cert.FfnMidIdeal.nD Cert.FfnMidIdeal.τ).loc Cert.FfnMidIdeal.main_arg0)
      ∧ m' ((c.tc : Thread Cert.FfnMidRefIdeal.nD Cert.FfnMidRefIdeal.τ).loc Cert.FfnMidRefIdeal.main_arg1) = m ((c.tc : Thread Cert.FfnMidIdeal.nD Cert.FfnMidIdeal.τ).loc Cert.FfnMidIdeal.main_arg1)
      ∧ m' ((c.tc : Thread Cert.FfnMidRefIdeal.nD Cert.FfnMidRefIdeal.τ).loc Cert.FfnMidRefIdeal.main_arg2) = m ((c.tc : Thread Cert.FfnMidIdeal.nD Cert.FfnMidIdeal.τ).loc Cert.FfnMidIdeal.main_arg2)
      ∧ m' ((c.tc : Thread Cert.FfnMidRefIdeal.nD Cert.FfnMidRefIdeal.τ).loc Cert.FfnMidRefIdeal.main_arg3) = m ((c.tc : Thread Cert.FfnMidIdeal.nD Cert.FfnMidIdeal.τ).loc Cert.FfnMidIdeal.main_arg3)
      ∧ m' ((c.tc : Thread Cert.FfnMidRefIdeal.nD Cert.FfnMidRefIdeal.τ).loc Cert.FfnMidRefIdeal.main_arg4) = m ((c.tc : Thread Cert.FfnMidIdeal.nD Cert.FfnMidIdeal.τ).loc Cert.FfnMidIdeal.main_arg4)
      ∧ m' ((c.tc : Thread Cert.FfnMidRefIdeal.nD Cert.FfnMidRefIdeal.τ).loc Cert.FfnMidRefIdeal.main_arg5) = m ((c.tc : Thread Cert.FfnMidIdeal.nD Cert.FfnMidIdeal.τ).loc Cert.FfnMidIdeal.main_arg5)
      ∧ m' ((c.tc : Thread Cert.FfnMidRefIdeal.nD Cert.FfnMidRefIdeal.τ).loc Cert.FfnMidRefIdeal.main_arg6) = m ((c.tc : Thread Cert.FfnMidIdeal.nD Cert.FfnMidIdeal.τ).loc Cert.FfnMidIdeal.main_arg6)) →
    ∃ (v0 : (c : Dev Cert.FfnMidIdeal.nD) → Buf (Elt Ideal) ((c.tc : Thread Cert.FfnMidIdeal.nD Cert.FfnMidIdeal.τ).loc Cert.FfnMidIdeal.main_v5)),
      θ_run (Cert.FfnMidIdeal.defs (F := Ideal)) (onTc (τ := Cert.FfnMidIdeal.τ) (Cert.FfnMidIdeal.main (F := Ideal))) ⟨m, fun _ => 0, g⟩ (fun r => ∀ c : Dev Cert.FfnMidIdeal.nD,
          r.2.mem ((c.tc : Thread Cert.FfnMidIdeal.nD Cert.FfnMidIdeal.τ).loc Cert.FfnMidIdeal.main_v5) = v0 c
          ∧ r.2.mem ((c.tc : Thread Cert.FfnMidIdeal.nD Cert.FfnMidIdeal.τ).loc Cert.FfnMidIdeal.main_arg0) = m ((c.tc : Thread Cert.FfnMidIdeal.nD Cert.FfnMidIdeal.τ).loc Cert.FfnMidIdeal.main_arg0)
          ∧ r.2.mem ((c.tc : Thread Cert.FfnMidIdeal.nD Cert.FfnMidIdeal.τ).loc Cert.FfnMidIdeal.main_arg1) = m ((c.tc : Thread Cert.FfnMidIdeal.nD Cert.FfnMidIdeal.τ).loc Cert.FfnMidIdeal.main_arg1)
          ∧ r.2.mem ((c.tc : Thread Cert.FfnMidIdeal.nD Cert.FfnMidIdeal.τ).loc Cert.FfnMidIdeal.main_arg2) = m ((c.tc : Thread Cert.FfnMidIdeal.nD Cert.FfnMidIdeal.τ).loc Cert.FfnMidIdeal.main_arg2)
          ∧ r.2.mem ((c.tc : Thread Cert.FfnMidIdeal.nD Cert.FfnMidIdeal.τ).loc Cert.FfnMidIdeal.main_arg3) = m ((c.tc : Thread Cert.FfnMidIdeal.nD Cert.FfnMidIdeal.τ).loc Cert.FfnMidIdeal.main_arg3)
          ∧ r.2.mem ((c.tc : Thread Cert.FfnMidIdeal.nD Cert.FfnMidIdeal.τ).loc Cert.FfnMidIdeal.main_arg4) = m ((c.tc : Thread Cert.FfnMidIdeal.nD Cert.FfnMidIdeal.τ).loc Cert.FfnMidIdeal.main_arg4)
          ∧ r.2.mem ((c.tc : Thread Cert.FfnMidIdeal.nD Cert.FfnMidIdeal.τ).loc Cert.FfnMidIdeal.main_arg5) = m ((c.tc : Thread Cert.FfnMidIdeal.nD Cert.FfnMidIdeal.τ).loc Cert.FfnMidIdeal.main_arg5)
          ∧ r.2.mem ((c.tc : Thread Cert.FfnMidIdeal.nD Cert.FfnMidIdeal.τ).loc Cert.FfnMidIdeal.main_arg6) = m ((c.tc : Thread Cert.FfnMidIdeal.nD Cert.FfnMidIdeal.τ).loc Cert.FfnMidIdeal.main_arg6))
      ∧ θ_run (Cert.FfnMidRefIdeal.defs (F := Ideal)) (onTc (τ := Cert.FfnMidRefIdeal.τ) (Cert.FfnMidRefIdeal.main (F := Ideal))) ⟨m', fun _ => 0, g'⟩ (fun r => ∀ c : Dev Cert.FfnMidRefIdeal.nD,
          r.2.mem ((c.tc : Thread Cert.FfnMidRefIdeal.nD Cert.FfnMidRefIdeal.τ).loc Cert.FfnMidRefIdeal.main_v53) = v0 c
          ∧ r.2.mem ((c.tc : Thread Cert.FfnMidRefIdeal.nD Cert.FfnMidRefIdeal.τ).loc Cert.FfnMidRefIdeal.main_arg0) = m' ((c.tc : Thread Cert.FfnMidRefIdeal.nD Cert.FfnMidRefIdeal.τ).loc Cert.FfnMidRefIdeal.main_arg0)
          ∧ r.2.mem ((c.tc : Thread Cert.FfnMidRefIdeal.nD Cert.FfnMidRefIdeal.τ).loc Cert.FfnMidRefIdeal.main_arg1) = m' ((c.tc : Thread Cert.FfnMidRefIdeal.nD Cert.FfnMidRefIdeal.τ).loc Cert.FfnMidRefIdeal.main_arg1)
          ∧ r.2.mem ((c.tc : Thread Cert.FfnMidRefIdeal.nD Cert.FfnMidRefIdeal.τ).loc Cert.FfnMidRefIdeal.main_arg2) = m' ((c.tc : Thread Cert.FfnMidRefIdeal.nD Cert.FfnMidRefIdeal.τ).loc Cert.FfnMidRefIdeal.main_arg2)
          ∧ r.2.mem ((c.tc : Thread Cert.FfnMidRefIdeal.nD Cert.FfnMidRefIdeal.τ).loc Cert.FfnMidRefIdeal.main_arg3) = m' ((c.tc : Thread Cert.FfnMidRefIdeal.nD Cert.FfnMidRefIdeal.τ).loc Cert.FfnMidRefIdeal.main_arg3)
          ∧ r.2.mem ((c.tc : Thread Cert.FfnMidRefIdeal.nD Cert.FfnMidRefIdeal.τ).loc Cert.FfnMidRefIdeal.main_arg4) = m' ((c.tc : Thread Cert.FfnMidRefIdeal.nD Cert.FfnMidRefIdeal.τ).loc Cert.FfnMidRefIdeal.main_arg4)
          ∧ r.2.mem ((c.tc : Thread Cert.FfnMidRefIdeal.nD Cert.FfnMidRefIdeal.τ).loc Cert.FfnMidRefIdeal.main_arg5) = m' ((c.tc : Thread Cert.FfnMidRefIdeal.nD Cert.FfnMidRefIdeal.τ).loc Cert.FfnMidRefIdeal.main_arg5)
          ∧ r.2.mem ((c.tc : Thread Cert.FfnMidRefIdeal.nD Cert.FfnMidRefIdeal.τ).loc Cert.FfnMidRefIdeal.main_arg6) = m' ((c.tc : Thread Cert.FfnMidRefIdeal.nD Cert.FfnMidRefIdeal.τ).loc Cert.FfnMidRefIdeal.main_arg6))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)) →
    ∃ (v0 : (c : Dev Cert.InprojIdeal.nD) → Buf (Elt Ideal) ((c.tc : Thread Cert.InprojIdeal.nD Cert.InprojIdeal.τ).loc Cert.InprojIdeal.main_v26_0)) (v1 : (c : Dev Cert.InprojIdeal.nD) → Buf (Elt Ideal) ((c.tc : Thread Cert.InprojIdeal.nD Cert.InprojIdeal.τ).loc Cert.InprojIdeal.main_v26_1)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v26_0) = v0 c
          ∧ r.2.mem ((c.tc : Thread Cert.InprojIdeal.nD Cert.InprojIdeal.τ).loc Cert.InprojIdeal.main_v26_1) = v1 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v52) = v0 c
          ∧ r.2.mem ((c.tc : Thread Cert.InprojRefIdeal.nD Cert.InprojRefIdeal.τ).loc Cert.InprojRefIdeal.main_v54) = v1 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3))

def preserves_Repack_RepackIdeal : Prop :=
  True

def preserves_Fcum_FcumIdeal : Prop :=
  True

def preserves_Swa_SwaIdeal : Prop :=
  True

def Claim : Prop :=
  ∃ (hKernel : Cert.Kernel.Facts) (hMerge : Cert.Merge.Facts) (hMergeIdeal : Cert.MergeIdeal.Facts) (hMergeRefIdeal : Cert.MergeRefIdeal.Facts) (hFfn : Cert.Ffn.Facts) (hFfnIdeal : Cert.FfnIdeal.Facts) (hFfnRefIdeal : Cert.FfnRefIdeal.Facts) (hFfnMid : Cert.FfnMid.Facts) (hFfnMidIdeal : Cert.FfnMidIdeal.Facts) (hFfnMidRefIdeal : Cert.FfnMidRefIdeal.Facts) (hInproj : Cert.Inproj.Facts) (hInprojIdeal : Cert.InprojIdeal.Facts) (hInprojRefIdeal : Cert.InprojRefIdeal.Facts) (hRepack : Cert.Repack.Facts) (hRepackIdeal : Cert.RepackIdeal.Facts) (hFcum : Cert.Fcum.Facts) (hFcumIdeal : Cert.FcumIdeal.Facts) (hSwa : Cert.Swa.Facts) (hSwaIdeal : Cert.SwaIdeal.Facts),
    quiescent_Kernel (hKernel := hKernel)
    ∧ quiescent_Merge (hMerge := hMerge)
    ∧ quiescent_MergeIdeal (hMergeIdeal := hMergeIdeal)
    ∧ quiescent_MergeRefIdeal (hMergeRefIdeal := hMergeRefIdeal)
    ∧ quiescent_Ffn (hFfn := hFfn)
    ∧ quiescent_FfnIdeal (hFfnIdeal := hFfnIdeal)
    ∧ quiescent_FfnRefIdeal (hFfnRefIdeal := hFfnRefIdeal)
    ∧ quiescent_FfnMid (hFfnMid := hFfnMid)
    ∧ quiescent_FfnMidIdeal (hFfnMidIdeal := hFfnMidIdeal)
    ∧ quiescent_FfnMidRefIdeal (hFfnMidRefIdeal := hFfnMidRefIdeal)
    ∧ quiescent_Inproj (hInproj := hInproj)
    ∧ quiescent_InprojIdeal (hInprojIdeal := hInprojIdeal)
    ∧ quiescent_InprojRefIdeal (hInprojRefIdeal := hInprojRefIdeal)
    ∧ quiescent_Repack (hRepack := hRepack)
    ∧ quiescent_RepackIdeal (hRepackIdeal := hRepackIdeal)
    ∧ quiescent_Fcum (hFcum := hFcum)
    ∧ quiescent_FcumIdeal (hFcumIdeal := hFcumIdeal)
    ∧ quiescent_Swa (hSwa := hSwa)
    ∧ quiescent_SwaIdeal (hSwaIdeal := hSwaIdeal)
    ∧ preserves_Merge_MergeIdeal
    ∧ algebraic_MergeIdeal_MergeRefIdeal (hMergeIdeal := hMergeIdeal) (hMergeRefIdeal := hMergeRefIdeal)
    ∧ preserves_Ffn_FfnIdeal
    ∧ algebraic_FfnIdeal_FfnRefIdeal (hFfnIdeal := hFfnIdeal) (hFfnRefIdeal := hFfnRefIdeal)
    ∧ preserves_FfnMid_FfnMidIdeal
    ∧ algebraic_FfnMidIdeal_FfnMidRefIdeal (hFfnMidIdeal := hFfnMidIdeal) (hFfnMidRefIdeal := hFfnMidRefIdeal)
    ∧ preserves_Inproj_InprojIdeal
    ∧ algebraic_InprojIdeal_InprojRefIdeal (hInprojIdeal := hInprojIdeal) (hInprojRefIdeal := hInprojRefIdeal)
    ∧ preserves_Repack_RepackIdeal
    ∧ preserves_Fcum_FcumIdeal
    ∧ preserves_Swa_SwaIdeal
-- ==== Kernel.lean ====
abbrev S16384x5888 : Shape := ⟨2, ![16384, 5888]⟩
abbrev S16384x128 : Shape := ⟨2, ![16384, 128]⟩
abbrev S256x256 : Shape := ⟨2, ![256, 256]⟩
abbrev S16384x512 : Shape := ⟨2, ![16384, 512]⟩
abbrev S2048x256 : Shape := ⟨2, ![2048, 256]⟩
abbrev S2048x128 : Shape := ⟨2, ![2048, 128]⟩
abbrev S256x512 : Shape := ⟨2, ![256, 512]⟩
abbrev S256x128 : Shape := ⟨2, ![256, 128]⟩
abbrev S8x256x256 : Shape := ⟨3, ![8, 256, 256]⟩
abbrev S8x32x8x256 : Shape := ⟨4, ![8, 32, 8, 256]⟩
abbrev S8x80x256 : Shape := ⟨3, ![8, 80, 256]⟩
abbrev S4x128x256 : Shape := ⟨3, ![4, 128, 256]⟩
abbrev S8x128x256 : Shape := ⟨3, ![8, 128, 256]⟩
abbrev S8x1x256 : Shape := ⟨3, ![8, 1, 256]⟩
abbrev S16x256 : Shape := ⟨2, ![16, 256]⟩
abbrev S128x256 : Shape := ⟨2, ![128, 256]⟩
abbrev S64x256 : Shape := ⟨2, ![64, 256]⟩
abbrev S1x64x256 : Shape := ⟨3, ![1, 64, 256]⟩
abbrev S1x16x256 : Shape := ⟨3, ![1, 16, 256]⟩
abbrev S1x128x256 : Shape := ⟨3, ![1, 128, 256]⟩
abbrev S4x256 : Shape := ⟨2, ![4, 256]⟩
abbrev S256x1 : Shape := ⟨2, ![256, 1]⟩
abbrev S1x256 : Shape := ⟨2, ![1, 256]⟩
abbrev S1x256x256 : Shape := ⟨3, ![1, 256, 256]⟩
abbrev S8x256 : Shape := ⟨2, ![8, 256]⟩
abbrev S1x1x8x256 : Shape := ⟨4, ![1, 1, 8, 256]⟩
abbrev S256 : Shape := ⟨1, ![256]⟩
abbrev S1x1x256 : Shape := ⟨3, ![1, 1, 256]⟩
abbrev S1x80x256 : Shape := ⟨3, ![1, 80, 256]⟩
abbrev S80x256 : Shape := ⟨2, ![80, 256]⟩

abbrev nBuf : Space → Nat
  | .hbm => 4
  | .vmem => 23
  | .smem => 0
  | _ => 0

abbrev bufTy : (tb : Table) → Fin (tcTables nBuf tb) → BufTy
  | .hbm, ⟨0, _⟩ => ⟨S16384x5888, .bf16⟩
  | .hbm, ⟨1, _⟩ => ⟨S16384x128, .f32⟩
  | .hbm, ⟨2, _⟩ => ⟨S256x256, .bf16⟩
  | .hbm, ⟨3, _⟩ => ⟨S16384x512, .bf16⟩
  | .local _ .vmem, ⟨0, _⟩ => ⟨S256x256, .bf16⟩
  | .local _ .vmem, ⟨1, _⟩ => ⟨S256x256, .bf16⟩
  | .local _ .vmem, ⟨2, _⟩ => ⟨S2048x256, .bf16⟩
  | .local _ .vmem, ⟨3, _⟩ => ⟨S2048x256, .bf16⟩
  | .local _ .vmem, ⟨4, _⟩ => ⟨S2048x128, .bf16⟩
  | .local _ .vmem, ⟨5, _⟩ => ⟨S2048x128, .bf16⟩
  | .local _ .vmem, ⟨6, _⟩ => ⟨S256x512, .bf16⟩
  | .local _ .vmem, ⟨7, _⟩ => ⟨S256x512, .bf16⟩
  | .local _ .vmem, ⟨8, _⟩ => ⟨S256x128, .f32⟩
  | .local _ .vmem, ⟨9, _⟩ => ⟨S256x128, .f32⟩
  | .local _ .vmem, ⟨10, _⟩ => ⟨S256x256, .bf16⟩
  | .local _ .vmem, ⟨11, _⟩ => ⟨S256x512, .bf16⟩
  | .local _ .vmem, ⟨12, _⟩ => ⟨S256x512, .bf16⟩
  | .local _ .vmem, ⟨13, _⟩ => ⟨S8x256x256, .i32⟩
  | .local _ .vmem, ⟨14, _⟩ => ⟨S8x32x8x256, .i32⟩
  | .local _ .vmem, ⟨15, _⟩ => ⟨S8x256x256, .f32⟩
  | .local _ .vmem, ⟨16, _⟩ => ⟨S8x80x256, .bf16⟩
  | .local _ .vmem, ⟨17, _⟩ => ⟨S4x128x256, .bf16⟩
  | .local _ .vmem, ⟨18, _⟩ => ⟨S8x128x256, .bf16⟩
  | .local _ .vmem, ⟨19, _⟩ => ⟨S8x256x256, .f32⟩
  | .local _ .vmem, ⟨20, _⟩ => ⟨S8x256x256, .f32⟩
  | .local _ .vmem, ⟨21, _⟩ => ⟨S8x1x256, .f32⟩
  | .local _ .vmem, ⟨22, _⟩ => ⟨S8x80x256, .f32⟩
  | _, _ => ⟨S16384x5888, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_scratch5 : Ref sig .tc := ⟨.vmem, 18, rfl⟩
abbrev cc0_scratch6 : Ref sig .tc := ⟨.vmem, 19, rfl⟩
abbrev cc0_scratch7 : Ref sig .tc := ⟨.vmem, 20, rfl⟩
abbrev cc0_scratch8 : Ref sig .tc := ⟨.vmem, 21, rfl⟩
abbrev cc0_scratch9 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [BitOps F]

abbrev grid0 : Pipeline.Grid := ⟨2, ![8, 8], ![false, false]⟩

@[reducible] def k0_t1_loop (i : grid0.Coords) : Scf.Loop 32 :=
  let c0_i32_65 : BitVec 32 := 0#32
  let arg1 : BitVec 32 := BitVec.ofNat 32 (i 1).val
  let v146 : BitVec 32 := Scalar.subi arg1 c0_i32_65
  let c1_i32_66 : BitVec 32 := 1#32
  let v148 : BitVec 32 := Scalar.divsi v146 c1_i32_66
  let v149 : BitVec 32 := Scalar.muli v148 c1_i32_66
  let v150 : BitVec 32 := Scalar.addi c0_i32_65 v149
  let c1_i32_67 : BitVec 32 := 1#32
  ⟨c0_i32_65, v150, c1_i32_67⟩
def k0_mult1 (i : grid0.Coords) (k0_t1 : Fin (k0_t1_loop i).trips) : BitVec 32 :=
  let c0_i32_65 : BitVec 32 := 0#32
  let c1_i32_67 : BitVec 32 := 1#32
  let arg19 : BitVec 32 := Scf.iv c0_i32_65 c1_i32_67 k0_t1
  let c256_i32_659 : BitVec 32 := 256#32
  let v1546 : BitVec 32 := Scalar.muli arg19 c256_i32_659
  v1546
def k0_off1 (i : grid0.Coords) (k0_t1 : Fin (k0_t1_loop i).trips) : Fin 2 → Nat :=
  let c0_i32_65 : BitVec 32 := 0#32
  let c1_i32_67 : BitVec 32 := 1#32
  let arg19 : BitVec 32 := Scf.iv c0_i32_65 c1_i32_67 k0_t1
  let c256_i32_659 : BitVec 32 := 256#32
  let v1546 : BitVec 32 := Scalar.muli arg19 c256_i32_659
  let v1547 : BitVec 32 := v1546
  let v1548 : Index := Scalar.indexCast v1547
  let c128_660 : Index := 128#32
  ![v1548.toNat, 128]
def k0_off2 (i : grid0.Coords) (k0_t1 : Fin (k0_t1_loop i).trips) : Fin 3 → Nat :=
  let c0_i32_65 : BitVec 32 := 0#32
  let c1_i32_67 : BitVec 32 := 1#32
  let arg19 : BitVec 32 := Scf.iv c0_i32_65 c1_i32_67 k0_t1
  let v1597 : Index := Scalar.indexCast arg19
  let c0_686 : Index := 0#32
  let c0_687 : Index := 0#32
  ![v1597.toNat, 0, 0]
def k0_off3 (i : grid0.Coords) (k0_t1 : Fin (k0_t1_loop i).trips) : Fin 4 → Nat :=
  let c0_i32_65 : BitVec 32 := 0#32
  let c1_i32_67 : BitVec 32 := 1#32
  let arg19 : BitVec 32 := Scf.iv c0_i32_65 c1_i32_67 k0_t1
  let v2355 : Index := Scalar.indexCast arg19
  let c0_929 : Index := 0#32
  let c0_930 : Index := 0#32
  let c0_931 : Index := 0#32
  ![v2355.toNat, 0, 0, 0]
def k0_off4 (i : grid0.Coords) (k0_t1 : Fin (k0_t1_loop i).trips) : Fin 4 → Nat :=
  let c0_i32_65 : BitVec 32 := 0#32
  let c1_i32_67 : BitVec 32 := 1#32
  let arg19 : BitVec 32 := Scf.iv c0_i32_65 c1_i32_67 k0_t1
  let v2359 : Index := Scalar.indexCast arg19
  let c1_932 : Index := 1#32
  let c0_933 : Index := 0#32
  let c0_934 : Index := 0#32
  ![v2359.toNat, 1, 0, 0]
def k0_off5 (i : grid0.Coords) (k0_t1 : Fin (k0_t1_loop i).trips) : Fin 4 → Nat :=
  let c0_i32_65 : BitVec 32 := 0#32
  let c1_i32_67 : BitVec 32 := 1#32
  let arg19 : BitVec 32 := Scf.iv c0_i32_65 c1_i32_67 k0_t1
  let v2363 : Index := Scalar.indexCast arg19
  let c2_935 : Index := 2#32
  let c0_936 : Index := 0#32
  let c0_937 : Index := 0#32
  ![v2363.toNat, 2, 0, 0]
def k0_off6 (i : grid0.Coords) (k0_t1 : Fin (k0_t1_loop i).trips) : Fin 4 → Nat :=
  let c0_i32_65 : BitVec 32 := 0#32
  let c1_i32_67 : BitVec 32 := 1#32
  let arg19 : BitVec 32 := Scf.iv c0_i32_65 c1_i32_67 k0_t1
  let v2367 : Index := Scalar.indexCast arg19
  let c3_938 : Index := 3#32
  let c0_939 : Index := 0#32
  let c0_940 : Index := 0#32
  ![v2367.toNat, 3, 0, 0]
def k0_off7 (i : grid0.Coords) (k0_t1 : Fin (k0_t1_loop i).trips) : Fin 4 → Nat :=
  let c0_i32_65 : BitVec 32 := 0#32
  let c1_i32_67 : BitVec 32 := 1#32
  let arg19 : BitVec 32 := Scf.iv c0_i32_65 c1_i32_67 k0_t1
  let v2371 : Index := Scalar.indexCast arg19
  let c4_941 : Index := 4#32
  let c0_942 : Index := 0#32
  let c0_943 : Index := 0#32
  ![v2371.toNat, 4, 0, 0]
def k0_off8 (i : grid0.Coords) (k0_t1 : Fin (k0_t1_loop i).trips) : Fin 4 → Nat :=
  let c0_i32_65 : BitVec 32 := 0#32
  let c1_i32_67 : BitVec 32 := 1#32
  let arg19 : BitVec 32 := Scf.iv c0_i32_65 c1_i32_67 k0_t1
  let v2375 : Index := Scalar.indexCast arg19
  let c5_944 : Index := 5#32
  let c0_945 : Index := 0#32
  let c0_946 : Index := 0#32
  ![v2375.toNat, 5, 0, 0]
def k0_off9 (i : grid0.Coords) (k0_t1 : Fin (k0_t1_loop i).trips) : Fin 4 → Nat :=
  let c0_i32_65 : BitVec 32 := 0#32
  let c1_i32_67 : BitVec 32 := 1#32
  let arg19 : BitVec 32 := Scf.iv c0_i32_65 c1_i32_67 k0_t1
  let v2379 : Index := Scalar.indexCast arg19
  let c6_947 : Index := 6#32
  let c0_948 : Index := 0#32
  let c0_949 : Index := 0#32
  ![v2379.toNat, 6, 0, 0]
def k0_off10 (i : grid0.Coords) (k0_t1 : Fin (k0_t1_loop i).trips) : Fin 4 → Nat :=
  let c0_i32_65 : BitVec 32 := 0#32
  let c1_i32_67 : BitVec 32 := 1#32
  let arg19 : BitVec 32 := Scf.iv c0_i32_65 c1_i32_67 k0_t1
  let v2383 : Index := Scalar.indexCast arg19
  let c7_950 : Index := 7#32
  let c0_951 : Index := 0#32
  let c0_952 : Index := 0#32
  ![v2383.toNat, 7, 0, 0]
def k0_off11 (i : grid0.Coords) (k0_t1 : Fin (k0_t1_loop i).trips) : Fin 4 → Nat :=
  let c0_i32_65 : BitVec 32 := 0#32
  let c1_i32_67 : BitVec 32 := 1#32
  let arg19 : BitVec 32 := Scf.iv c0_i32_65 c1_i32_67 k0_t1
  let v2387 : Index := Scalar.indexCast arg19
  let c8_953 : Index := 8#32
  let c0_954 : Index := 0#32
  let c0_955 : Index := 0#32
  ![v2387.toNat, 8, 0, 0]
def k0_off12 (i : grid0.Coords) (k0_t1 : Fin (k0_t1_loop i).trips) : Fin 4 → Nat :=
  let c0_i32_65 : BitVec 32 := 0#32
  let c1_i32_67 : BitVec 32 := 1#32
  let arg19 : BitVec 32 := Scf.iv c0_i32_65 c1_i32_67 k0_t1
  let v2391 : Index := Scalar.indexCast arg19
  let c9_956 : Index := 9#32
  let c0_957 : Index := 0#32
  let c0_958 : Index := 0#32
  ![v2391.toNat, 9, 0, 0]
def k0_off13 (i : grid0.Coords) (k0_t1 : Fin (k0_t1_loop i).trips) : Fin 4 → Nat :=
  let c0_i32_65 : BitVec 32 := 0#32
  let c1_i32_67 : BitVec 32 := 1#32
  let arg19 : BitVec 32 := Scf.iv c0_i32_65 c1_i32_67 k0_t1
  let v2395 : Index := Scalar.indexCast arg19
  let c10_959 : Index := 10#32
  let c0_960 : Index := 0#32
  let c0_961 : Index := 0#32
  ![v2395.toNat, 10, 0, 0]
def k0_off14 (i : grid0.Coords) (k0_t1 : Fin (k0_t1_loop i).trips) : Fin 4 → Nat :=
  let c0_i32_65 : BitVec 32 := 0#32
  let c1_i32_67 : BitVec 32 := 1#32
  let arg19 : BitVec 32 := Scf.iv c0_i32_65 c1_i32_67 k0_t1
  let v2399 : Index := Scalar.indexCast arg19
  let c11_962 : Index := 11#32
  let c0_963 : Index := 0#32
  let c0_964 : Index := 0#32
  ![v2399.toNat, 11, 0, 0]
def k0_off15 (i : grid0.Coords) (k0_t1 : Fin (k0_t1_loop i).trips) : Fin 4 → Nat :=
  let c0_i32_65 : BitVec 32 := 0#32
  let c1_i32_67 : BitVec 32 := 1#32
  let arg19 : BitVec 32 := Scf.iv c0_i32_65 c1_i32_67 k0_t1
  let v2403 : Index := Scalar.indexCast arg19
  let c12_965 : Index := 12#32
  let c0_966 : Index := 0#32
  let c0_967 : Index := 0#32
  ![v2403.toNat, 12, 0, 0]
def k0_off16 (i : grid0.Coords) (k0_t1 : Fin (k0_t1_loop i).trips) : Fin 4 → Nat :=
  let c0_i32_65 : BitVec 32 := 0#32
  let c1_i32_67 : BitVec 32 := 1#32
  let arg19 : BitVec 32 := Scf.iv c0_i32_65 c1_i32_67 k0_t1
  let v2407 : Index := Scalar.indexCast arg19
  let c13_968 : Index := 13#32
  let c0_969 : Index := 0#32
  let c0_970 : Index := 0#32
  ![v2407.toNat, 13, 0, 0]
def k0_off17 (i : grid0.Coords) (k0_t1 : Fin (k0_t1_loop i).trips) : Fin 4 → Nat :=
  let c0_i32_65 : BitVec 32 := 0#32
  let c1_i32_67 : BitVec 32 := 1#32
  let arg19 : BitVec 32 := Scf.iv c0_i32_65 c1_i32_67 k0_t1
  let v2411 : Index := Scalar.indexCast arg19
  let c14_971 : Index := 14#32
  let c0_972 : Index := 0#32
  let c0_973 : Index := 0#32
  ![v2411.toNat, 14, 0, 0]
def k0_off18 (i : grid0.Coords) (k0_t1 : Fin (k0_t1_loop i).trips) : Fin 4 → Nat :=
  let c0_i32_65 : BitVec 32 := 0#32
  let c1_i32_67 : BitVec 32 := 1#32
  let arg19 : BitVec 32 := Scf.iv c0_i32_65 c1_i32_67 k0_t1
  let v2415 : Index := Scalar.indexCast arg19
  let c15_974 : Index := 15#32
  let c0_975 : Index := 0#32
  let c0_976 : Index := 0#32
  ![v2415.toNat, 15, 0, 0]
def k0_off19 (i : grid0.Coords) (k0_t1 : Fin (k0_t1_loop i).trips) : Fin 4 → Nat :=
  let c0_i32_65 : BitVec 32 := 0#32
  let c1_i32_67 : BitVec 32 := 1#32
  let arg19 : BitVec 32 := Scf.iv c0_i32_65 c1_i32_67 k0_t1
  let v2419 : Index := Scalar.indexCast arg19
  let c16_977 : Index := 16#32
  let c0_978 : Index := 0#32
  let c0_979 : Index := 0#32
  ![v2419.toNat, 16, 0, 0]
def k0_off20 (i : grid0.Coords) (k0_t1 : Fin (k0_t1_loop i).trips) : Fin 4 → Nat :=
  let c0_i32_65 : BitVec 32 := 0#32
  let c1_i32_67 : BitVec 32 := 1#32
  let arg19 : BitVec 32 := Scf.iv c0_i32_65 c1_i32_67 k0_t1
  let v2423 : Index := Scalar.indexCast arg19
  let c17_980 : Index := 17#32
  let c0_981 : Index := 0#32
  let c0_982 : Index := 0#32
  ![v2423.toNat, 17, 0, 0]
def k0_off21 (i : grid0.Coords) (k0_t1 : Fin (k0_t1_loop i).trips) : Fin 4 → Nat :=
  let c0_i32_65 : BitVec 32 := 0#32
  let c1_i32_67 : BitVec 32 := 1#32
  let arg19 : BitVec 32 := Scf.iv c0_i32_65 c1_i32_67 k0_t1
  let v2427 : Index := Scalar.indexCast arg19
  let c18_983 : Index := 18#32
  let c0_984 : Index := 0#32
  let c0_985 : Index := 0#32
  ![v2427.toNat, 18, 0, 0]
def k0_off22 (i : grid0.Coords) (k0_t1 : Fin (k0_t1_loop i).trips) : Fin 4 → Nat :=
  let c0_i32_65 : BitVec 32 := 0#32
  let c1_i32_67 : BitVec 32 := 1#32
  let arg19 : BitVec 32 := Scf.iv c0_i32_65 c1_i32_67 k0_t1
  let v2431 : Index := Scalar.indexCast arg19
  let c19_986 : Index := 19#32
  let c0_987 : Index := 0#32
  let c0_988 : Index := 0#32
  ![v2431.toNat, 19, 0, 0]
def k0_off23 (i : grid0.Coords) (k0_t1 : Fin (k0_t1_loop i).trips) : Fin 4 → Nat :=
  let c0_i32_65 : BitVec 32 := 0#32
  let c1_i32_67 : BitVec 32 := 1#32
  let arg19 : BitVec 32 := Scf.iv c0_i32_65 c1_i32_67 k0_t1
  let v2435 : Index := Scalar.indexCast arg19
  let c20_989 : Index := 20#32
  let c0_990 : Index := 0#32
  let c0_991 : Index := 0#32
  ![v2435.toNat, 20, 0, 0]
def k0_off24 (i : grid0.Coords) (k0_t1 : Fin (k0_t1_loop i).trips) : Fin 4 → Nat :=
  let c0_i32_65 : BitVec 32 := 0#32
  let c1_i32_67 : BitVec 32 := 1#32
  let arg19 : BitVec 32 := Scf.iv c0_i32_65 c1_i32_67 k0_t1
  let v2439 : Index := Scalar.indexCast arg19
  let c21_992 : Index := 21#32
  let c0_993 : Index := 0#32
  let c0_994 : Index := 0#32
  ![v2439.toNat, 21, 0, 0]
def k0_off25 (i : grid0.Coords) (k0_t1 : Fin (k0_t1_loop i).trips) : Fin 4 → Nat :=
  let c0_i32_65 : BitVec 32 := 0#32
  let c1_i32_67 : BitVec 32 := 1#32
  let arg19 : BitVec 32 := Scf.iv c0_i32_65 c1_i32_67 k0_t1
  let v2443 : Index := Scalar.indexCast arg19
  let c22_995 : Index := 22#32
  let c0_996 : Index := 0#32
  let c0_997 : Index := 0#32
  ![v2443.toNat, 22, 0, 0]
def k0_off26 (i : grid0.Coords) (k0_t1 : Fin (k0_t1_loop i).trips) : Fin 4 → Nat :=
  let c0_i32_65 : BitVec 32 := 0#32
  let c1_i32_67 : BitVec 32 := 1#32
  let arg19 : BitVec 32 := Scf.iv c0_i32_65 c1_i32_67 k0_t1
  let v2447 : Index := Scalar.indexCast arg19
  let c23_998 : Index := 23#32
  let c0_999 : Index := 0#32
  let c0_1000 : Index := 0#32
  ![v2447.toNat, 23, 0, 0]
def k0_off27 (i : grid0.Coords) (k0_t1 : Fin (k0_t1_loop i).trips) : Fin 4 → Nat :=
  let c0_i32_65 : BitVec 32 := 0#32
  let c1_i32_67 : BitVec 32 := 1#32
  let arg19 : BitVec 32 := Scf.iv c0_i32_65 c1_i32_67 k0_t1
  let v2451 : Index := Scalar.indexCast arg19
  let c24_1001 : Index := 24#32
  let c0_1002 : Index := 0#32
  let c0_1003 : Index := 0#32
  ![v2451.toNat, 24, 0, 0]
def k0_off28 (i : grid0.Coords) (k0_t1 : Fin (k0_t1_loop i).trips) : Fin 4 → Nat :=
  let c0_i32_65 : BitVec 32 := 0#32
  let c1_i32_67 : BitVec 32 := 1#32
  let arg19 : BitVec 32 := Scf.iv c0_i32_65 c1_i32_67 k0_t1
  let v2455 : Index := Scalar.indexCast arg19
  let c25_1004 : Index := 25#32
  let c0_1005 : Index := 0#32
  let c0_1006 : Index := 0#32
  ![v2455.toNat, 25, 0, 0]
def k0_off29 (i : grid0.Coords) (k0_t1 : Fin (k0_t1_loop i).trips) : Fin 4 → Nat :=
  let c0_i32_65 : BitVec 32 := 0#32
  let c1_i32_67 : BitVec 32 := 1#32
  let arg19 : BitVec 32 := Scf.iv c0_i32_65 c1_i32_67 k0_t1
  let v2459 : Index := Scalar.indexCast arg19
  let c26_1007 : Index := 26#32
  let c0_1008 : Index := 0#32
  let c0_1009 : Index := 0#32
  ![v2459.toNat, 26, 0, 0]
def k0_off30 (i : grid0.Coords) (k0_t1 : Fin (k0_t1_loop i).trips) : Fin 4 → Nat :=
  let c0_i32_65 : BitVec 32 := 0#32
  let c1_i32_67 : BitVec 32 := 1#32
  let arg19 : BitVec 32 := Scf.iv c0_i32_65 c1_i32_67 k0_t1
  let v2463 : Index := Scalar.indexCast arg19
  let c27_1010 : Index := 27#32
  let c0_1011 : Index := 0#32
  let c0_1012 : Index := 0#32
  ![v2463.toNat, 27, 0, 0]
def k0_off31 (i : grid0.Coords) (k0_t1 : Fin (k0_t1_loop i).trips) : Fin 4 → Nat :=
  let c0_i32_65 : BitVec 32 := 0#32
  let c1_i32_67 : BitVec 32 := 1#32
  let arg19 : BitVec 32 := Scf.iv c0_i32_65 c1_i32_67 k0_t1
  let v2467 : Index := Scalar.indexCast arg19
  let c28_1013 : Index := 28#32
  let c0_1014 : Index := 0#32
  let c0_1015 : Index := 0#32
  ![v2467.toNat, 28, 0, 0]
def k0_off32 (i : grid0.Coords) (k0_t1 : Fin (k0_t1_loop i).trips) : Fin 4 → Nat :=
  let c0_i32_65 : BitVec 32 := 0#32
  let c1_i32_67 : BitVec 32 := 1#32
  let arg19 : BitVec 32 := Scf.iv c0_i32_65 c1_i32_67 k0_t1
  let v2471 : Index := Scalar.indexCast arg19
  let c29_1016 : Index := 29#32
  let c0_1017 : Index := 0#32
  let c0_1018 : Index := 0#32
  ![v2471.toNat, 29, 0, 0]
def k0_off33 (i : grid0.Coords) (k0_t1 : Fin (k0_t1_loop i).trips) : Fin 4 → Nat :=
  let c0_i32_65 : BitVec 32 := 0#32
  let c1_i32_67 : BitVec 32 := 1#32
  let arg19 : BitVec 32 := Scf.iv c0_i32_65 c1_i32_67 k0_t1
  let v2475 : Index := Scalar.indexCast arg19
  let c30_1019 : Index := 30#32
  let c0_1020 : Index := 0#32
  let c0_1021 : Index := 0#32
  ![v2475.toNat, 30, 0, 0]
def k0_off34 (i : grid0.Coords) (k0_t1 : Fin (k0_t1_loop i).trips) : Fin 4 → Nat :=
  let c0_i32_65 : BitVec 32 := 0#32
  let c1_i32_67 : BitVec 32 := 1#32
  let arg19 : BitVec 32 := Scf.iv c0_i32_65 c1_i32_67 k0_t1
  let v2479 : Index := Scalar.indexCast arg19
  let c31_1022 : Index := 31#32
  let c0_1023 : Index := 0#32
  let c0_1024 : Index := 0#32
  ![v2479.toNat, 31, 0, 0]
@[reducible] def k0_t2_loop (i : grid0.Coords) : Scf.Loop 32 :=
  let c0_i32_65 : BitVec 32 := 0#32
  let arg1 : BitVec 32 := BitVec.ofNat 32 (i 1).val
  let v146 : BitVec 32 := Scalar.subi arg1 c0_i32_65
  let c1_i32_66 : BitVec 32 := 1#32
  let v148 : BitVec 32 := Scalar.divsi v146 c1_i32_66
  let v149 : BitVec 32 := Scalar.muli v148 c1_i32_66
  let v150 : BitVec 32 := Scalar.addi c0_i32_65 v149
  let v147 : BitVec 32 := Scalar.addi c0_i32_65 v146
  let c1_i32_68 : BitVec 32 := 1#32
  ⟨v150, v147, c1_i32_68⟩
def k0_mult2 (i : grid0.Coords) (k0_t2 : Fin (k0_t2_loop i).trips) : BitVec 32 :=
  let c0_i32_65 : BitVec 32 := 0#32
  let arg1 : BitVec 32 := BitVec.ofNat 32 (i 1).val
  let v146 : BitVec 32 := Scalar.subi arg1 c0_i32_65
  let c1_i32_66 : BitVec 32 := 1#32
  let v148 : BitVec 32 := Scalar.divsi v146 c1_i32_66
  let v149 : BitVec 32 := Scalar.muli v148 c1_i32_66
  let v150 : BitVec 32 := Scalar.addi c0_i32_65 v149
  let c1_i32_68 : BitVec 32 := 1#32
  let arg19 : BitVec 32 := Scf.iv v150 c1_i32_68 k0_t2
  let c256_i32_659 : BitVec 32 := 256#32
  let v1546 : BitVec 32 := Scalar.muli arg19 c256_i32_659
  v1546
def k0_off35 (i : grid0.Coords) (k0_t2 : Fin (k0_t2_loop i).trips) : Fin 2 → Nat :=
  let c0_i32_65 : BitVec 32 := 0#32
  let arg1 : BitVec 32 := BitVec.ofNat 32 (i 1).val
  let v146 : BitVec 32 := Scalar.subi arg1 c0_i32_65
  let c1_i32_66 : BitVec 32 := 1#32
  let v148 : BitVec 32 := Scalar.divsi v146 c1_i32_66
  let v149 : BitVec 32 := Scalar.muli v148 c1_i32_66
  let v150 : BitVec 32 := Scalar.addi c0_i32_65 v149
  let c1_i32_68 : BitVec 32 := 1#32
  let arg19 : BitVec 32 := Scf.iv v150 c1_i32_68 k0_t2
  let c256_i32_659 : BitVec 32 := 256#32
  let v1546 : BitVec 32 := Scalar.muli arg19 c256_i32_659
  let v1547 : BitVec 32 := v1546
  let v1548 : Index := Scalar.indexCast v1547
  let c128_660 : Index := 128#32
  ![v1548.toNat, 128]
def k0_off36 (i : grid0.Coords) (k0_t2 : Fin (k0_t2_loop i).trips) : Fin 3 → Nat :=
  let c0_i32_65 : BitVec 32 := 0#32
  let arg1 : BitVec 32 := BitVec.ofNat 32 (i 1).val
  let v146 : BitVec 32 := Scalar.subi arg1 c0_i32_65
  let c1_i32_66 : BitVec 32 := 1#32
  let v148 : BitVec 32 := Scalar.divsi v146 c1_i32_66
  let v149 : BitVec 32 := Scalar.muli v148 c1_i32_66
  let v150 : BitVec 32 := Scalar.addi c0_i32_65 v149
  let c1_i32_68 : BitVec 32 := 1#32
  let arg19 : BitVec 32 := Scf.iv v150 c1_i32_68 k0_t2
  let v1597 : Index := Scalar.indexCast arg19
  let c0_686 : Index := 0#32
  let c0_687 : Index := 0#32
  ![v1597.toNat, 0, 0]
def k0_off37 (i : grid0.Coords) (k0_t2 : Fin (k0_t2_loop i).trips) : Fin 4 → Nat :=
  let c0_i32_65 : BitVec 32 := 0#32
  let arg1 : BitVec 32 := BitVec.ofNat 32 (i 1).val
  let v146 : BitVec 32 := Scalar.subi arg1 c0_i32_65
  let c1_i32_66 : BitVec 32 := 1#32
  let v148 : BitVec 32 := Scalar.divsi v146 c1_i32_66
  let v149 : BitVec 32 := Scalar.muli v148 c1_i32_66
  let v150 : BitVec 32 := Scalar.addi c0_i32_65 v149
  let c1_i32_68 : BitVec 32 := 1#32
  let arg19 : BitVec 32 := Scf.iv v150 c1_i32_68 k0_t2
  let v2355 : Index := Scalar.indexCast arg19
  let c0_929 : Index := 0#32
  let c0_930 : Index := 0#32
  let c0_931 : Index := 0#32
  ![v2355.toNat, 0, 0, 0]
def k0_off38 (i : grid0.Coords) (k0_t2 : Fin (k0_t2_loop i).trips) : Fin 4 → Nat :=
  let c0_i32_65 : BitVec 32 := 0#32
  let arg1 : BitVec 32 := BitVec.ofNat 32 (i 1).val
  let v146 : BitVec 32 := Scalar.subi arg1 c0_i32_65
  let c1_i32_66 : BitVec 32 := 1#32
  let v148 : BitVec 32 := Scalar.divsi v146 c1_i32_66
  let v149 : BitVec 32 := Scalar.muli v148 c1_i32_66
  let v150 : BitVec 32 := Scalar.addi c0_i32_65 v149
  let c1_i32_68 : BitVec 32 := 1#32
  let arg19 : BitVec 32 := Scf.iv v150 c1_i32_68 k0_t2
  let v2359 : Index := Scalar.indexCast arg19
  let c1_932 : Index := 1#32
  let c0_933 : Index := 0#32
  let c0_934 : Index := 0#32
  ![v2359.toNat, 1, 0, 0]
def k0_off39 (i : grid0.Coords) (k0_t2 : Fin (k0_t2_loop i).trips) : Fin 4 → Nat :=
  let c0_i32_65 : BitVec 32 := 0#32
  let arg1 : BitVec 32 := BitVec.ofNat 32 (i 1).val
  let v146 : BitVec 32 := Scalar.subi arg1 c0_i32_65
  let c1_i32_66 : BitVec 32 := 1#32
  let v148 : BitVec 32 := Scalar.divsi v146 c1_i32_66
  let v149 : BitVec 32 := Scalar.muli v148 c1_i32_66
  let v150 : BitVec 32 := Scalar.addi c0_i32_65 v149
  let c1_i32_68 : BitVec 32 := 1#32
  let arg19 : BitVec 32 := Scf.iv v150 c1_i32_68 k0_t2
  let v2363 : Index := Scalar.indexCast arg19
  let c2_935 : Index := 2#32
  let c0_936 : Index := 0#32
  let c0_937 : Index := 0#32
  ![v2363.toNat, 2, 0, 0]
def k0_off40 (i : grid0.Coords) (k0_t2 : Fin (k0_t2_loop i).trips) : Fin 4 → Nat :=
  let c0_i32_65 : BitVec 32 := 0#32
  let arg1 : BitVec 32 := BitVec.ofNat 32 (i 1).val
  let v146 : BitVec 32 := Scalar.subi arg1 c0_i32_65
  let c1_i32_66 : BitVec 32 := 1#32
  let v148 : BitVec 32 := Scalar.divsi v146 c1_i32_66
  let v149 : BitVec 32 := Scalar.muli v148 c1_i32_66
  let v150 : BitVec 32 := Scalar.addi c0_i32_65 v149
  let c1_i32_68 : BitVec 32 := 1#32
  let arg19 : BitVec 32 := Scf.iv v150 c1_i32_68 k0_t2
  let v2367 : Index := Scalar.indexCast arg19
  let c3_938 : Index := 3#32
  let c0_939 : Index := 0#32
  let c0_940 : Index := 0#32
  ![v2367.toNat, 3, 0, 0]
def k0_off41 (i : grid0.Coords) (k0_t2 : Fin (k0_t2_loop i).trips) : Fin 4 → Nat :=
  let c0_i32_65 : BitVec 32 := 0#32
  let arg1 : BitVec 32 := BitVec.ofNat 32 (i 1).val
  let v146 : BitVec 32 := Scalar.subi arg1 c0_i32_65
  let c1_i32_66 : BitVec 32 := 1#32
  let v148 : BitVec 32 := Scalar.divsi v146 c1_i32_66
  let v149 : BitVec 32 := Scalar.muli v148 c1_i32_66
  let v150 : BitVec 32 := Scalar.addi c0_i32_65 v149
  let c1_i32_68 : BitVec 32 := 1#32
  let arg19 : BitVec 32 := Scf.iv v150 c1_i32_68 k0_t2
  let v2371 : Index := Scalar.indexCast arg19
  let c4_941 : Index := 4#32
  let c0_942 : Index := 0#32
  let c0_943 : Index := 0#32
  ![v2371.toNat, 4, 0, 0]
def k0_off42 (i : grid0.Coords) (k0_t2 : Fin (k0_t2_loop i).trips) : Fin 4 → Nat :=
  let c0_i32_65 : BitVec 32 := 0#32
  let arg1 : BitVec 32 := BitVec.ofNat 32 (i 1).val
  let v146 : BitVec 32 := Scalar.subi arg1 c0_i32_65
  let c1_i32_66 : BitVec 32 := 1#32
  let v148 : BitVec 32 := Scalar.divsi v146 c1_i32_66
  let v149 : BitVec 32 := Scalar.muli v148 c1_i32_66
  let v150 : BitVec 32 := Scalar.addi c0_i32_65 v149
  let c1_i32_68 : BitVec 32 := 1#32
  let arg19 : BitVec 32 := Scf.iv v150 c1_i32_68 k0_t2
  let v2375 : Index := Scalar.indexCast arg19
  let c5_944 : Index := 5#32
  let c0_945 : Index := 0#32
  let c0_946 : Index := 0#32
  ![v2375.toNat, 5, 0, 0]
def k0_off43 (i : grid0.Coords) (k0_t2 : Fin (k0_t2_loop i).trips) : Fin 4 → Nat :=
  let c0_i32_65 : BitVec 32 := 0#32
  let arg1 : BitVec 32 := BitVec.ofNat 32 (i 1).val
  let v146 : BitVec 32 := Scalar.subi arg1 c0_i32_65
  let c1_i32_66 : BitVec 32 := 1#32
  let v148 : BitVec 32 := Scalar.divsi v146 c1_i32_66
  let v149 : BitVec 32 := Scalar.muli v148 c1_i32_66
  let v150 : BitVec 32 := Scalar.addi c0_i32_65 v149
  let c1_i32_68 : BitVec 32 := 1#32
  let arg19 : BitVec 32 := Scf.iv v150 c1_i32_68 k0_t2
  let v2379 : Index := Scalar.indexCast arg19
  let c6_947 : Index := 6#32
  let c0_948 : Index := 0#32
  let c0_949 : Index := 0#32
  ![v2379.toNat, 6, 0, 0]
def k0_off44 (i : grid0.Coords) (k0_t2 : Fin (k0_t2_loop i).trips) : Fin 4 → Nat :=
  let c0_i32_65 : BitVec 32 := 0#32
  let arg1 : BitVec 32 := BitVec.ofNat 32 (i 1).val
  let v146 : BitVec 32 := Scalar.subi arg1 c0_i32_65
  let c1_i32_66 : BitVec 32 := 1#32
  let v148 : BitVec 32 := Scalar.divsi v146 c1_i32_66
  let v149 : BitVec 32 := Scalar.muli v148 c1_i32_66
  let v150 : BitVec 32 := Scalar.addi c0_i32_65 v149
  let c1_i32_68 : BitVec 32 := 1#32
  let arg19 : BitVec 32 := Scf.iv v150 c1_i32_68 k0_t2
  let v2383 : Index := Scalar.indexCast arg19
  let c7_950 : Index := 7#32
  let c0_951 : Index := 0#32
  let c0_952 : Index := 0#32
  ![v2383.toNat, 7, 0, 0]
def k0_off45 (i : grid0.Coords) (k0_t2 : Fin (k0_t2_loop i).trips) : Fin 4 → Nat :=
  let c0_i32_65 : BitVec 32 := 0#32
  let arg1 : BitVec 32 := BitVec.ofNat 32 (i 1).val
  let v146 : BitVec 32 := Scalar.subi arg1 c0_i32_65
  let c1_i32_66 : BitVec 32 := 1#32
  let v148 : BitVec 32 := Scalar.divsi v146 c1_i32_66
  let v149 : BitVec 32 := Scalar.muli v148 c1_i32_66
  let v150 : BitVec 32 := Scalar.addi c0_i32_65 v149
  let c1_i32_68 : BitVec 32 := 1#32
  let arg19 : BitVec 32 := Scf.iv v150 c1_i32_68 k0_t2
  let v2387 : Index := Scalar.indexCast arg19
  let c8_953 : Index := 8#32
  let c0_954 : Index := 0#32
  let c0_955 : Index := 0#32
  ![v2387.toNat, 8, 0, 0]
def k0_off46 (i : grid0.Coords) (k0_t2 : Fin (k0_t2_loop i).trips) : Fin 4 → Nat :=
  let c0_i32_65 : BitVec 32 := 0#32
  let arg1 : BitVec 32 := BitVec.ofNat 32 (i 1).val
  let v146 : BitVec 32 := Scalar.subi arg1 c0_i32_65
  let c1_i32_66 : BitVec 32 := 1#32
  let v148 : BitVec 32 := Scalar.divsi v146 c1_i32_66
  let v149 : BitVec 32 := Scalar.muli v148 c1_i32_66
  let v150 : BitVec 32 := Scalar.addi c0_i32_65 v149
  let c1_i32_68 : BitVec 32 := 1#32
  let arg19 : BitVec 32 := Scf.iv v150 c1_i32_68 k0_t2
  let v2391 : Index := Scalar.indexCast arg19
  let c9_956 : Index := 9#32
  let c0_957 : Index := 0#32
  let c0_958 : Index := 0#32
  ![v2391.toNat, 9, 0, 0]
def k0_off47 (i : grid0.Coords) (k0_t2 : Fin (k0_t2_loop i).trips) : Fin 4 → Nat :=
  let c0_i32_65 : BitVec 32 := 0#32
  let arg1 : BitVec 32 := BitVec.ofNat 32 (i 1).val
  let v146 : BitVec 32 := Scalar.subi arg1 c0_i32_65
  let c1_i32_66 : BitVec 32 := 1#32
  let v148 : BitVec 32 := Scalar.divsi v146 c1_i32_66
  let v149 : BitVec 32 := Scalar.muli v148 c1_i32_66
  let v150 : BitVec 32 := Scalar.addi c0_i32_65 v149
  let c1_i32_68 : BitVec 32 := 1#32
  let arg19 : BitVec 32 := Scf.iv v150 c1_i32_68 k0_t2
  let v2395 : Index := Scalar.indexCast arg19
  let c10_959 : Index := 10#32
  let c0_960 : Index := 0#32
  let c0_961 : Index := 0#32
  ![v2395.toNat, 10, 0, 0]
def k0_off48 (i : grid0.Coords) (k0_t2 : Fin (k0_t2_loop i).trips) : Fin 4 → Nat :=
  let c0_i32_65 : BitVec 32 := 0#32
  let arg1 : BitVec 32 := BitVec.ofNat 32 (i 1).val
  let v146 : BitVec 32 := Scalar.subi arg1 c0_i32_65
  let c1_i32_66 : BitVec 32 := 1#32
  let v148 : BitVec 32 := Scalar.divsi v146 c1_i32_66
  let v149 : BitVec 32 := Scalar.muli v148 c1_i32_66
  let v150 : BitVec 32 := Scalar.addi c0_i32_65 v149
  let c1_i32_68 : BitVec 32 := 1#32
  let arg19 : BitVec 32 := Scf.iv v150 c1_i32_68 k0_t2
  let v2399 : Index := Scalar.indexCast arg19
  let c11_962 : Index := 11#32
  let c0_963 : Index := 0#32
  let c0_964 : Index := 0#32
  ![v2399.toNat, 11, 0, 0]
def k0_off49 (i : grid0.Coords) (k0_t2 : Fin (k0_t2_loop i).trips) : Fin 4 → Nat :=
  let c0_i32_65 : BitVec 32 := 0#32
  let arg1 : BitVec 32 := BitVec.ofNat 32 (i 1).val
  let v146 : BitVec 32 := Scalar.subi arg1 c0_i32_65
  let c1_i32_66 : BitVec 32 := 1#32
  let v148 : BitVec 32 := Scalar.divsi v146 c1_i32_66
  let v149 : BitVec 32 := Scalar.muli v148 c1_i32_66
  let v150 : BitVec 32 := Scalar.addi c0_i32_65 v149
  let c1_i32_68 : BitVec 32 := 1#32
  let arg19 : BitVec 32 := Scf.iv v150 c1_i32_68 k0_t2
  let v2403 : Index := Scalar.indexCast arg19
  let c12_965 : Index := 12#32
  let c0_966 : Index := 0#32
  let c0_967 : Index := 0#32
  ![v2403.toNat, 12, 0, 0]
def k0_off50 (i : grid0.Coords) (k0_t2 : Fin (k0_t2_loop i).trips) : Fin 4 → Nat :=
  let c0_i32_65 : BitVec 32 := 0#32
  let arg1 : BitVec 32 := BitVec.ofNat 32 (i 1).val
  let v146 : BitVec 32 := Scalar.subi arg1 c0_i32_65
  let c1_i32_66 : BitVec 32 := 1#32
  let v148 : BitVec 32 := Scalar.divsi v146 c1_i32_66
  let v149 : BitVec 32 := Scalar.muli v148 c1_i32_66
  let v150 : BitVec 32 := Scalar.addi c0_i32_65 v149
  let c1_i32_68 : BitVec 32 := 1#32
  let arg19 : BitVec 32 := Scf.iv v150 c1_i32_68 k0_t2
  let v2407 : Index := Scalar.indexCast arg19
  let c13_968 : Index := 13#32
  let c0_969 : Index := 0#32
  let c0_970 : Index := 0#32
  ![v2407.toNat, 13, 0, 0]
def k0_off51 (i : grid0.Coords) (k0_t2 : Fin (k0_t2_loop i).trips) : Fin 4 → Nat :=
  let c0_i32_65 : BitVec 32 := 0#32
  let arg1 : BitVec 32 := BitVec.ofNat 32 (i 1).val
  let v146 : BitVec 32 := Scalar.subi arg1 c0_i32_65
  let c1_i32_66 : BitVec 32 := 1#32
  let v148 : BitVec 32 := Scalar.divsi v146 c1_i32_66
  let v149 : BitVec 32 := Scalar.muli v148 c1_i32_66
  let v150 : BitVec 32 := Scalar.addi c0_i32_65 v149
  let c1_i32_68 : BitVec 32 := 1#32
  let arg19 : BitVec 32 := Scf.iv v150 c1_i32_68 k0_t2
  let v2411 : Index := Scalar.indexCast arg19
  let c14_971 : Index := 14#32
  let c0_972 : Index := 0#32
  let c0_973 : Index := 0#32
  ![v2411.toNat, 14, 0, 0]
def k0_off52 (i : grid0.Coords) (k0_t2 : Fin (k0_t2_loop i).trips) : Fin 4 → Nat :=
  let c0_i32_65 : BitVec 32 := 0#32
  let arg1 : BitVec 32 := BitVec.ofNat 32 (i 1).val
  let v146 : BitVec 32 := Scalar.subi arg1 c0_i32_65
  let c1_i32_66 : BitVec 32 := 1#32
  let v148 : BitVec 32 := Scalar.divsi v146 c1_i32_66
  let v149 : BitVec 32 := Scalar.muli v148 c1_i32_66
  let v150 : BitVec 32 := Scalar.addi c0_i32_65 v149
  let c1_i32_68 : BitVec 32 := 1#32
  let arg19 : BitVec 32 := Scf.iv v150 c1_i32_68 k0_t2
  let v2415 : Index := Scalar.indexCast arg19
  let c15_974 : Index := 15#32
  let c0_975 : Index := 0#32
  let c0_976 : Index := 0#32
  ![v2415.toNat, 15, 0, 0]
def k0_off53 (i : grid0.Coords) (k0_t2 : Fin (k0_t2_loop i).trips) : Fin 4 → Nat :=
  let c0_i32_65 : BitVec 32 := 0#32
  let arg1 : BitVec 32 := BitVec.ofNat 32 (i 1).val
  let v146 : BitVec 32 := Scalar.subi arg1 c0_i32_65
  let c1_i32_66 : BitVec 32 := 1#32
  let v148 : BitVec 32 := Scalar.divsi v146 c1_i32_66
  let v149 : BitVec 32 := Scalar.muli v148 c1_i32_66
  let v150 : BitVec 32 := Scalar.addi c0_i32_65 v149
  let c1_i32_68 : BitVec 32 := 1#32
  let arg19 : BitVec 32 := Scf.iv v150 c1_i32_68 k0_t2
  let v2419 : Index := Scalar.indexCast arg19
  let c16_977 : Index := 16#32
  let c0_978 : Index := 0#32
  let c0_979 : Index := 0#32
  ![v2419.toNat, 16, 0, 0]
def k0_off54 (i : grid0.Coords) (k0_t2 : Fin (k0_t2_loop i).trips) : Fin 4 → Nat :=
  let c0_i32_65 : BitVec 32 := 0#32
  let arg1 : BitVec 32 := BitVec.ofNat 32 (i 1).val
  let v146 : BitVec 32 := Scalar.subi arg1 c0_i32_65
  let c1_i32_66 : BitVec 32 := 1#32
  let v148 : BitVec 32 := Scalar.divsi v146 c1_i32_66
  let v149 : BitVec 32 := Scalar.muli v148 c1_i32_66
  let v150 : BitVec 32 := Scalar.addi c0_i32_65 v149
  let c1_i32_68 : BitVec 32 := 1#32
  let arg19 : BitVec 32 := Scf.iv v150 c1_i32_68 k0_t2
  let v2423 : Index := Scalar.indexCast arg19
  let c17_980 : Index := 17#32
  let c0_981 : Index := 0#32
  let c0_982 : Index := 0#32
  ![v2423.toNat, 17, 0, 0]
def k0_off55 (i : grid0.Coords) (k0_t2 : Fin (k0_t2_loop i).trips) : Fin 4 → Nat :=
  let c0_i32_65 : BitVec 32 := 0#32
  let arg1 : BitVec 32 := BitVec.ofNat 32 (i 1).val
  let v146 : BitVec 32 := Scalar.subi arg1 c0_i32_65
  let c1_i32_66 : BitVec 32 := 1#32
  let v148 : BitVec 32 := Scalar.divsi v146 c1_i32_66
  let v149 : BitVec 32 := Scalar.muli v148 c1_i32_66
  let v150 : BitVec 32 := Scalar.addi c0_i32_65 v149
  let c1_i32_68 : BitVec 32 := 1#32
  let arg19 : BitVec 32 := Scf.iv v150 c1_i32_68 k0_t2
  let v2427 : Index := Scalar.indexCast arg19
  let c18_983 : Index := 18#32
  let c0_984 : Index := 0#32
  let c0_985 : Index := 0#32
  ![v2427.toNat, 18, 0, 0]
def k0_off56 (i : grid0.Coords) (k0_t2 : Fin (k0_t2_loop i).trips) : Fin 4 → Nat :=
  let c0_i32_65 : BitVec 32 := 0#32
  let arg1 : BitVec 32 := BitVec.ofNat 32 (i 1).val
  let v146 : BitVec 32 := Scalar.subi arg1 c0_i32_65
  let c1_i32_66 : BitVec 32 := 1#32
  let v148 : BitVec 32 := Scalar.divsi v146 c1_i32_66
  let v149 : BitVec 32 := Scalar.muli v148 c1_i32_66
  let v150 : BitVec 32 := Scalar.addi c0_i32_65 v149
  let c1_i32_68 : BitVec 32 := 1#32
  let arg19 : BitVec 32 := Scf.iv v150 c1_i32_68 k0_t2
  let v2431 : Index := Scalar.indexCast arg19
  let c19_986 : Index := 19#32
  let c0_987 : Index := 0#32
  let c0_988 : Index := 0#32
  ![v2431.toNat, 19, 0, 0]
def k0_off57 (i : grid0.Coords) (k0_t2 : Fin (k0_t2_loop i).trips) : Fin 4 → Nat :=
  let c0_i32_65 : BitVec 32 := 0#32
  let arg1 : BitVec 32 := BitVec.ofNat 32 (i 1).val
  let v146 : BitVec 32 := Scalar.subi arg1 c0_i32_65
  let c1_i32_66 : BitVec 32 := 1#32
  let v148 : BitVec 32 := Scalar.divsi v146 c1_i32_66
  let v149 : BitVec 32 := Scalar.muli v148 c1_i32_66
  let v150 : BitVec 32 := Scalar.addi c0_i32_65 v149
  let c1_i32_68 : BitVec 32 := 1#32
  let arg19 : BitVec 32 := Scf.iv v150 c1_i32_68 k0_t2
  let v2435 : Index := Scalar.indexCast arg19
  let c20_989 : Index := 20#32
  let c0_990 : Index := 0#32
  let c0_991 : Index := 0#32
  ![v2435.toNat, 20, 0, 0]
def k0_off58 (i : grid0.Coords) (k0_t2 : Fin (k0_t2_loop i).trips) : Fin 4 → Nat :=
  let c0_i32_65 : BitVec 32 := 0#32
  let arg1 : BitVec 32 := BitVec.ofNat 32 (i 1).val
  let v146 : BitVec 32 := Scalar.subi arg1 c0_i32_65
  let c1_i32_66 : BitVec 32 := 1#32
  let v148 : BitVec 32 := Scalar.divsi v146 c1_i32_66
  let v149 : BitVec 32 := Scalar.muli v148 c1_i32_66
  let v150 : BitVec 32 := Scalar.addi c0_i32_65 v149
  let c1_i32_68 : BitVec 32 := 1#32
  let arg19 : BitVec 32 := Scf.iv v150 c1_i32_68 k0_t2
  let v2439 : Index := Scalar.indexCast arg19
  let c21_992 : Index := 21#32
  let c0_993 : Index := 0#32
  let c0_994 : Index := 0#32
  ![v2439.toNat, 21, 0, 0]
def k0_off59 (i : grid0.Coords) (k0_t2 : Fin (k0_t2_loop i).trips) : Fin 4 → Nat :=
  let c0_i32_65 : BitVec 32 := 0#32
  let arg1 : BitVec 32 := BitVec.ofNat 32 (i 1).val
  let v146 : BitVec 32 := Scalar.subi arg1 c0_i32_65
  let c1_i32_66 : BitVec 32 := 1#32
  let v148 : BitVec 32 := Scalar.divsi v146 c1_i32_66
  let v149 : BitVec 32 := Scalar.muli v148 c1_i32_66
  let v150 : BitVec 32 := Scalar.addi c0_i32_65 v149
  let c1_i32_68 : BitVec 32 := 1#32
  let arg19 : BitVec 32 := Scf.iv v150 c1_i32_68 k0_t2
  let v2443 : Index := Scalar.indexCast arg19
  let c22_995 : Index := 22#32
  let c0_996 : Index := 0#32
  let c0_997 : Index := 0#32
  ![v2443.toNat, 22, 0, 0]
def k0_off60 (i : grid0.Coords) (k0_t2 : Fin (k0_t2_loop i).trips) : Fin 4 → Nat :=
  let c0_i32_65 : BitVec 32 := 0#32
  let arg1 : BitVec 32 := BitVec.ofNat 32 (i 1).val
  let v146 : BitVec 32 := Scalar.subi arg1 c0_i32_65
  let c1_i32_66 : BitVec 32 := 1#32
  let v148 : BitVec 32 := Scalar.divsi v146 c1_i32_66
  let v149 : BitVec 32 := Scalar.muli v148 c1_i32_66
  let v150 : BitVec 32 := Scalar.addi c0_i32_65 v149
  let c1_i32_68 : BitVec 32 := 1#32
  let arg19 : BitVec 32 := Scf.iv v150 c1_i32_68 k0_t2
  let v2447 : Index := Scalar.indexCast arg19
  let c23_998 : Index := 23#32
  let c0_999 : Index := 0#32
  let c0_1000 : Index := 0#32
  ![v2447.toNat, 23, 0, 0]
def k0_off61 (i : grid0.Coords) (k0_t2 : Fin (k0_t2_loop i).trips) : Fin 4 → Nat :=
  let c0_i32_65 : BitVec 32 := 0#32
  let arg1 : BitVec 32 := BitVec.ofNat 32 (i 1).val
  let v146 : BitVec 32 := Scalar.subi arg1 c0_i32_65
  let c1_i32_66 : BitVec 32 := 1#32
  let v148 : BitVec 32 := Scalar.divsi v146 c1_i32_66
  let v149 : BitVec 32 := Scalar.muli v148 c1_i32_66
  let v150 : BitVec 32 := Scalar.addi c0_i32_65 v149
  let c1_i32_68 : BitVec 32 := 1#32
  let arg19 : BitVec 32 := Scf.iv v150 c1_i32_68 k0_t2
  let v2451 : Index := Scalar.indexCast arg19
  let c24_1001 : Index := 24#32
  let c0_1002 : Index := 0#32
  let c0_1003 : Index := 0#32
  ![v2451.toNat, 24, 0, 0]
def k0_off62 (i : grid0.Coords) (k0_t2 : Fin (k0_t2_loop i).trips) : Fin 4 → Nat :=
  let c0_i32_65 : BitVec 32 := 0#32
  let arg1 : BitVec 32 := BitVec.ofNat 32 (i 1).val
  let v146 : BitVec 32 := Scalar.subi arg1 c0_i32_65
  let c1_i32_66 : BitVec 32 := 1#32
  let v148 : BitVec 32 := Scalar.divsi v146 c1_i32_66
  let v149 : BitVec 32 := Scalar.muli v148 c1_i32_66
  let v150 : BitVec 32 := Scalar.addi c0_i32_65 v149
  let c1_i32_68 : BitVec 32 := 1#32
  let arg19 : BitVec 32 := Scf.iv v150 c1_i32_68 k0_t2
  let v2455 : Index := Scalar.indexCast arg19
  let c25_1004 : Index := 25#32
  let c0_1005 : Index := 0#32
  let c0_1006 : Index := 0#32
  ![v2455.toNat, 25, 0, 0]
def k0_off63 (i : grid0.Coords) (k0_t2 : Fin (k0_t2_loop i).trips) : Fin 4 → Nat :=
  let c0_i32_65 : BitVec 32 := 0#32
  let arg1 : BitVec 32 := BitVec.ofNat 32 (i 1).val
  let v146 : BitVec 32 := Scalar.subi arg1 c0_i32_65
  let c1_i32_66 : BitVec 32 := 1#32
  let v148 : BitVec 32 := Scalar.divsi v146 c1_i32_66
  let v149 : BitVec 32 := Scalar.muli v148 c1_i32_66
  let v150 : BitVec 32 := Scalar.addi c0_i32_65 v149
  let c1_i32_68 : BitVec 32 := 1#32
  let arg19 : BitVec 32 := Scf.iv v150 c1_i32_68 k0_t2
  let v2459 : Index := Scalar.indexCast arg19
  let c26_1007 : Index := 26#32
  let c0_1008 : Index := 0#32
  let c0_1009 : Index := 0#32
  ![v2459.toNat, 26, 0, 0]
def k0_off64 (i : grid0.Coords) (k0_t2 : Fin (k0_t2_loop i).trips) : Fin 4 → Nat :=
  let c0_i32_65 : BitVec 32 := 0#32
  let arg1 : BitVec 32 := BitVec.ofNat 32 (i 1).val
  let v146 : BitVec 32 := Scalar.subi arg1 c0_i32_65
  let c1_i32_66 : BitVec 32 := 1#32
  let v148 : BitVec 32 := Scalar.divsi v146 c1_i32_66
  let v149 : BitVec 32 := Scalar.muli v148 c1_i32_66
  let v150 : BitVec 32 := Scalar.addi c0_i32_65 v149
  let c1_i32_68 : BitVec 32 := 1#32
  let arg19 : BitVec 32 := Scf.iv v150 c1_i32_68 k0_t2
  let v2463 : Index := Scalar.indexCast arg19
  let c27_1010 : Index := 27#32
  let c0_1011 : Index := 0#32
  let c0_1012 : Index := 0#32
  ![v2463.toNat, 27, 0, 0]
def k0_off65 (i : grid0.Coords) (k0_t2 : Fin (k0_t2_loop i).trips) : Fin 4 → Nat :=
  let c0_i32_65 : BitVec 32 := 0#32
  let arg1 : BitVec 32 := BitVec.ofNat 32 (i 1).val
  let v146 : BitVec 32 := Scalar.subi arg1 c0_i32_65
  let c1_i32_66 : BitVec 32 := 1#32
  let v148 : BitVec 32 := Scalar.divsi v146 c1_i32_66
  let v149 : BitVec 32 := Scalar.muli v148 c1_i32_66
  let v150 : BitVec 32 := Scalar.addi c0_i32_65 v149
  let c1_i32_68 : BitVec 32 := 1#32
  let arg19 : BitVec 32 := Scf.iv v150 c1_i32_68 k0_t2
  let v2467 : Index := Scalar.indexCast arg19
  let c28_1013 : Index := 28#32
  let c0_1014 : Index := 0#32
  let c0_1015 : Index := 0#32
  ![v2467.toNat, 28, 0, 0]
def k0_off66 (i : grid0.Coords) (k0_t2 : Fin (k0_t2_loop i).trips) : Fin 4 → Nat :=
  let c0_i32_65 : BitVec 32 := 0#32
  let arg1 : BitVec 32 := BitVec.ofNat 32 (i 1).val
  let v146 : BitVec 32 := Scalar.subi arg1 c0_i32_65
  let c1_i32_66 : BitVec 32 := 1#32
  let v148 : BitVec 32 := Scalar.divsi v146 c1_i32_66
  let v149 : BitVec 32 := Scalar.muli v148 c1_i32_66
  let v150 : BitVec 32 := Scalar.addi c0_i32_65 v149
  let c1_i32_68 : BitVec 32 := 1#32
  let arg19 : BitVec 32 := Scf.iv v150 c1_i32_68 k0_t2
  let v2471 : Index := Scalar.indexCast arg19
  let c29_1016 : Index := 29#32
  let c0_1017 : Index := 0#32
  let c0_1018 : Index := 0#32
  ![v2471.toNat, 29, 0, 0]
def k0_off67 (i : grid0.Coords) (k0_t2 : Fin (k0_t2_loop i).trips) : Fin 4 → Nat :=
  let c0_i32_65 : BitVec 32 := 0#32
  let arg1 : BitVec 32 := BitVec.ofNat 32 (i 1).val
  let v146 : BitVec 32 := Scalar.subi arg1 c0_i32_65
  let c1_i32_66 : BitVec 32 := 1#32
  let v148 : BitVec 32 := Scalar.divsi v146 c1_i32_66
  let v149 : BitVec 32 := Scalar.muli v148 c1_i32_66
  let v150 : BitVec 32 := Scalar.addi c0_i32_65 v149
  let c1_i32_68 : BitVec 32 := 1#32
  let arg19 : BitVec 32 := Scf.iv v150 c1_i32_68 k0_t2
  let v2475 : Index := Scalar.indexCast arg19
  let c30_1019 : Index := 30#32
  let c0_1020 : Index := 0#32
  let c0_1021 : Index := 0#32
  ![v2475.toNat, 30, 0, 0]
def k0_off68 (i : grid0.Coords) (k0_t2 : Fin (k0_t2_loop i).trips) : Fin 4 → Nat :=
  let c0_i32_65 : BitVec 32 := 0#32
  let arg1 : BitVec 32 := BitVec.ofNat 32 (i 1).val
  let v146 : BitVec 32 := Scalar.subi arg1 c0_i32_65
  let c1_i32_66 : BitVec 32 := 1#32
  let v148 : BitVec 32 := Scalar.divsi v146 c1_i32_66
  let v149 : BitVec 32 := Scalar.muli v148 c1_i32_66
  let v150 : BitVec 32 := Scalar.addi c0_i32_65 v149
  let c1_i32_68 : BitVec 32 := 1#32
  let arg19 : BitVec 32 := Scf.iv v150 c1_i32_68 k0_t2
  let v2479 : Index := Scalar.indexCast arg19
  let c31_1022 : Index := 31#32
  let c0_1023 : Index := 0#32
  let c0_1024 : Index := 0#32
  ![v2479.toNat, 31, 0, 0]
def k0_mult3 (i : grid0.Coords) : BitVec 32 :=
  let arg1 : BitVec 32 := BitVec.ofNat 32 (i 1).val
  let c256_i32_69 : BitVec 32 := 256#32
  let v151 : BitVec 32 := Scalar.muli arg1 c256_i32_69
  v151
def k0_off69 (i : grid0.Coords) : Fin 2 → Nat :=
  let arg1 : BitVec 32 := BitVec.ofNat 32 (i 1).val
  let c256_i32_69 : BitVec 32 := 256#32
  let v151 : BitVec 32 := Scalar.muli arg1 c256_i32_69
  let v152 : BitVec 32 := v151
  let v153 : Index := Scalar.indexCast v152
  let c128_70 : Index := 128#32
  ![v153.toNat, 128]
def k0_off70 (i : grid0.Coords) : Fin 3 → Nat :=
  let arg1 : BitVec 32 := BitVec.ofNat 32 (i 1).val
  let v204 : Index := Scalar.indexCast arg1
  let c0_94 : Index := 0#32
  let c0_95 : Index := 0#32
  ![v204.toNat, 0, 0]
def k0_off71 (i : grid0.Coords) : Fin 4 → Nat :=
  let arg1 : BitVec 32 := BitVec.ofNat 32 (i 1).val
  let v962 : Index := Scalar.indexCast arg1
  let c0_328 : Index := 0#32
  let c0_329 : Index := 0#32
  let c0_330 : Index := 0#32
  ![v962.toNat, 0, 0, 0]
def k0_off72 (i : grid0.Coords) : Fin 4 → Nat :=
  let arg1 : BitVec 32 := BitVec.ofNat 32 (i 1).val
  let v966 : Index := Scalar.indexCast arg1
  let c1_331 : Index := 1#32
  let c0_332 : Index := 0#32
  let c0_333 : Index := 0#32
  ![v966.toNat, 1, 0, 0]
def k0_off73 (i : grid0.Coords) : Fin 4 → Nat :=
  let arg1 : BitVec 32 := BitVec.ofNat 32 (i 1).val
  let v970 : Index := Scalar.indexCast arg1
  let c2_334 : Index := 2#32
  let c0_335 : Index := 0#32
  let c0_336 : Index := 0#32
  ![v970.toNat, 2, 0, 0]
def k0_off74 (i : grid0.Coords) : Fin 4 → Nat :=
  let arg1 : BitVec 32 := BitVec.ofNat 32 (i 1).val
  let v974 : Index := Scalar.indexCast arg1
  let c3_337 : Index := 3#32
  let c0_338 : Index := 0#32
  let c0_339 : Index := 0#32
  ![v974.toNat, 3, 0, 0]
def k0_off75 (i : grid0.Coords) : Fin 4 → Nat :=
  let arg1 : BitVec 32 := BitVec.ofNat 32 (i 1).val
  let v978 : Index := Scalar.indexCast arg1
  let c4_340 : Index := 4#32
  let c0_341 : Index := 0#32
  let c0_342 : Index := 0#32
  ![v978.toNat, 4, 0, 0]
def k0_off76 (i : grid0.Coords) : Fin 4 → Nat :=
  let arg1 : BitVec 32 := BitVec.ofNat 32 (i 1).val
  let v982 : Index := Scalar.indexCast arg1
  let c5_343 : Index := 5#32
  let c0_344 : Index := 0#32
  let c0_345 : Index := 0#32
  ![v982.toNat, 5, 0, 0]
def k0_off77 (i : grid0.Coords) : Fin 4 → Nat :=
  let arg1 : BitVec 32 := BitVec.ofNat 32 (i 1).val
  let v986 : Index := Scalar.indexCast arg1
  let c6_346 : Index := 6#32
  let c0_347 : Index := 0#32
  let c0_348 : Index := 0#32
  ![v986.toNat, 6, 0, 0]
def k0_off78 (i : grid0.Coords) : Fin 4 → Nat :=
  let arg1 : BitVec 32 := BitVec.ofNat 32 (i 1).val
  let v990 : Index := Scalar.indexCast arg1
  let c7_349 : Index := 7#32
  let c0_350 : Index := 0#32
  let c0_351 : Index := 0#32
  ![v990.toNat, 7, 0, 0]
def k0_off79 (i : grid0.Coords) : Fin 4 → Nat :=
  let arg1 : BitVec 32 := BitVec.ofNat 32 (i 1).val
  let v994 : Index := Scalar.indexCast arg1
  let c8 : Index := 8#32
  let c0_352 : Index := 0#32
  let c0_353 : Index := 0#32
  ![v994.toNat, 8, 0, 0]
def k0_off80 (i : grid0.Coords) : Fin 4 → Nat :=
  let arg1 : BitVec 32 := BitVec.ofNat 32 (i 1).val
  let v998 : Index := Scalar.indexCast arg1
  let c9 : Index := 9#32
  let c0_354 : Index := 0#32
  let c0_355 : Index := 0#32
  ![v998.toNat, 9, 0, 0]
def k0_off81 (i : grid0.Coords) : Fin 4 → Nat :=
  let arg1 : BitVec 32 := BitVec.ofNat 32 (i 1).val
  let v1002 : Index := Scalar.indexCast arg1
  let c10 : Index := 10#32
  let c0_356 : Index := 0#32
  let c0_357 : Index := 0#32
  ![v1002.toNat, 10, 0, 0]
def k0_off82 (i : grid0.Coords) : Fin 4 → Nat :=
  let arg1 : BitVec 32 := BitVec.ofNat 32 (i 1).val
  let v1006 : Index := Scalar.indexCast arg1
  let c11 : Index := 11#32
  let c0_358 : Index := 0#32
  let c0_359 : Index := 0#32
  ![v1006.toNat, 11, 0, 0]
def k0_off83 (i : grid0.Coords) : Fin 4 → Nat :=
  let arg1 : BitVec 32 := BitVec.ofNat 32 (i 1).val
  let v1010 : Index := Scalar.indexCast arg1
  let c12 : Index := 12#32
  let c0_360 : Index := 0#32
  let c0_361 : Index := 0#32
  ![v1010.toNat, 12, 0, 0]
def k0_off84 (i : grid0.Coords) : Fin 4 → Nat :=
  let arg1 : BitVec 32 := BitVec.ofNat 32 (i 1).val
  let v1014 : Index := Scalar.indexCast arg1
  let c13 : Index := 13#32
  let c0_362 : Index := 0#32
  let c0_363 : Index := 0#32
  ![v1014.toNat, 13, 0, 0]
def k0_off85 (i : grid0.Coords) : Fin 4 → Nat :=
  let arg1 : BitVec 32 := BitVec.ofNat 32 (i 1).val
  let v1018 : Index := Scalar.indexCast arg1
  let c14 : Index := 14#32
  let c0_364 : Index := 0#32
  let c0_365 : Index := 0#32
  ![v1018.toNat, 14, 0, 0]
def k0_off86 (i : grid0.Coords) : Fin 4 → Nat :=
  let arg1 : BitVec 32 := BitVec.ofNat 32 (i 1).val
  let v1022 : Index := Scalar.indexCast arg1
  let c15 : Index := 15#32
  let c0_366 : Index := 0#32
  let c0_367 : Index := 0#32
  ![v1022.toNat, 15, 0, 0]
def k0_off87 (i : grid0.Coords) : Fin 4 → Nat :=
  let arg1 : BitVec 32 := BitVec.ofNat 32 (i 1).val
  let v1026 : Index := Scalar.indexCast arg1
  let c16 : Index := 16#32
  let c0_368 : Index := 0#32
  let c0_369 : Index := 0#32
  ![v1026.toNat, 16, 0, 0]
def k0_off88 (i : grid0.Coords) : Fin 4 → Nat :=
  let arg1 : BitVec 32 := BitVec.ofNat 32 (i 1).val
  let v1030 : Index := Scalar.indexCast arg1
  let c17 : Index := 17#32
  let c0_370 : Index := 0#32
  let c0_371 : Index := 0#32
  ![v1030.toNat, 17, 0, 0]
def k0_off89 (i : grid0.Coords) : Fin 4 → Nat :=
  let arg1 : BitVec 32 := BitVec.ofNat 32 (i 1).val
  let v1034 : Index := Scalar.indexCast arg1
  let c18 : Index := 18#32
  let c0_372 : Index := 0#32
  let c0_373 : Index := 0#32
  ![v1034.toNat, 18, 0, 0]
def k0_off90 (i : grid0.Coords) : Fin 4 → Nat :=
  let arg1 : BitVec 32 := BitVec.ofNat 32 (i 1).val
  let v1038 : Index := Scalar.indexCast arg1
  let c19 : Index := 19#32
  let c0_374 : Index := 0#32
  let c0_375 : Index := 0#32
  ![v1038.toNat, 19, 0, 0]
def k0_off91 (i : grid0.Coords) : Fin 4 → Nat :=
  let arg1 : BitVec 32 := BitVec.ofNat 32 (i 1).val
  let v1042 : Index := Scalar.indexCast arg1
  let c20 : Index := 20#32
  let c0_376 : Index := 0#32
  let c0_377 : Index := 0#32
  ![v1042.toNat, 20, 0, 0]
def k0_off92 (i : grid0.Coords) : Fin 4 → Nat :=
  let arg1 : BitVec 32 := BitVec.ofNat 32 (i 1).val
  let v1046 : Index := Scalar.indexCast arg1
  let c21 : Index := 21#32
  let c0_378 : Index := 0#32
  let c0_379 : Index := 0#32
  ![v1046.toNat, 21, 0, 0]
def k0_off93 (i : grid0.Coords) : Fin 4 → Nat :=
  let arg1 : BitVec 32 := BitVec.ofNat 32 (i 1).val
  let v1050 : Index := Scalar.indexCast arg1
  let c22 : Index := 22#32
  let c0_380 : Index := 0#32
  let c0_381 : Index := 0#32
  ![v1050.toNat, 22, 0, 0]
def k0_off94 (i : grid0.Coords) : Fin 4 → Nat :=
  let arg1 : BitVec 32 := BitVec.ofNat 32 (i 1).val
  let v1054 : Index := Scalar.indexCast arg1
  let c23 : Index := 23#32
  let c0_382 : Index := 0#32
  let c0_383 : Index := 0#32
  ![v1054.toNat, 23, 0, 0]
def k0_off95 (i : grid0.Coords) : Fin 4 → Nat :=
  let arg1 : BitVec 32 := BitVec.ofNat 32 (i 1).val
  let v1058 : Index := Scalar.indexCast arg1
  let c24 : Index := 24#32
  let c0_384 : Index := 0#32
  let c0_385 : Index := 0#32
  ![v1058.toNat, 24, 0, 0]
def k0_off96 (i : grid0.Coords) : Fin 4 → Nat :=
  let arg1 : BitVec 32 := BitVec.ofNat 32 (i 1).val
  let v1062 : Index := Scalar.indexCast arg1
  let c25 : Index := 25#32
  let c0_386 : Index := 0#32
  let c0_387 : Index := 0#32
  ![v1062.toNat, 25, 0, 0]
def k0_off97 (i : grid0.Coords) : Fin 4 → Nat :=
  let arg1 : BitVec 32 := BitVec.ofNat 32 (i 1).val
  let v1066 : Index := Scalar.indexCast arg1
  let c26 : Index := 26#32
  let c0_388 : Index := 0#32
  let c0_389 : Index := 0#32
  ![v1066.toNat, 26, 0, 0]
def k0_off98 (i : grid0.Coords) : Fin 4 → Nat :=
  let arg1 : BitVec 32 := BitVec.ofNat 32 (i 1).val
  let v1070 : Index := Scalar.indexCast arg1
  let c27 : Index := 27#32
  let c0_390 : Index := 0#32
  let c0_391 : Index := 0#32
  ![v1070.toNat, 27, 0, 0]
def k0_off99 (i : grid0.Coords) : Fin 4 → Nat :=
  let arg1 : BitVec 32 := BitVec.ofNat 32 (i 1).val
  let v1074 : Index := Scalar.indexCast arg1
  let c28 : Index := 28#32
  let c0_392 : Index := 0#32
  let c0_393 : Index := 0#32
  ![v1074.toNat, 28, 0, 0]
def k0_off100 (i : grid0.Coords) : Fin 4 → Nat :=
  let arg1 : BitVec 32 := BitVec.ofNat 32 (i 1).val
  let v1078 : Index := Scalar.indexCast arg1
  let c29 : Index := 29#32
  let c0_394 : Index := 0#32
  let c0_395 : Index := 0#32
  ![v1078.toNat, 29, 0, 0]
def k0_off101 (i : grid0.Coords) : Fin 4 → Nat :=
  let arg1 : BitVec 32 := BitVec.ofNat 32 (i 1).val
  let v1082 : Index := Scalar.indexCast arg1
  let c30 : Index := 30#32
  let c0_396 : Index := 0#32
  let c0_397 : Index := 0#32
  ![v1082.toNat, 30, 0, 0]
def k0_off102 (i : grid0.Coords) : Fin 4 → Nat :=
  let arg1 : BitVec 32 := BitVec.ofNat 32 (i 1).val
  let v1086 : Index := Scalar.indexCast arg1
  let c31 : Index := 31#32
  let c0_398 : Index := 0#32
  let c0_399 : Index := 0#32
  ![v1086.toNat, 31, 0, 0]
@[reducible] def k0_t3_loop : Scf.Loop 32 :=
  let c0_i32_470 : BitVec 32 := 0#32
  let c32_i32_471 : BitVec 32 := 32#32
  let v1301 : BitVec 32 := Scalar.addi c0_i32_470 c32_i32_471
  let c1_i32_472 : BitVec 32 := 1#32
  ⟨c0_i32_470, v1301, c1_i32_472⟩
def k0_off103 (k0_t3 : Fin k0_t3_loop.trips) : Fin 4 → Nat :=
  let c0_659 : Index := 0#32
  let c0_i32_470 : BitVec 32 := 0#32
  let c1_i32_472 : BitVec 32 := 1#32
  let arg19 : BitVec 32 := Scf.iv c0_i32_470 c1_i32_472 k0_t3
  let v1546 : Index := Scalar.indexCast arg19
  let c0_660 : Index := 0#32
  let c0_661 : Index := 0#32
  ![0, v1546.toNat, 0, 0]
def k0_off104 (k0_t3 : Fin k0_t3_loop.trips) : Fin 4 → Nat :=
  let c1_662 : Index := 1#32
  let c0_i32_470 : BitVec 32 := 0#32
  let c1_i32_472 : BitVec 32 := 1#32
  let arg19 : BitVec 32 := Scf.iv c0_i32_470 c1_i32_472 k0_t3
  let v1550 : Index := Scalar.indexCast arg19
  let c0_663 : Index := 0#32
  let c0_664 : Index := 0#32
  ![1, v1550.toNat, 0, 0]
def k0_off105 (k0_t3 : Fin k0_t3_loop.trips) : Fin 4 → Nat :=
  let c2_665 : Index := 2#32
  let c0_i32_470 : BitVec 32 := 0#32
  let c1_i32_472 : BitVec 32 := 1#32
  let arg19 : BitVec 32 := Scf.iv c0_i32_470 c1_i32_472 k0_t3
  let v1554 : Index := Scalar.indexCast arg19
  let c0_666 : Index := 0#32
  let c0_667 : Index := 0#32
  ![2, v1554.toNat, 0, 0]
def k0_off106 (k0_t3 : Fin k0_t3_loop.trips) : Fin 4 → Nat :=
  let c3_668 : Index := 3#32
  let c0_i32_470 : BitVec 32 := 0#32
  let c1_i32_472 : BitVec 32 := 1#32
  let arg19 : BitVec 32 := Scf.iv c0_i32_470 c1_i32_472 k0_t3
  let v1558 : Index := Scalar.indexCast arg19
  let c0_669 : Index := 0#32
  let c0_670 : Index := 0#32
  ![3, v1558.toNat, 0, 0]
def k0_off107 (k0_t3 : Fin k0_t3_loop.trips) : Fin 4 → Nat :=
  let c4_671 : Index := 4#32
  let c0_i32_470 : BitVec 32 := 0#32
  let c1_i32_472 : BitVec 32 := 1#32
  let arg19 : BitVec 32 := Scf.iv c0_i32_470 c1_i32_472 k0_t3
  let v1562 : Index := Scalar.indexCast arg19
  let c0_672 : Index := 0#32
  let c0_673 : Index := 0#32
  ![4, v1562.toNat, 0, 0]
def k0_off108 (k0_t3 : Fin k0_t3_loop.trips) : Fin 4 → Nat :=
  let c5_674 : Index := 5#32
  let c0_i32_470 : BitVec 32 := 0#32
  let c1_i32_472 : BitVec 32 := 1#32
  let arg19 : BitVec 32 := Scf.iv c0_i32_470 c1_i32_472 k0_t3
  let v1566 : Index := Scalar.indexCast arg19
  let c0_675 : Index := 0#32
  let c0_676 : Index := 0#32
  ![5, v1566.toNat, 0, 0]
def k0_off109 (k0_t3 : Fin k0_t3_loop.trips) : Fin 4 → Nat :=
  let c6_677 : Index := 6#32
  let c0_i32_470 : BitVec 32 := 0#32
  let c1_i32_472 : BitVec 32 := 1#32
  let arg19 : BitVec 32 := Scf.iv c0_i32_470 c1_i32_472 k0_t3
  let v1570 : Index := Scalar.indexCast arg19
  let c0_678 : Index := 0#32
  let c0_679 : Index := 0#32
  ![6, v1570.toNat, 0, 0]
def k0_off110 (k0_t3 : Fin k0_t3_loop.trips) : Fin 4 → Nat :=
  let c7_680 : Index := 7#32
  let c0_i32_470 : BitVec 32 := 0#32
  let c1_i32_472 : BitVec 32 := 1#32
  let arg19 : BitVec 32 := Scf.iv c0_i32_470 c1_i32_472 k0_t3
  let v1574 : Index := Scalar.indexCast arg19
  let c0_681 : Index := 0#32
  let c0_682 : Index := 0#32
  ![7, v1574.toNat, 0, 0]
@[reducible] def k0_t4_loop (i : grid0.Coords) : Scf.Loop 32 :=
  let c0_i32_476 : BitVec 32 := 0#32
  let arg1 : BitVec 32 := BitVec.ofNat 32 (i 1).val
  let c1_i32 : BitVec 32 := 1#32
  let v0 : BitVec 32 := Scalar.addi arg1 c1_i32
  let v1307 : BitVec 32 := Scalar.subi v0 c0_i32_476
  let c1_i32_477 : BitVec 32 := 1#32
  let v1309 : BitVec 32 := Scalar.divsi v1307 c1_i32_477
  let v1310 : BitVec 32 := Scalar.muli v1309 c1_i32_477
  let v1311 : BitVec 32 := Scalar.addi c0_i32_476 v1310
  let c1_i32_478 : BitVec 32 := 1#32
  ⟨c0_i32_476, v1311, c1_i32_478⟩
def k0_off111 (i : grid0.Coords) (k0_t4 : Fin (k0_t4_loop i).trips) : Fin 3 → Nat :=
  let c0_i32_476 : BitVec 32 := 0#32
  let c1_i32_478 : BitVec 32 := 1#32
  let arg19 : BitVec 32 := Scf.iv c0_i32_476 c1_i32_478 k0_t4
  let v1546 : Index := Scalar.indexCast arg19
  let c0_659 : Index := 0#32
  let c0_660 : Index := 0#32
  ![v1546.toNat, 0, 0]
@[reducible] def k0_t5_loop (i : grid0.Coords) : Scf.Loop 32 :=
  let c0_i32_476 : BitVec 32 := 0#32
  let arg1 : BitVec 32 := BitVec.ofNat 32 (i 1).val
  let c1_i32 : BitVec 32 := 1#32
  let v0 : BitVec 32 := Scalar.addi arg1 c1_i32
  let v1307 : BitVec 32 := Scalar.subi v0 c0_i32_476
  let c1_i32_477 : BitVec 32 := 1#32
  let v1309 : BitVec 32 := Scalar.divsi v1307 c1_i32_477
  let v1310 : BitVec 32 := Scalar.muli v1309 c1_i32_477
  let v1311 : BitVec 32 := Scalar.addi c0_i32_476 v1310
  let v1308 : BitVec 32 := Scalar.addi c0_i32_476 v1307
  let c1_i32_479 : BitVec 32 := 1#32
  ⟨v1311, v1308, c1_i32_479⟩
def k0_off112 (i : grid0.Coords) (k0_t5 : Fin (k0_t5_loop i).trips) : Fin 3 → Nat :=
  let c0_i32_476 : BitVec 32 := 0#32
  let arg1 : BitVec 32 := BitVec.ofNat 32 (i 1).val
  let c1_i32 : BitVec 32 := 1#32
  let v0 : BitVec 32 := Scalar.addi arg1 c1_i32
  let v1307 : BitVec 32 := Scalar.subi v0 c0_i32_476
  let c1_i32_477 : BitVec 32 := 1#32
  let v1309 : BitVec 32 := Scalar.divsi v1307 c1_i32_477
  let v1310 : BitVec 32 := Scalar.muli v1309 c1_i32_477
  let v1311 : BitVec 32 := Scalar.addi c0_i32_476 v1310
  let c1_i32_479 : BitVec 32 := 1#32
  let arg19 : BitVec 32 := Scf.iv v1311 c1_i32_479 k0_t5
  let v1546 : Index := Scalar.indexCast arg19
  let c0_659 : Index := 0#32
  let c0_660 : Index := 0#32
  ![v1546.toNat, 0, 0]
def k0_mult4 (i : grid0.Coords) : BitVec 32 :=
  let arg1 : BitVec 32 := BitVec.ofNat 32 (i 1).val
  let c256_i32_488 : BitVec 32 := 256#32
  let v1322 : BitVec 32 := Scalar.muli arg1 c256_i32_488
  v1322
def k0_off113 (i : grid0.Coords) : Fin 2 → Nat :=
  let arg1 : BitVec 32 := BitVec.ofNat 32 (i 1).val
  let c256_i32_488 : BitVec 32 := 256#32
  let v1322 : BitVec 32 := Scalar.muli arg1 c256_i32_488
  let v1323 : BitVec 32 := v1322
  let v1324 : Index := Scalar.indexCast v1323
  let c0_489 : Index := 0#32
  ![v1324.toNat, 0]
def k0_mult5 (i : grid0.Coords) : BitVec 32 :=
  let arg1 : BitVec 32 := BitVec.ofNat 32 (i 1).val
  let c256_i32_499 : BitVec 32 := 256#32
  let v1336 : BitVec 32 := Scalar.muli arg1 c256_i32_499
  v1336
def k0_mult6 (i : grid0.Coords) : BitVec 32 :=
  let arg1 : BitVec 32 := BitVec.ofNat 32 (i 1).val
  let c256_i32_510 : BitVec 32 := 256#32
  let v1350 : BitVec 32 := Scalar.muli arg1 c256_i32_510
  v1350
def k0_mult7 (i : grid0.Coords) : BitVec 32 :=
  let arg1 : BitVec 32 := BitVec.ofNat 32 (i 1).val
  let c256_i32_521 : BitVec 32 := 256#32
  let v1364 : BitVec 32 := Scalar.muli arg1 c256_i32_521
  v1364
def k0_mult8 (i : grid0.Coords) : BitVec 32 :=
  let arg1 : BitVec 32 := BitVec.ofNat 32 (i 1).val
  let c256_i32_532 : BitVec 32 := 256#32
  let v1378 : BitVec 32 := Scalar.muli arg1 c256_i32_532
  v1378
def k0_mult9 (i : grid0.Coords) : BitVec 32 :=
  let arg1 : BitVec 32 := BitVec.ofNat 32 (i 1).val
  let c256_i32_543 : BitVec 32 := 256#32
  let v1392 : BitVec 32 := Scalar.muli arg1 c256_i32_543
  v1392
def k0_mult10 (i : grid0.Coords) : BitVec 32 :=
  let arg1 : BitVec 32 := BitVec.ofNat 32 (i 1).val
  let c256_i32_554 : BitVec 32 := 256#32
  let v1406 : BitVec 32 := Scalar.muli arg1 c256_i32_554
  v1406
def k0_mult11 (i : grid0.Coords) : BitVec 32 :=
  let arg1 : BitVec 32 := BitVec.ofNat 32 (i 1).val
  let c256_i32_565 : BitVec 32 := 256#32
  let v1420 : BitVec 32 := Scalar.muli arg1 c256_i32_565
  v1420
@[reducible] def k0_t6_loop (i : grid0.Coords) : Scf.Loop 32 :=
  let c0_i32_584 : BitVec 32 := 0#32
  let arg1 : BitVec 32 := BitVec.ofNat 32 (i 1).val
  let c0_i32_577 : BitVec 32 := 0#32
  let v1435 : BitVec 1 := Scalar.cmpi .sgt arg1 c0_i32_577
  let v1436 : BitVec 32 := Scalar.extui v1435
  let c0_i32_578 : BitVec 32 := 0#32
  let v1437 : BitVec 1 := Scalar.cmpi .slt arg1 c0_i32_578
  let v1438 : BitVec 32 := Scalar.extui v1437
  let v1439 : BitVec 32 := Scalar.subi v1436 v1438
  let c2_i32_576 : BitVec 32 := 2#32
  let c0_i32_579 : BitVec 32 := 0#32
  let v1440 : BitVec 1 := Scalar.cmpi .sgt c2_i32_576 c0_i32_579
  let v1441 : BitVec 32 := Scalar.extui v1440
  let c0_i32_580 : BitVec 32 := 0#32
  let v1442 : BitVec 1 := Scalar.cmpi .slt c2_i32_576 c0_i32_580
  let v1443 : BitVec 32 := Scalar.extui v1442
  let v1444 : BitVec 32 := Scalar.subi v1441 v1443
  let v1445 : BitVec 1 := Scalar.cmpi .ne v1439 v1444
  let v1446 : BitVec 32 := Scalar.remsi arg1 c2_i32_576
  let c0_i32_581 : BitVec 32 := 0#32
  let v1447 : BitVec 1 := Scalar.cmpi .ne v1446 c0_i32_581
  let v1448 : BitVec 1 := Scalar.andi v1445 v1447
  let v1434 : BitVec 32 := Scalar.divsi arg1 c2_i32_576
  let c1_i32_582 : BitVec 32 := 1#32
  let v1449 : BitVec 32 := Scalar.subi v1434 c1_i32_582
  let v1450 : BitVec 32 := Scalar.select v1448 v1449 v1434
  let v1451 : BitVec 32 := Scalar.subi v1450 c0_i32_584
  let c1_i32_585 : BitVec 32 := 1#32
  let v1453 : BitVec 32 := Scalar.divsi v1451 c1_i32_585
  let v1454 : BitVec 32 := Scalar.muli v1453 c1_i32_585
  let v1455 : BitVec 32 := Scalar.addi c0_i32_584 v1454
  let c1_i32_586 : BitVec 32 := 1#32
  ⟨c0_i32_584, v1455, c1_i32_586⟩
def k0_mult12 (i : grid0.Coords) (k0_t6 : Fin (k0_t6_loop i).trips) : BitVec 32 :=
  let c2_i32_662 : BitVec 32 := 2#32
  let c0_i32_584 : BitVec 32 := 0#32
  let c1_i32_586 : BitVec 32 := 1#32
  let arg19 : BitVec 32 := Scf.iv c0_i32_584 c1_i32_586 k0_t6
  let v1550 : BitVec 32 := Scalar.muli c2_i32_662 arg19
  let c256_i32_663 : BitVec 32 := 256#32
  let v1551 : BitVec 32 := Scalar.muli v1550 c256_i32_663
  v1551
def k0_off114 (i : grid0.Coords) (k0_t6 : Fin (k0_t6_loop i).trips) : Fin 2 → Nat :=
  let c2_i32_662 : BitVec 32 := 2#32
  let c0_i32_584 : BitVec 32 := 0#32
  let c1_i32_586 : BitVec 32 := 1#32
  let arg19 : BitVec 32 := Scf.iv c0_i32_584 c1_i32_586 k0_t6
  let v1550 : BitVec 32 := Scalar.muli c2_i32_662 arg19
  let c256_i32_663 : BitVec 32 := 256#32
  let v1551 : BitVec 32 := Scalar.muli v1550 c256_i32_663
  let v1552 : BitVec 32 := v1551
  let v1553 : Index := Scalar.indexCast v1552
  let c0_664 : Index := 0#32
  ![v1553.toNat, 0]
def k0_off115 (i : grid0.Coords) (k0_t6 : Fin (k0_t6_loop i).trips) : Fin 3 → Nat :=
  let c2_i32_662 : BitVec 32 := 2#32
  let c0_i32_584 : BitVec 32 := 0#32
  let c1_i32_586 : BitVec 32 := 1#32
  let arg19 : BitVec 32 := Scf.iv c0_i32_584 c1_i32_586 k0_t6
  let v1550 : BitVec 32 := Scalar.muli c2_i32_662 arg19
  let v1558 : Index := Scalar.indexCast v1550
  let c0_669 : Index := 0#32
  let c0_670 : Index := 0#32
  ![v1558.toNat, 0, 0]
def k0_off116 (i : grid0.Coords) (k0_t6 : Fin (k0_t6_loop i).trips) : Fin 3 → Nat :=
  let c2_i32_659 : BitVec 32 := 2#32
  let c0_i32_584 : BitVec 32 := 0#32
  let c1_i32_586 : BitVec 32 := 1#32
  let arg19 : BitVec 32 := Scf.iv c0_i32_584 c1_i32_586 k0_t6
  let v1546 : BitVec 32 := Scalar.muli c2_i32_659 arg19
  let c0_i32_660 : BitVec 32 := 0#32
  let v1547 : BitVec 1 := Scalar.cmpi .eq v1546 c0_i32_660
  let arg1 : BitVec 32 := BitVec.ofNat 32 (i 1).val
  let c1_i32_661 : BitVec 32 := 1#32
  let v1548 : BitVec 32 := Scalar.subi v1546 c1_i32_661
  let v1549 : BitVec 32 := Scalar.select v1547 arg1 v1548
  let v1582 : Index := Scalar.indexCast v1549
  let c0_684 : Index := 0#32
  let c0_685 : Index := 0#32
  ![v1582.toNat, 0, 0]
def k0_mult13 (i : grid0.Coords) (k0_t6 : Fin (k0_t6_loop i).trips) : BitVec 32 :=
  let c2_i32_662 : BitVec 32 := 2#32
  let c0_i32_584 : BitVec 32 := 0#32
  let c1_i32_586 : BitVec 32 := 1#32
  let arg19 : BitVec 32 := Scf.iv c0_i32_584 c1_i32_586 k0_t6
  let v1550 : BitVec 32 := Scalar.muli c2_i32_662 arg19
  let c256_i32_693 : BitVec 32 := 256#32
  let v1593 : BitVec 32 := Scalar.muli v1550 c256_i32_693
  v1593
def k0_mult14 (i : grid0.Coords) (k0_t6 : Fin (k0_t6_loop i).trips) : BitVec 32 :=
  let c2_i32_662 : BitVec 32 := 2#32
  let c0_i32_584 : BitVec 32 := 0#32
  let c1_i32_586 : BitVec 32 := 1#32
  let arg19 : BitVec 32 := Scf.iv c0_i32_584 c1_i32_586 k0_t6
  let v1550 : BitVec 32 := Scalar.muli c2_i32_662 arg19
  let c256_i32_723 : BitVec 32 := 256#32
  let v1635 : BitVec 32 := Scalar.muli v1550 c256_i32_723
  v1635
def k0_mult15 (i : grid0.Coords) (k0_t6 : Fin (k0_t6_loop i).trips) : BitVec 32 :=
  let c2_i32_662 : BitVec 32 := 2#32
  let c0_i32_584 : BitVec 32 := 0#32
  let c1_i32_586 : BitVec 32 := 1#32
  let arg19 : BitVec 32 := Scf.iv c0_i32_584 c1_i32_586 k0_t6
  let v1550 : BitVec 32 := Scalar.muli c2_i32_662 arg19
  let c256_i32_753 : BitVec 32 := 256#32
  let v1677 : BitVec 32 := Scalar.muli v1550 c256_i32_753
  v1677
def k0_mult16 (i : grid0.Coords) (k0_t6 : Fin (k0_t6_loop i).trips) : BitVec 32 :=
  let c2_i32_662 : BitVec 32 := 2#32
  let c0_i32_584 : BitVec 32 := 0#32
  let c1_i32_586 : BitVec 32 := 1#32
  let arg19 : BitVec 32 := Scf.iv c0_i32_584 c1_i32_586 k0_t6
  let v1550 : BitVec 32 := Scalar.muli c2_i32_662 arg19
  let c256_i32_783 : BitVec 32 := 256#32
  let v1719 : BitVec 32 := Scalar.muli v1550 c256_i32_783
  v1719
def k0_mult17 (i : grid0.Coords) (k0_t6 : Fin (k0_t6_loop i).trips) : BitVec 32 :=
  let c2_i32_662 : BitVec 32 := 2#32
  let c0_i32_584 : BitVec 32 := 0#32
  let c1_i32_586 : BitVec 32 := 1#32
  let arg19 : BitVec 32 := Scf.iv c0_i32_584 c1_i32_586 k0_t6
  let v1550 : BitVec 32 := Scalar.muli c2_i32_662 arg19
  let c256_i32_813 : BitVec 32 := 256#32
  let v1761 : BitVec 32 := Scalar.muli v1550 c256_i32_813
  v1761
def k0_mult18 (i : grid0.Coords) (k0_t6 : Fin (k0_t6_loop i).trips) : BitVec 32 :=
  let c2_i32_662 : BitVec 32 := 2#32
  let c0_i32_584 : BitVec 32 := 0#32
  let c1_i32_586 : BitVec 32 := 1#32
  let arg19 : BitVec 32 := Scf.iv c0_i32_584 c1_i32_586 k0_t6
  let v1550 : BitVec 32 := Scalar.muli c2_i32_662 arg19
  let c256_i32_843 : BitVec 32 := 256#32
  let v1803 : BitVec 32 := Scalar.muli v1550 c256_i32_843
  v1803
def k0_mult19 (i : grid0.Coords) (k0_t6 : Fin (k0_t6_loop i).trips) : BitVec 32 :=
  let c2_i32_662 : BitVec 32 := 2#32
  let c0_i32_584 : BitVec 32 := 0#32
  let c1_i32_586 : BitVec 32 := 1#32
  let arg19 : BitVec 32 := Scf.iv c0_i32_584 c1_i32_586 k0_t6
  let v1550 : BitVec 32 := Scalar.muli c2_i32_662 arg19
  let c256_i32_873 : BitVec 32 := 256#32
  let v1845 : BitVec 32 := Scalar.muli v1550 c256_i32_873
  v1845
def k0_mult20 (i : grid0.Coords) (k0_t6 : Fin (k0_t6_loop i).trips) : BitVec 32 :=
  let c2_i32_904 : BitVec 32 := 2#32
  let c0_i32_584 : BitVec 32 := 0#32
  let c1_i32_586 : BitVec 32 := 1#32
  let arg19 : BitVec 32 := Scf.iv c0_i32_584 c1_i32_586 k0_t6
  let v1888 : BitVec 32 := Scalar.muli c2_i32_904 arg19
  let c1_i32_905 : BitVec 32 := 1#32
  let v1889 : BitVec 32 := Scalar.addi v1888 c1_i32_905
  let c256_i32_906 : BitVec 32 := 256#32
  let v1890 : BitVec 32 := Scalar.muli v1889 c256_i32_906
  v1890
def k0_off117 (i : grid0.Coords) (k0_t6 : Fin (k0_t6_loop i).trips) : Fin 2 → Nat :=
  let c2_i32_904 : BitVec 32 := 2#32
  let c0_i32_584 : BitVec 32 := 0#32
  let c1_i32_586 : BitVec 32 := 1#32
  let arg19 : BitVec 32 := Scf.iv c0_i32_584 c1_i32_586 k0_t6
  let v1888 : BitVec 32 := Scalar.muli c2_i32_904 arg19
  let c1_i32_905 : BitVec 32 := 1#32
  let v1889 : BitVec 32 := Scalar.addi v1888 c1_i32_905
  let c256_i32_906 : BitVec 32 := 256#32
  let v1890 : BitVec 32 := Scalar.muli v1889 c256_i32_906
  let v1891 : BitVec 32 := v1890
  let v1892 : Index := Scalar.indexCast v1891
  let c0_907 : Index := 0#32
  ![v1892.toNat, 0]
def k0_off118 (i : grid0.Coords) (k0_t6 : Fin (k0_t6_loop i).trips) : Fin 3 → Nat :=
  let c2_i32_904 : BitVec 32 := 2#32
  let c0_i32_584 : BitVec 32 := 0#32
  let c1_i32_586 : BitVec 32 := 1#32
  let arg19 : BitVec 32 := Scf.iv c0_i32_584 c1_i32_586 k0_t6
  let v1888 : BitVec 32 := Scalar.muli c2_i32_904 arg19
  let c1_i32_905 : BitVec 32 := 1#32
  let v1889 : BitVec 32 := Scalar.addi v1888 c1_i32_905
  let v1897 : Index := Scalar.indexCast v1889
  let c0_912 : Index := 0#32
  let c0_913 : Index := 0#32
  ![v1897.toNat, 0, 0]
def k0_off119 (i : grid0.Coords) (k0_t6 : Fin (k0_t6_loop i).trips) : Fin 3 → Nat :=
  let c2_i32_903 : BitVec 32 := 2#32
  let c0_i32_584 : BitVec 32 := 0#32
  let c1_i32_586 : BitVec 32 := 1#32
  let arg19 : BitVec 32 := Scf.iv c0_i32_584 c1_i32_586 k0_t6
  let v1887 : BitVec 32 := Scalar.muli c2_i32_903 arg19
  let v1921 : Index := Scalar.indexCast v1887
  let c0_927 : Index := 0#32
  let c0_928 : Index := 0#32
  ![v1921.toNat, 0, 0]
def k0_mult21 (i : grid0.Coords) (k0_t6 : Fin (k0_t6_loop i).trips) : BitVec 32 :=
  let c2_i32_904 : BitVec 32 := 2#32
  let c0_i32_584 : BitVec 32 := 0#32
  let c1_i32_586 : BitVec 32 := 1#32
  let arg19 : BitVec 32 := Scf.iv c0_i32_584 c1_i32_586 k0_t6
  let v1888 : BitVec 32 := Scalar.muli c2_i32_904 arg19
  let c1_i32_905 : BitVec 32 := 1#32
  let v1889 : BitVec 32 := Scalar.addi v1888 c1_i32_905
  let c256_i32_936 : BitVec 32 := 256#32
  let v1932 : BitVec 32 := Scalar.muli v1889 c256_i32_936
  v1932
def k0_mult22 (i : grid0.Coords) (k0_t6 : Fin (k0_t6_loop i).trips) : BitVec 32 :=
  let c2_i32_904 : BitVec 32 := 2#32
  let c0_i32_584 : BitVec 32 := 0#32
  let c1_i32_586 : BitVec 32 := 1#32
  let arg19 : BitVec 32 := Scf.iv c0_i32_584 c1_i32_586 k0_t6
  let v1888 : BitVec 32 := Scalar.muli c2_i32_904 arg19
  let c1_i32_905 : BitVec 32 := 1#32
  let v1889 : BitVec 32 := Scalar.addi v1888 c1_i32_905
  let c256_i32_966 : BitVec 32 := 256#32
  let v1974 : BitVec 32 := Scalar.muli v1889 c256_i32_966
  v1974
def k0_mult23 (i : grid0.Coords) (k0_t6 : Fin (k0_t6_loop i).trips) : BitVec 32 :=
  let c2_i32_904 : BitVec 32 := 2#32
  let c0_i32_584 : BitVec 32 := 0#32
  let c1_i32_586 : BitVec 32 := 1#32
  let arg19 : BitVec 32 := Scf.iv c0_i32_584 c1_i32_586 k0_t6
  let v1888 : BitVec 32 := Scalar.muli c2_i32_904 arg19
  let c1_i32_905 : BitVec 32 := 1#32
  let v1889 : BitVec 32 := Scalar.addi v1888 c1_i32_905
  let c256_i32_996 : BitVec 32 := 256#32
  let v2016 : BitVec 32 := Scalar.muli v1889 c256_i32_996
  v2016
def k0_mult24 (i : grid0.Coords) (k0_t6 : Fin (k0_t6_loop i).trips) : BitVec 32 :=
  let c2_i32_904 : BitVec 32 := 2#32
  let c0_i32_584 : BitVec 32 := 0#32
  let c1_i32_586 : BitVec 32 := 1#32
  let arg19 : BitVec 32 := Scf.iv c0_i32_584 c1_i32_586 k0_t6
  let v1888 : BitVec 32 := Scalar.muli c2_i32_904 arg19
  let c1_i32_905 : BitVec 32 := 1#32
  let v1889 : BitVec 32 := Scalar.addi v1888 c1_i32_905
  let c256_i32_1026 : BitVec 32 := 256#32
  let v2058 : BitVec 32 := Scalar.muli v1889 c256_i32_1026
  v2058
def k0_mult25 (i : grid0.Coords) (k0_t6 : Fin (k0_t6_loop i).trips) : BitVec 32 :=
  let c2_i32_904 : BitVec 32 := 2#32
  let c0_i32_584 : BitVec 32 := 0#32
  let c1_i32_586 : BitVec 32 := 1#32
  let arg19 : BitVec 32 := Scf.iv c0_i32_584 c1_i32_586 k0_t6
  let v1888 : BitVec 32 := Scalar.muli c2_i32_904 arg19
  let c1_i32_905 : BitVec 32 := 1#32
  let v1889 : BitVec 32 := Scalar.addi v1888 c1_i32_905
  let c256_i32_1056 : BitVec 32 := 256#32
  let v2100 : BitVec 32 := Scalar.muli v1889 c256_i32_1056
  v2100
def k0_mult26 (i : grid0.Coords) (k0_t6 : Fin (k0_t6_loop i).trips) : BitVec 32 :=
  let c2_i32_904 : BitVec 32 := 2#32
  let c0_i32_584 : BitVec 32 := 0#32
  let c1_i32_586 : BitVec 32 := 1#32
  let arg19 : BitVec 32 := Scf.iv c0_i32_584 c1_i32_586 k0_t6
  let v1888 : BitVec 32 := Scalar.muli c2_i32_904 arg19
  let c1_i32_905 : BitVec 32 := 1#32
  let v1889 : BitVec 32 := Scalar.addi v1888 c1_i32_905
  let c256_i32_1086 : BitVec 32 := 256#32
  let v2142 : BitVec 32 := Scalar.muli v1889 c256_i32_1086
  v2142
def k0_mult27 (i : grid0.Coords) (k0_t6 : Fin (k0_t6_loop i).trips) : BitVec 32 :=
  let c2_i32_904 : BitVec 32 := 2#32
  let c0_i32_584 : BitVec 32 := 0#32
  let c1_i32_586 : BitVec 32 := 1#32
  let arg19 : BitVec 32 := Scf.iv c0_i32_584 c1_i32_586 k0_t6
  let v1888 : BitVec 32 := Scalar.muli c2_i32_904 arg19
  let c1_i32_905 : BitVec 32 := 1#32
  let v1889 : BitVec 32 := Scalar.addi v1888 c1_i32_905
  let c256_i32_1116 : BitVec 32 := 256#32
  let v2184 : BitVec 32 := Scalar.muli v1889 c256_i32_1116
  v2184
@[reducible] def k0_t7_loop (i : grid0.Coords) : Scf.Loop 32 :=
  let c0_i32_584 : BitVec 32 := 0#32
  let arg1 : BitVec 32 := BitVec.ofNat 32 (i 1).val
  let c0_i32_577 : BitVec 32 := 0#32
  let v1435 : BitVec 1 := Scalar.cmpi .sgt arg1 c0_i32_577
  let v1436 : BitVec 32 := Scalar.extui v1435
  let c0_i32_578 : BitVec 32 := 0#32
  let v1437 : BitVec 1 := Scalar.cmpi .slt arg1 c0_i32_578
  let v1438 : BitVec 32 := Scalar.extui v1437
  let v1439 : BitVec 32 := Scalar.subi v1436 v1438
  let c2_i32_576 : BitVec 32 := 2#32
  let c0_i32_579 : BitVec 32 := 0#32
  let v1440 : BitVec 1 := Scalar.cmpi .sgt c2_i32_576 c0_i32_579
  let v1441 : BitVec 32 := Scalar.extui v1440
  let c0_i32_580 : BitVec 32 := 0#32
  let v1442 : BitVec 1 := Scalar.cmpi .slt c2_i32_576 c0_i32_580
  let v1443 : BitVec 32 := Scalar.extui v1442
  let v1444 : BitVec 32 := Scalar.subi v1441 v1443
  let v1445 : BitVec 1 := Scalar.cmpi .ne v1439 v1444
  let v1446 : BitVec 32 := Scalar.remsi arg1 c2_i32_576
  let c0_i32_581 : BitVec 32 := 0#32
  let v1447 : BitVec 1 := Scalar.cmpi .ne v1446 c0_i32_581
  let v1448 : BitVec 1 := Scalar.andi v1445 v1447
  let v1434 : BitVec 32 := Scalar.divsi arg1 c2_i32_576
  let c1_i32_582 : BitVec 32 := 1#32
  let v1449 : BitVec 32 := Scalar.subi v1434 c1_i32_582
  let v1450 : BitVec 32 := Scalar.select v1448 v1449 v1434
  let v1451 : BitVec 32 := Scalar.subi v1450 c0_i32_584
  let c1_i32_585 : BitVec 32 := 1#32
  let v1453 : BitVec 32 := Scalar.divsi v1451 c1_i32_585
  let v1454 : BitVec 32 := Scalar.muli v1453 c1_i32_585
  let v1455 : BitVec 32 := Scalar.addi c0_i32_584 v1454
  let v1452 : BitVec 32 := Scalar.addi c0_i32_584 v1451
  let c1_i32_587 : BitVec 32 := 1#32
  ⟨v1455, v1452, c1_i32_587⟩
def k0_mult28 (i : grid0.Coords) (k0_t7 : Fin (k0_t7_loop i).trips) : BitVec 32 :=
  let c2_i32_662 : BitVec 32 := 2#32
  let c0_i32_584 : BitVec 32 := 0#32
  let arg1 : BitVec 32 := BitVec.ofNat 32 (i 1).val
  let c0_i32_577 : BitVec 32 := 0#32
  let v1435 : BitVec 1 := Scalar.cmpi .sgt arg1 c0_i32_577
  let v1436 : BitVec 32 := Scalar.extui v1435
  let c0_i32_578 : BitVec 32 := 0#32
  let v1437 : BitVec 1 := Scalar.cmpi .slt arg1 c0_i32_578
  let v1438 : BitVec 32 := Scalar.extui v1437
  let v1439 : BitVec 32 := Scalar.subi v1436 v1438
  let c2_i32_576 : BitVec 32 := 2#32
  let c0_i32_579 : BitVec 32 := 0#32
  let v1440 : BitVec 1 := Scalar.cmpi .sgt c2_i32_576 c0_i32_579
  let v1441 : BitVec 32 := Scalar.extui v1440
  let c0_i32_580 : BitVec 32 := 0#32
  let v1442 : BitVec 1 := Scalar.cmpi .slt c2_i32_576 c0_i32_580
  let v1443 : BitVec 32 := Scalar.extui v1442
  let v1444 : BitVec 32 := Scalar.subi v1441 v1443
  let v1445 : BitVec 1 := Scalar.cmpi .ne v1439 v1444
  let v1446 : BitVec 32 := Scalar.remsi arg1 c2_i32_576
  let c0_i32_581 : BitVec 32 := 0#32
  let v1447 : BitVec 1 := Scalar.cmpi .ne v1446 c0_i32_581
  let v1448 : BitVec 1 := Scalar.andi v1445 v1447
  let v1434 : BitVec 32 := Scalar.divsi arg1 c2_i32_576
  let c1_i32_582 : BitVec 32 := 1#32
  let v1449 : BitVec 32 := Scalar.subi v1434 c1_i32_582
  let v1450 : BitVec 32 := Scalar.select v1448 v1449 v1434
  let v1451 : BitVec 32 := Scalar.subi v1450 c0_i32_584
  let c1_i32_585 : BitVec 32 := 1#32
  let v1453 : BitVec 32 := Scalar.divsi v1451 c1_i32_585
  let v1454 : BitVec 32 := Scalar.muli v1453 c1_i32_585
  let v1455 : BitVec 32 := Scalar.addi c0_i32_584 v1454
  let c1_i32_587 : BitVec 32 := 1#32
  let arg19 : BitVec 32 := Scf.iv v1455 c1_i32_587 k0_t7
  let v1550 : BitVec 32 := Scalar.muli c2_i32_662 arg19
  let c256_i32_663 : BitVec 32 := 256#32
  let v1551 : BitVec 32 := Scalar.muli v1550 c256_i32_663
  v1551
def k0_off120 (i : grid0.Coords) (k0_t7 : Fin (k0_t7_loop i).trips) : Fin 2 → Nat :=
  let c2_i32_662 : BitVec 32 := 2#32
  let c0_i32_584 : BitVec 32 := 0#32
  let arg1 : BitVec 32 := BitVec.ofNat 32 (i 1).val
  let c0_i32_577 : BitVec 32 := 0#32
  let v1435 : BitVec 1 := Scalar.cmpi .sgt arg1 c0_i32_577
  let v1436 : BitVec 32 := Scalar.extui v1435
  let c0_i32_578 : BitVec 32 := 0#32
  let v1437 : BitVec 1 := Scalar.cmpi .slt arg1 c0_i32_578
  let v1438 : BitVec 32 := Scalar.extui v1437
  let v1439 : BitVec 32 := Scalar.subi v1436 v1438
  let c2_i32_576 : BitVec 32 := 2#32
  let c0_i32_579 : BitVec 32 := 0#32
  let v1440 : BitVec 1 := Scalar.cmpi .sgt c2_i32_576 c0_i32_579
  let v1441 : BitVec 32 := Scalar.extui v1440
  let c0_i32_580 : BitVec 32 := 0#32
  let v1442 : BitVec 1 := Scalar.cmpi .slt c2_i32_576 c0_i32_580
  let v1443 : BitVec 32 := Scalar.extui v1442
  let v1444 : BitVec 32 := Scalar.subi v1441 v1443
  let v1445 : BitVec 1 := Scalar.cmpi .ne v1439 v1444
  let v1446 : BitVec 32 := Scalar.remsi arg1 c2_i32_576
  let c0_i32_581 : BitVec 32 := 0#32
  let v1447 : BitVec 1 := Scalar.cmpi .ne v1446 c0_i32_581
  let v1448 : BitVec 1 := Scalar.andi v1445 v1447
  let v1434 : BitVec 32 := Scalar.divsi arg1 c2_i32_576
  let c1_i32_582 : BitVec 32 := 1#32
  let v1449 : BitVec 32 := Scalar.subi v1434 c1_i32_582
  let v1450 : BitVec 32 := Scalar.select v1448 v1449 v1434
  let v1451 : BitVec 32 := Scalar.subi v1450 c0_i32_584
  let c1_i32_585 : BitVec 32 := 1#32
  let v1453 : BitVec 32 := Scalar.divsi v1451 c1_i32_585
  let v1454 : BitVec 32 := Scalar.muli v1453 c1_i32_585
  let v1455 : BitVec 32 := Scalar.addi c0_i32_584 v1454
  let c1_i32_587 : BitVec 32 := 1#32
  let arg19 : BitVec 32 := Scf.iv v1455 c1_i32_587 k0_t7
  let v1550 : BitVec 32 := Scalar.muli c2_i32_662 arg19
  let c256_i32_663 : BitVec 32 := 256#32
  let v1551 : BitVec 32 := Scalar.muli v1550 c256_i32_663
  let v1552 : BitVec 32 := v1551
  let v1553 : Index := Scalar.indexCast v1552
  let c0_664 : Index := 0#32
  ![v1553.toNat, 0]
def k0_off121 (i : grid0.Coords) (k0_t7 : Fin (k0_t7_loop i).trips) : Fin 3 → Nat :=
  let c2_i32_662 : BitVec 32 := 2#32
  let c0_i32_584 : BitVec 32 := 0#32
  let arg1 : BitVec 32 := BitVec.ofNat 32 (i 1).val
  let c0_i32_577 : BitVec 32 := 0#32
  let v1435 : BitVec 1 := Scalar.cmpi .sgt arg1 c0_i32_577
  let v1436 : BitVec 32 := Scalar.extui v1435
  let c0_i32_578 : BitVec 32 := 0#32
  let v1437 : BitVec 1 := Scalar.cmpi .slt arg1 c0_i32_578
  let v1438 : BitVec 32 := Scalar.extui v1437
  let v1439 : BitVec 32 := Scalar.subi v1436 v1438
  let c2_i32_576 : BitVec 32 := 2#32
  let c0_i32_579 : BitVec 32 := 0#32
  let v1440 : BitVec 1 := Scalar.cmpi .sgt c2_i32_576 c0_i32_579
  let v1441 : BitVec 32 := Scalar.extui v1440
  let c0_i32_580 : BitVec 32 := 0#32
  let v1442 : BitVec 1 := Scalar.cmpi .slt c2_i32_576 c0_i32_580
  let v1443 : BitVec 32 := Scalar.extui v1442
  let v1444 : BitVec 32 := Scalar.subi v1441 v1443
  let v1445 : BitVec 1 := Scalar.cmpi .ne v1439 v1444
  let v1446 : BitVec 32 := Scalar.remsi arg1 c2_i32_576
  let c0_i32_581 : BitVec 32 := 0#32
  let v1447 : BitVec 1 := Scalar.cmpi .ne v1446 c0_i32_581
  let v1448 : BitVec 1 := Scalar.andi v1445 v1447
  let v1434 : BitVec 32 := Scalar.divsi arg1 c2_i32_576
  let c1_i32_582 : BitVec 32 := 1#32
  let v1449 : BitVec 32 := Scalar.subi v1434 c1_i32_582
  let v1450 : BitVec 32 := Scalar.select v1448 v1449 v1434
  let v1451 : BitVec 32 := Scalar.subi v1450 c0_i32_584
  let c1_i32_585 : BitVec 32 := 1#32
  let v1453 : BitVec 32 := Scalar.divsi v1451 c1_i32_585
  let v1454 : BitVec 32 := Scalar.muli v1453 c1_i32_585
  let v1455 : BitVec 32 := Scalar.addi c0_i32_584 v1454
  let c1_i32_587 : BitVec 32 := 1#32
  let arg19 : BitVec 32 := Scf.iv v1455 c1_i32_587 k0_t7
  let v1550 : BitVec 32 := Scalar.muli c2_i32_662 arg19
  let v1558 : Index := Scalar.indexCast v1550
  let c0_669 : Index := 0#32
  let c0_670 : Index := 0#32
  ![v1558.toNat, 0, 0]
def k0_off122 (i : grid0.Coords) (k0_t7 : Fin (k0_t7_loop i).trips) : Fin 3 → Nat :=
  let c2_i32_659 : BitVec 32 := 2#32
  let c0_i32_584 : BitVec 32 := 0#32
  let arg1 : BitVec 32 := BitVec.ofNat 32 (i 1).val
  let c0_i32_577 : BitVec 32 := 0#32
  let v1435 : BitVec 1 := Scalar.cmpi .sgt arg1 c0_i32_577
  let v1436 : BitVec 32 := Scalar.extui v1435
  let c0_i32_578 : BitVec 32 := 0#32
  let v1437 : BitVec 1 := Scalar.cmpi .slt arg1 c0_i32_578
  let v1438 : BitVec 32 := Scalar.extui v1437
  let v1439 : BitVec 32 := Scalar.subi v1436 v1438
  let c2_i32_576 : BitVec 32 := 2#32
  let c0_i32_579 : BitVec 32 := 0#32
  let v1440 : BitVec 1 := Scalar.cmpi .sgt c2_i32_576 c0_i32_579
  let v1441 : BitVec 32 := Scalar.extui v1440
  let c0_i32_580 : BitVec 32 := 0#32
  let v1442 : BitVec 1 := Scalar.cmpi .slt c2_i32_576 c0_i32_580
  let v1443 : BitVec 32 := Scalar.extui v1442
  let v1444 : BitVec 32 := Scalar.subi v1441 v1443
  let v1445 : BitVec 1 := Scalar.cmpi .ne v1439 v1444
  let v1446 : BitVec 32 := Scalar.remsi arg1 c2_i32_576
  let c0_i32_581 : BitVec 32 := 0#32
  let v1447 : BitVec 1 := Scalar.cmpi .ne v1446 c0_i32_581
  let v1448 : BitVec 1 := Scalar.andi v1445 v1447
  let v1434 : BitVec 32 := Scalar.divsi arg1 c2_i32_576
  let c1_i32_582 : BitVec 32 := 1#32
  let v1449 : BitVec 32 := Scalar.subi v1434 c1_i32_582
  let v1450 : BitVec 32 := Scalar.select v1448 v1449 v1434
  let v1451 : BitVec 32 := Scalar.subi v1450 c0_i32_584
  let c1_i32_585 : BitVec 32 := 1#32
  let v1453 : BitVec 32 := Scalar.divsi v1451 c1_i32_585
  let v1454 : BitVec 32 := Scalar.muli v1453 c1_i32_585
  let v1455 : BitVec 32 := Scalar.addi c0_i32_584 v1454
  let c1_i32_587 : BitVec 32 := 1#32
  let arg19 : BitVec 32 := Scf.iv v1455 c1_i32_587 k0_t7
  let v1546 : BitVec 32 := Scalar.muli c2_i32_659 arg19
  let c0_i32_660 : BitVec 32 := 0#32
  let v1547 : BitVec 1 := Scalar.cmpi .eq v1546 c0_i32_660
  let c1_i32_661 : BitVec 32 := 1#32
  let v1548 : BitVec 32 := Scalar.subi v1546 c1_i32_661
  let v1549 : BitVec 32 := Scalar.select v1547 arg1 v1548
  let v1582 : Index := Scalar.indexCast v1549
  let c0_684 : Index := 0#32
  let c0_685 : Index := 0#32
  ![v1582.toNat, 0, 0]
def k0_mult29 (i : grid0.Coords) (k0_t7 : Fin (k0_t7_loop i).trips) : BitVec 32 :=
  let c2_i32_662 : BitVec 32 := 2#32
  let c0_i32_584 : BitVec 32 := 0#32
  let arg1 : BitVec 32 := BitVec.ofNat 32 (i 1).val
  let c0_i32_577 : BitVec 32 := 0#32
  let v1435 : BitVec 1 := Scalar.cmpi .sgt arg1 c0_i32_577
  let v1436 : BitVec 32 := Scalar.extui v1435
  let c0_i32_578 : BitVec 32 := 0#32
  let v1437 : BitVec 1 := Scalar.cmpi .slt arg1 c0_i32_578
  let v1438 : BitVec 32 := Scalar.extui v1437
  let v1439 : BitVec 32 := Scalar.subi v1436 v1438
  let c2_i32_576 : BitVec 32 := 2#32
  let c0_i32_579 : BitVec 32 := 0#32
  let v1440 : BitVec 1 := Scalar.cmpi .sgt c2_i32_576 c0_i32_579
  let v1441 : BitVec 32 := Scalar.extui v1440
  let c0_i32_580 : BitVec 32 := 0#32
  let v1442 : BitVec 1 := Scalar.cmpi .slt c2_i32_576 c0_i32_580
  let v1443 : BitVec 32 := Scalar.extui v1442
  let v1444 : BitVec 32 := Scalar.subi v1441 v1443
  let v1445 : BitVec 1 := Scalar.cmpi .ne v1439 v1444
  let v1446 : BitVec 32 := Scalar.remsi arg1 c2_i32_576
  let c0_i32_581 : BitVec 32 := 0#32
  let v1447 : BitVec 1 := Scalar.cmpi .ne v1446 c0_i32_581
  let v1448 : BitVec 1 := Scalar.andi v1445 v1447
  let v1434 : BitVec 32 := Scalar.divsi arg1 c2_i32_576
  let c1_i32_582 : BitVec 32 := 1#32
  let v1449 : BitVec 32 := Scalar.subi v1434 c1_i32_582
  let v1450 : BitVec 32 := Scalar.select v1448 v1449 v1434
  let v1451 : BitVec 32 := Scalar.subi v1450 c0_i32_584
  let c1_i32_585 : BitVec 32 := 1#32
  let v1453 : BitVec 32 := Scalar.divsi v1451 c1_i32_585
  let v1454 : BitVec 32 := Scalar.muli v1453 c1_i32_585
  let v1455 : BitVec 32 := Scalar.addi c0_i32_584 v1454
  let c1_i32_587 : BitVec 32 := 1#32
  let arg19 : BitVec 32 := Scf.iv v1455 c1_i32_587 k0_t7
  let v1550 : BitVec 32 := Scalar.muli c2_i32_662 arg19
  let c256_i32_693 : BitVec 32 := 256#32
  let v1593 : BitVec 32 := Scalar.muli v1550 c256_i32_693
  v1593
def k0_mult30 (i : grid0.Coords) (k0_t7 : Fin (k0_t7_loop i).trips) : BitVec 32 :=
  let c2_i32_662 : BitVec 32 := 2#32
  let c0_i32_584 : BitVec 32 := 0#32
  let arg1 : BitVec 32 := BitVec.ofNat 32 (i 1).val
  let c0_i32_577 : BitVec 32 := 0#32
  let v1435 : BitVec 1 := Scalar.cmpi .sgt arg1 c0_i32_577
  let v1436 : BitVec 32 := Scalar.extui v1435
  let c0_i32_578 : BitVec 32 := 0#32
  let v1437 : BitVec 1 := Scalar.cmpi .slt arg1 c0_i32_578
  let v1438 : BitVec 32 := Scalar.extui v1437
  let v1439 : BitVec 32 := Scalar.subi v1436 v1438
  let c2_i32_576 : BitVec 32 := 2#32
  let c0_i32_579 : BitVec 32 := 0#32
  let v1440 : BitVec 1 := Scalar.cmpi .sgt c2_i32_576 c0_i32_579
  let v1441 : BitVec 32 := Scalar.extui v1440
  let c0_i32_580 : BitVec 32 := 0#32
  let v1442 : BitVec 1 := Scalar.cmpi .slt c2_i32_576 c0_i32_580
  let v1443 : BitVec 32 := Scalar.extui v1442
  let v1444 : BitVec 32 := Scalar.subi v1441 v1443
  let v1445 : BitVec 1 := Scalar.cmpi .ne v1439 v1444
  let v1446 : BitVec 32 := Scalar.remsi arg1 c2_i32_576
  let c0_i32_581 : BitVec 32 := 0#32
  let v1447 : BitVec 1 := Scalar.cmpi .ne v1446 c0_i32_581
  let v1448 : BitVec 1 := Scalar.andi v1445 v1447
  let v1434 : BitVec 32 := Scalar.divsi arg1 c2_i32_576
  let c1_i32_582 : BitVec 32 := 1#32
  let v1449 : BitVec 32 := Scalar.subi v1434 c1_i32_582
  let v1450 : BitVec 32 := Scalar.select v1448 v1449 v1434
  let v1451 : BitVec 32 := Scalar.subi v1450 c0_i32_584
  let c1_i32_585 : BitVec 32 := 1#32
  let v1453 : BitVec 32 := Scalar.divsi v1451 c1_i32_585
  let v1454 : BitVec 32 := Scalar.muli v1453 c1_i32_585
  let v1455 : BitVec 32 := Scalar.addi c0_i32_584 v1454
  let c1_i32_587 : BitVec 32 := 1#32
  let arg19 : BitVec 32 := Scf.iv v1455 c1_i32_587 k0_t7
  let v1550 : BitVec 32 := Scalar.muli c2_i32_662 arg19
  let c256_i32_723 : BitVec 32 := 256#32
  let v1635 : BitVec 32 := Scalar.muli v1550 c256_i32_723
  v1635
def k0_mult31 (i : grid0.Coords) (k0_t7 : Fin (k0_t7_loop i).trips) : BitVec 32 :=
  let c2_i32_662 : BitVec 32 := 2#32
  let c0_i32_584 : BitVec 32 := 0#32
  let arg1 : BitVec 32 := BitVec.ofNat 32 (i 1).val
  let c0_i32_577 : BitVec 32 := 0#32
  let v1435 : BitVec 1 := Scalar.cmpi .sgt arg1 c0_i32_577
  let v1436 : BitVec 32 := Scalar.extui v1435
  let c0_i32_578 : BitVec 32 := 0#32
  let v1437 : BitVec 1 := Scalar.cmpi .slt arg1 c0_i32_578
  let v1438 : BitVec 32 := Scalar.extui v1437
  let v1439 : BitVec 32 := Scalar.subi v1436 v1438
  let c2_i32_576 : BitVec 32 := 2#32
  let c0_i32_579 : BitVec 32 := 0#32
  let v1440 : BitVec 1 := Scalar.cmpi .sgt c2_i32_576 c0_i32_579
  let v1441 : BitVec 32 := Scalar.extui v1440
  let c0_i32_580 : BitVec 32 := 0#32
  let v1442 : BitVec 1 := Scalar.cmpi .slt c2_i32_576 c0_i32_580
  let v1443 : BitVec 32 := Scalar.extui v1442
  let v1444 : BitVec 32 := Scalar.subi v1441 v1443
  let v1445 : BitVec 1 := Scalar.cmpi .ne v1439 v1444
  let v1446 : BitVec 32 := Scalar.remsi arg1 c2_i32_576
  let c0_i32_581 : BitVec 32 := 0#32
  let v1447 : BitVec 1 := Scalar.cmpi .ne v1446 c0_i32_581
  let v1448 : BitVec 1 := Scalar.andi v1445 v1447
  let v1434 : BitVec 32 := Scalar.divsi arg1 c2_i32_576
  let c1_i32_582 : BitVec 32 := 1#32
  let v1449 : BitVec 32 := Scalar.subi v1434 c1_i32_582
  let v1450 : BitVec 32 := Scalar.select v1448 v1449 v1434
  let v1451 : BitVec 32 := Scalar.subi v1450 c0_i32_584
  let c1_i32_585 : BitVec 32 := 1#32
  let v1453 : BitVec 32 := Scalar.divsi v1451 c1_i32_585
  let v1454 : BitVec 32 := Scalar.muli v1453 c1_i32_585
  let v1455 : BitVec 32 := Scalar.addi c0_i32_584 v1454
  let c1_i32_587 : BitVec 32 := 1#32
  let arg19 : BitVec 32 := Scf.iv v1455 c1_i32_587 k0_t7
  let v1550 : BitVec 32 := Scalar.muli c2_i32_662 arg19
  let c256_i32_753 : BitVec 32 := 256#32
  let v1677 : BitVec 32 := Scalar.muli v1550 c256_i32_753
  v1677
def k0_mult32 (i : grid0.Coords) (k0_t7 : Fin (k0_t7_loop i).trips) : BitVec 32 :=
  let c2_i32_662 : BitVec 32 := 2#32
  let c0_i32_584 : BitVec 32 := 0#32
  let arg1 : BitVec 32 := BitVec.ofNat 32 (i 1).val
  let c0_i32_577 : BitVec 32 := 0#32
  let v1435 : BitVec 1 := Scalar.cmpi .sgt arg1 c0_i32_577
  let v1436 : BitVec 32 := Scalar.extui v1435
  let c0_i32_578 : BitVec 32 := 0#32
  let v1437 : BitVec 1 := Scalar.cmpi .slt arg1 c0_i32_578
  let v1438 : BitVec 32 := Scalar.extui v1437
  let v1439 : BitVec 32 := Scalar.subi v1436 v1438
  let c2_i32_576 : BitVec 32 := 2#32
  let c0_i32_579 : BitVec 32 := 0#32
  let v1440 : BitVec 1 := Scalar.cmpi .sgt c2_i32_576 c0_i32_579
  let v1441 : BitVec 32 := Scalar.extui v1440
  let c0_i32_580 : BitVec 32 := 0#32
  let v1442 : BitVec 1 := Scalar.cmpi .slt c2_i32_576 c0_i32_580
  let v1443 : BitVec 32 := Scalar.extui v1442
  let v1444 : BitVec 32 := Scalar.subi v1441 v1443
  let v1445 : BitVec 1 := Scalar.cmpi .ne v1439 v1444
  let v1446 : BitVec 32 := Scalar.remsi arg1 c2_i32_576
  let c0_i32_581 : BitVec 32 := 0#32
  let v1447 : BitVec 1 := Scalar.cmpi .ne v1446 c0_i32_581
  let v1448 : BitVec 1 := Scalar.andi v1445 v1447
  let v1434 : BitVec 32 := Scalar.divsi arg1 c2_i32_576
  let c1_i32_582 : BitVec 32 := 1#32
  let v1449 : BitVec 32 := Scalar.subi v1434 c1_i32_582
  let v1450 : BitVec 32 := Scalar.select v1448 v1449 v1434
  let v1451 : BitVec 32 := Scalar.subi v1450 c0_i32_584
  let c1_i32_585 : BitVec 32 := 1#32
  let v1453 : BitVec 32 := Scalar.divsi v1451 c1_i32_585
  let v1454 : BitVec 32 := Scalar.muli v1453 c1_i32_585
  let v1455 : BitVec 32 := Scalar.addi c0_i32_584 v1454
  let c1_i32_587 : BitVec 32 := 1#32
  let arg19 : BitVec 32 := Scf.iv v1455 c1_i32_587 k0_t7
  let v1550 : BitVec 32 := Scalar.muli c2_i32_662 arg19
  let c256_i32_783 : BitVec 32 := 256#32
  let v1719 : BitVec 32 := Scalar.muli v1550 c256_i32_783
  v1719
def k0_mult33 (i : grid0.Coords) (k0_t7 : Fin (k0_t7_loop i).trips) : BitVec 32 :=
  let c2_i32_662 : BitVec 32 := 2#32
  let c0_i32_584 : BitVec 32 := 0#32
  let arg1 : BitVec 32 := BitVec.ofNat 32 (i 1).val
  let c0_i32_577 : BitVec 32 := 0#32
  let v1435 : BitVec 1 := Scalar.cmpi .sgt arg1 c0_i32_577
  let v1436 : BitVec 32 := Scalar.extui v1435
  let c0_i32_578 : BitVec 32 := 0#32
  let v1437 : BitVec 1 := Scalar.cmpi .slt arg1 c0_i32_578
  let v1438 : BitVec 32 := Scalar.extui v1437
  let v1439 : BitVec 32 := Scalar.subi v1436 v1438
  let c2_i32_576 : BitVec 32 := 2#32
  let c0_i32_579 : BitVec 32 := 0#32
  let v1440 : BitVec 1 := Scalar.cmpi .sgt c2_i32_576 c0_i32_579
  let v1441 : BitVec 32 := Scalar.extui v1440
  let c0_i32_580 : BitVec 32 := 0#32
  let v1442 : BitVec 1 := Scalar.cmpi .slt c2_i32_576 c0_i32_580
  let v1443 : BitVec 32 := Scalar.extui v1442
  let v1444 : BitVec 32 := Scalar.subi v1441 v1443
  let v1445 : BitVec 1 := Scalar.cmpi .ne v1439 v1444
  let v1446 : BitVec 32 := Scalar.remsi arg1 c2_i32_576
  let c0_i32_581 : BitVec 32 := 0#32
  let v1447 : BitVec 1 := Scalar.cmpi .ne v1446 c0_i32_581
  let v1448 : BitVec 1 := Scalar.andi v1445 v1447
  let v1434 : BitVec 32 := Scalar.divsi arg1 c2_i32_576
  let c1_i32_582 : BitVec 32 := 1#32
  let v1449 : BitVec 32 := Scalar.subi v1434 c1_i32_582
  let v1450 : BitVec 32 := Scalar.select v1448 v1449 v1434
  let v1451 : BitVec 32 := Scalar.subi v1450 c0_i32_584
  let c1_i32_585 : BitVec 32 := 1#32
  let v1453 : BitVec 32 := Scalar.divsi v1451 c1_i32_585
  let v1454 : BitVec 32 := Scalar.muli v1453 c1_i32_585
  let v1455 : BitVec 32 := Scalar.addi c0_i32_584 v1454
  let c1_i32_587 : BitVec 32 := 1#32
  let arg19 : BitVec 32 := Scf.iv v1455 c1_i32_587 k0_t7
  let v1550 : BitVec 32 := Scalar.muli c2_i32_662 arg19
  let c256_i32_813 : BitVec 32 := 256#32
  let v1761 : BitVec 32 := Scalar.muli v1550 c256_i32_813
  v1761
def k0_mult34 (i : grid0.Coords) (k0_t7 : Fin (k0_t7_loop i).trips) : BitVec 32 :=
  let c2_i32_662 : BitVec 32 := 2#32
  let c0_i32_584 : BitVec 32 := 0#32
  let arg1 : BitVec 32 := BitVec.ofNat 32 (i 1).val
  let c0_i32_577 : BitVec 32 := 0#32
  let v1435 : BitVec 1 := Scalar.cmpi .sgt arg1 c0_i32_577
  let v1436 : BitVec 32 := Scalar.extui v1435
  let c0_i32_578 : BitVec 32 := 0#32
  let v1437 : BitVec 1 := Scalar.cmpi .slt arg1 c0_i32_578
  let v1438 : BitVec 32 := Scalar.extui v1437
  let v1439 : BitVec 32 := Scalar.subi v1436 v1438
  let c2_i32_576 : BitVec 32 := 2#32
  let c0_i32_579 : BitVec 32 := 0#32
  let v1440 : BitVec 1 := Scalar.cmpi .sgt c2_i32_576 c0_i32_579
  let v1441 : BitVec 32 := Scalar.extui v1440
  let c0_i32_580 : BitVec 32 := 0#32
  let v1442 : BitVec 1 := Scalar.cmpi .slt c2_i32_576 c0_i32_580
  let v1443 : BitVec 32 := Scalar.extui v1442
  let v1444 : BitVec 32 := Scalar.subi v1441 v1443
  let v1445 : BitVec 1 := Scalar.cmpi .ne v1439 v1444
  let v1446 : BitVec 32 := Scalar.remsi arg1 c2_i32_576
  let c0_i32_581 : BitVec 32 := 0#32
  let v1447 : BitVec 1 := Scalar.cmpi .ne v1446 c0_i32_581
  let v1448 : BitVec 1 := Scalar.andi v1445 v1447
  let v1434 : BitVec 32 := Scalar.divsi arg1 c2_i32_576
  let c1_i32_582 : BitVec 32 := 1#32
  let v1449 : BitVec 32 := Scalar.subi v1434 c1_i32_582
  let v1450 : BitVec 32 := Scalar.select v1448 v1449 v1434
  let v1451 : BitVec 32 := Scalar.subi v1450 c0_i32_584
  let c1_i32_585 : BitVec 32 := 1#32
  let v1453 : BitVec 32 := Scalar.divsi v1451 c1_i32_585
  let v1454 : BitVec 32 := Scalar.muli v1453 c1_i32_585
  let v1455 : BitVec 32 := Scalar.addi c0_i32_584 v1454
  let c1_i32_587 : BitVec 32 := 1#32
  let arg19 : BitVec 32 := Scf.iv v1455 c1_i32_587 k0_t7
  let v1550 : BitVec 32 := Scalar.muli c2_i32_662 arg19
  let c256_i32_843 : BitVec 32 := 256#32
  let v1803 : BitVec 32 := Scalar.muli v1550 c256_i32_843
  v1803
def k0_mult35 (i : grid0.Coords) (k0_t7 : Fin (k0_t7_loop i).trips) : BitVec 32 :=
  let c2_i32_662 : BitVec 32 := 2#32
  let c0_i32_584 : BitVec 32 := 0#32
  let arg1 : BitVec 32 := BitVec.ofNat 32 (i 1).val
  let c0_i32_577 : BitVec 32 := 0#32
  let v1435 : BitVec 1 := Scalar.cmpi .sgt arg1 c0_i32_577
  let v1436 : BitVec 32 := Scalar.extui v1435
  let c0_i32_578 : BitVec 32 := 0#32
  let v1437 : BitVec 1 := Scalar.cmpi .slt arg1 c0_i32_578
  let v1438 : BitVec 32 := Scalar.extui v1437
  let v1439 : BitVec 32 := Scalar.subi v1436 v1438
  let c2_i32_576 : BitVec 32 := 2#32
  let c0_i32_579 : BitVec 32 := 0#32
  let v1440 : BitVec 1 := Scalar.cmpi .sgt c2_i32_576 c0_i32_579
  let v1441 : BitVec 32 := Scalar.extui v1440
  let c0_i32_580 : BitVec 32 := 0#32
  let v1442 : BitVec 1 := Scalar.cmpi .slt c2_i32_576 c0_i32_580
  let v1443 : BitVec 32 := Scalar.extui v1442
  let v1444 : BitVec 32 := Scalar.subi v1441 v1443
  let v1445 : BitVec 1 := Scalar.cmpi .ne v1439 v1444
  let v1446 : BitVec 32 := Scalar.remsi arg1 c2_i32_576
  let c0_i32_581 : BitVec 32 := 0#32
  let v1447 : BitVec 1 := Scalar.cmpi .ne v1446 c0_i32_581
  let v1448 : BitVec 1 := Scalar.andi v1445 v1447
  let v1434 : BitVec 32 := Scalar.divsi arg1 c2_i32_576
  let c1_i32_582 : BitVec 32 := 1#32
  let v1449 : BitVec 32 := Scalar.subi v1434 c1_i32_582
  let v1450 : BitVec 32 := Scalar.select v1448 v1449 v1434
  let v1451 : BitVec 32 := Scalar.subi v1450 c0_i32_584
  let c1_i32_585 : BitVec 32 := 1#32
  let v1453 : BitVec 32 := Scalar.divsi v1451 c1_i32_585
  let v1454 : BitVec 32 := Scalar.muli v1453 c1_i32_585
  let v1455 : BitVec 32 := Scalar.addi c0_i32_584 v1454
  let c1_i32_587 : BitVec 32 := 1#32
  let arg19 : BitVec 32 := Scf.iv v1455 c1_i32_587 k0_t7
  let v1550 : BitVec 32 := Scalar.muli c2_i32_662 arg19
  let c256_i32_873 : BitVec 32 := 256#32
  let v1845 : BitVec 32 := Scalar.muli v1550 c256_i32_873
  v1845
def k0_mult36 (i : grid0.Coords) (k0_t7 : Fin (k0_t7_loop i).trips) : BitVec 32 :=
  let c2_i32_904 : BitVec 32 := 2#32
  let c0_i32_584 : BitVec 32 := 0#32
  let arg1 : BitVec 32 := BitVec.ofNat 32 (i 1).val
  let c0_i32_577 : BitVec 32 := 0#32
  let v1435 : BitVec 1 := Scalar.cmpi .sgt arg1 c0_i32_577
  let v1436 : BitVec 32 := Scalar.extui v1435
  let c0_i32_578 : BitVec 32 := 0#32
  let v1437 : BitVec 1 := Scalar.cmpi .slt arg1 c0_i32_578
  let v1438 : BitVec 32 := Scalar.extui v1437
  let v1439 : BitVec 32 := Scalar.subi v1436 v1438
  let c2_i32_576 : BitVec 32 := 2#32
  let c0_i32_579 : BitVec 32 := 0#32
  let v1440 : BitVec 1 := Scalar.cmpi .sgt c2_i32_576 c0_i32_579
  let v1441 : BitVec 32 := Scalar.extui v1440
  let c0_i32_580 : BitVec 32 := 0#32
  let v1442 : BitVec 1 := Scalar.cmpi .slt c2_i32_576 c0_i32_580
  let v1443 : BitVec 32 := Scalar.extui v1442
  let v1444 : BitVec 32 := Scalar.subi v1441 v1443
  let v1445 : BitVec 1 := Scalar.cmpi .ne v1439 v1444
  let v1446 : BitVec 32 := Scalar.remsi arg1 c2_i32_576
  let c0_i32_581 : BitVec 32 := 0#32
  let v1447 : BitVec 1 := Scalar.cmpi .ne v1446 c0_i32_581
  let v1448 : BitVec 1 := Scalar.andi v1445 v1447
  let v1434 : BitVec 32 := Scalar.divsi arg1 c2_i32_576
  let c1_i32_582 : BitVec 32 := 1#32
  let v1449 : BitVec 32 := Scalar.subi v1434 c1_i32_582
  let v1450 : BitVec 32 := Scalar.select v1448 v1449 v1434
  let v1451 : BitVec 32 := Scalar.subi v1450 c0_i32_584
  let c1_i32_585 : BitVec 32 := 1#32
  let v1453 : BitVec 32 := Scalar.divsi v1451 c1_i32_585
  let v1454 : BitVec 32 := Scalar.muli v1453 c1_i32_585
  let v1455 : BitVec 32 := Scalar.addi c0_i32_584 v1454
  let c1_i32_587 : BitVec 32 := 1#32
  let arg19 : BitVec 32 := Scf.iv v1455 c1_i32_587 k0_t7
  let v1888 : BitVec 32 := Scalar.muli c2_i32_904 arg19
  let c1_i32_905 : BitVec 32 := 1#32
  let v1889 : BitVec 32 := Scalar.addi v1888 c1_i32_905
  let c256_i32_906 : BitVec 32 := 256#32
  let v1890 : BitVec 32 := Scalar.muli v1889 c256_i32_906
  v1890
def k0_off123 (i : grid0.Coords) (k0_t7 : Fin (k0_t7_loop i).trips) : Fin 2 → Nat :=
  let c2_i32_904 : BitVec 32 := 2#32
  let c0_i32_584 : BitVec 32 := 0#32
  let arg1 : BitVec 32 := BitVec.ofNat 32 (i 1).val
  let c0_i32_577 : BitVec 32 := 0#32
  let v1435 : BitVec 1 := Scalar.cmpi .sgt arg1 c0_i32_577
  let v1436 : BitVec 32 := Scalar.extui v1435
  let c0_i32_578 : BitVec 32 := 0#32
  let v1437 : BitVec 1 := Scalar.cmpi .slt arg1 c0_i32_578
  let v1438 : BitVec 32 := Scalar.extui v1437
  let v1439 : BitVec 32 := Scalar.subi v1436 v1438
  let c2_i32_576 : BitVec 32 := 2#32
  let c0_i32_579 : BitVec 32 := 0#32
  let v1440 : BitVec 1 := Scalar.cmpi .sgt c2_i32_576 c0_i32_579
  let v1441 : BitVec 32 := Scalar.extui v1440
  let c0_i32_580 : BitVec 32 := 0#32
  let v1442 : BitVec 1 := Scalar.cmpi .slt c2_i32_576 c0_i32_580
  let v1443 : BitVec 32 := Scalar.extui v1442
  let v1444 : BitVec 32 := Scalar.subi v1441 v1443
  let v1445 : BitVec 1 := Scalar.cmpi .ne v1439 v1444
  let v1446 : BitVec 32 := Scalar.remsi arg1 c2_i32_576
  let c0_i32_581 : BitVec 32 := 0#32
  let v1447 : BitVec 1 := Scalar.cmpi .ne v1446 c0_i32_581
  let v1448 : BitVec 1 := Scalar.andi v1445 v1447
  let v1434 : BitVec 32 := Scalar.divsi arg1 c2_i32_576
  let c1_i32_582 : BitVec 32 := 1#32
  let v1449 : BitVec 32 := Scalar.subi v1434 c1_i32_582
  let v1450 : BitVec 32 := Scalar.select v1448 v1449 v1434
  let v1451 : BitVec 32 := Scalar.subi v1450 c0_i32_584
  let c1_i32_585 : BitVec 32 := 1#32
  let v1453 : BitVec 32 := Scalar.divsi v1451 c1_i32_585
  let v1454 : BitVec 32 := Scalar.muli v1453 c1_i32_585
  let v1455 : BitVec 32 := Scalar.addi c0_i32_584 v1454
  let c1_i32_587 : BitVec 32 := 1#32
  let arg19 : BitVec 32 := Scf.iv v1455 c1_i32_587 k0_t7
  let v1888 : BitVec 32 := Scalar.muli c2_i32_904 arg19
  let c1_i32_905 : BitVec 32 := 1#32
  let v1889 : BitVec 32 := Scalar.addi v1888 c1_i32_905
  let c256_i32_906 : BitVec 32 := 256#32
  let v1890 : BitVec 32 := Scalar.muli v1889 c256_i32_906
  let v1891 : BitVec 32 := v1890
  let v1892 : Index := Scalar.indexCast v1891
  let c0_907 : Index := 0#32
  ![v1892.toNat, 0]
def k0_off124 (i : grid0.Coords) (k0_t7 : Fin (k0_t7_loop i).trips) : Fin 3 → Nat :=
  let c2_i32_904 : BitVec 32 := 2#32
  let c0_i32_584 : BitVec 32 := 0#32
  let arg1 : BitVec 32 := BitVec.ofNat 32 (i 1).val
  let c0_i32_577 : BitVec 32 := 0#32
  let v1435 : BitVec 1 := Scalar.cmpi .sgt arg1 c0_i32_577
  let v1436 : BitVec 32 := Scalar.extui v1435
  let c0_i32_578 : BitVec 32 := 0#32
  let v1437 : BitVec 1 := Scalar.cmpi .slt arg1 c0_i32_578
  let v1438 : BitVec 32 := Scalar.extui v1437
  let v1439 : BitVec 32 := Scalar.subi v1436 v1438
  let c2_i32_576 : BitVec 32 := 2#32
  let c0_i32_579 : BitVec 32 := 0#32
  let v1440 : BitVec 1 := Scalar.cmpi .sgt c2_i32_576 c0_i32_579
  let v1441 : BitVec 32 := Scalar.extui v1440
  let c0_i32_580 : BitVec 32 := 0#32
  let v1442 : BitVec 1 := Scalar.cmpi .slt c2_i32_576 c0_i32_580
  let v1443 : BitVec 32 := Scalar.extui v1442
  let v1444 : BitVec 32 := Scalar.subi v1441 v1443
  let v1445 : BitVec 1 := Scalar.cmpi .ne v1439 v1444
  let v1446 : BitVec 32 := Scalar.remsi arg1 c2_i32_576
  let c0_i32_581 : BitVec 32 := 0#32
  let v1447 : BitVec 1 := Scalar.cmpi .ne v1446 c0_i32_581
  let v1448 : BitVec 1 := Scalar.andi v1445 v1447
  let v1434 : BitVec 32 := Scalar.divsi arg1 c2_i32_576
  let c1_i32_582 : BitVec 32 := 1#32
  let v1449 : BitVec 32 := Scalar.subi v1434 c1_i32_582
  let v1450 : BitVec 32 := Scalar.select v1448 v1449 v1434
  let v1451 : BitVec 32 := Scalar.subi v1450 c0_i32_584
  let c1_i32_585 : BitVec 32 := 1#32
  let v1453 : BitVec 32 := Scalar.divsi v1451 c1_i32_585
  let v1454 : BitVec 32 := Scalar.muli v1453 c1_i32_585
  let v1455 : BitVec 32 := Scalar.addi c0_i32_584 v1454
  let c1_i32_587 : BitVec 32 := 1#32
  let arg19 : BitVec 32 := Scf.iv v1455 c1_i32_587 k0_t7
  let v1888 : BitVec 32 := Scalar.muli c2_i32_904 arg19
  let c1_i32_905 : BitVec 32 := 1#32
  let v1889 : BitVec 32 := Scalar.addi v1888 c1_i32_905
  let v1897 : Index := Scalar.indexCast v1889
  let c0_912 : Index := 0#32
  let c0_913 : Index := 0#32
  ![v1897.toNat, 0, 0]
def k0_off125 (i : grid0.Coords) (k0_t7 : Fin (k0_t7_loop i).trips) : Fin 3 → Nat :=
  let c2_i32_903 : BitVec 32 := 2#32
  let c0_i32_584 : BitVec 32 := 0#32
  let arg1 : BitVec 32 := BitVec.ofNat 32 (i 1).val
  let c0_i32_577 : BitVec 32 := 0#32
  let v1435 : BitVec 1 := Scalar.cmpi .sgt arg1 c0_i32_577
  let v1436 : BitVec 32 := Scalar.extui v1435
  let c0_i32_578 : BitVec 32 := 0#32
  let v1437 : BitVec 1 := Scalar.cmpi .slt arg1 c0_i32_578
  let v1438 : BitVec 32 := Scalar.extui v1437
  let v1439 : BitVec 32 := Scalar.subi v1436 v1438
  let c2_i32_576 : BitVec 32 := 2#32
  let c0_i32_579 : BitVec 32 := 0#32
  let v1440 : BitVec 1 := Scalar.cmpi .sgt c2_i32_576 c0_i32_579
  let v1441 : BitVec 32 := Scalar.extui v1440
  let c0_i32_580 : BitVec 32 := 0#32
  let v1442 : BitVec 1 := Scalar.cmpi .slt c2_i32_576 c0_i32_580
  let v1443 : BitVec 32 := Scalar.extui v1442
  let v1444 : BitVec 32 := Scalar.subi v1441 v1443
  let v1445 : BitVec 1 := Scalar.cmpi .ne v1439 v1444
  let v1446 : BitVec 32 := Scalar.remsi arg1 c2_i32_576
  let c0_i32_581 : BitVec 32 := 0#32
  let v1447 : BitVec 1 := Scalar.cmpi .ne v1446 c0_i32_581
  let v1448 : BitVec 1 := Scalar.andi v1445 v1447
  let v1434 : BitVec 32 := Scalar.divsi arg1 c2_i32_576
  let c1_i32_582 : BitVec 32 := 1#32
  let v1449 : BitVec 32 := Scalar.subi v1434 c1_i32_582
  let v1450 : BitVec 32 := Scalar.select v1448 v1449 v1434
  let v1451 : BitVec 32 := Scalar.subi v1450 c0_i32_584
  let c1_i32_585 : BitVec 32 := 1#32
  let v1453 : BitVec 32 := Scalar.divsi v1451 c1_i32_585
  let v1454 : BitVec 32 := Scalar.muli v1453 c1_i32_585
  let v1455 : BitVec 32 := Scalar.addi c0_i32_584 v1454
  let c1_i32_587 : BitVec 32 := 1#32
  let arg19 : BitVec 32 := Scf.iv v1455 c1_i32_587 k0_t7
  let v1887 : BitVec 32 := Scalar.muli c2_i32_903 arg19
  let v1921 : Index := Scalar.indexCast v1887
  let c0_927 : Index := 0#32
  let c0_928 : Index := 0#32
  ![v1921.toNat, 0, 0]
def k0_mult37 (i : grid0.Coords) (k0_t7 : Fin (k0_t7_loop i).trips) : BitVec 32 :=
  let c2_i32_904 : BitVec 32 := 2#32
  let c0_i32_584 : BitVec 32 := 0#32
  let arg1 : BitVec 32 := BitVec.ofNat 32 (i 1).val
  let c0_i32_577 : BitVec 32 := 0#32
  let v1435 : BitVec 1 := Scalar.cmpi .sgt arg1 c0_i32_577
  let v1436 : BitVec 32 := Scalar.extui v1435
  let c0_i32_578 : BitVec 32 := 0#32
  let v1437 : BitVec 1 := Scalar.cmpi .slt arg1 c0_i32_578
  let v1438 : BitVec 32 := Scalar.extui v1437
  let v1439 : BitVec 32 := Scalar.subi v1436 v1438
  let c2_i32_576 : BitVec 32 := 2#32
  let c0_i32_579 : BitVec 32 := 0#32
  let v1440 : BitVec 1 := Scalar.cmpi .sgt c2_i32_576 c0_i32_579
  let v1441 : BitVec 32 := Scalar.extui v1440
  let c0_i32_580 : BitVec 32 := 0#32
  let v1442 : BitVec 1 := Scalar.cmpi .slt c2_i32_576 c0_i32_580
  let v1443 : BitVec 32 := Scalar.extui v1442
  let v1444 : BitVec 32 := Scalar.subi v1441 v1443
  let v1445 : BitVec 1 := Scalar.cmpi .ne v1439 v1444
  let v1446 : BitVec 32 := Scalar.remsi arg1 c2_i32_576
  let c0_i32_581 : BitVec 32 := 0#32
  let v1447 : BitVec 1 := Scalar.cmpi .ne v1446 c0_i32_581
  let v1448 : BitVec 1 := Scalar.andi v1445 v1447
  let v1434 : BitVec 32 := Scalar.divsi arg1 c2_i32_576
  let c1_i32_582 : BitVec 32 := 1#32
  let v1449 : BitVec 32 := Scalar.subi v1434 c1_i32_582
  let v1450 : BitVec 32 := Scalar.select v1448 v1449 v1434
  let v1451 : BitVec 32 := Scalar.subi v1450 c0_i32_584
  let c1_i32_585 : BitVec 32 := 1#32
  let v1453 : BitVec 32 := Scalar.divsi v1451 c1_i32_585
  let v1454 : BitVec 32 := Scalar.muli v1453 c1_i32_585
  let v1455 : BitVec 32 := Scalar.addi c0_i32_584 v1454
  let c1_i32_587 : BitVec 32 := 1#32
  let arg19 : BitVec 32 := Scf.iv v1455 c1_i32_587 k0_t7
  let v1888 : BitVec 32 := Scalar.muli c2_i32_904 arg19
  let c1_i32_905 : BitVec 32 := 1#32
  let v1889 : BitVec 32 := Scalar.addi v1888 c1_i32_905
  let c256_i32_936 : BitVec 32 := 256#32
  let v1932 : BitVec 32 := Scalar.muli v1889 c256_i32_936
  v1932
def k0_mult38 (i : grid0.Coords) (k0_t7 : Fin (k0_t7_loop i).trips) : BitVec 32 :=
  let c2_i32_904 : BitVec 32 := 2#32
  let c0_i32_584 : BitVec 32 := 0#32
  let arg1 : BitVec 32 := BitVec.ofNat 32 (i 1).val
  let c0_i32_577 : BitVec 32 := 0#32
  let v1435 : BitVec 1 := Scalar.cmpi .sgt arg1 c0_i32_577
  let v1436 : BitVec 32 := Scalar.extui v1435
  let c0_i32_578 : BitVec 32 := 0#32
  let v1437 : BitVec 1 := Scalar.cmpi .slt arg1 c0_i32_578
  let v1438 : BitVec 32 := Scalar.extui v1437
  let v1439 : BitVec 32 := Scalar.subi v1436 v1438
  let c2_i32_576 : BitVec 32 := 2#32
  let c0_i32_579 : BitVec 32 := 0#32
  let v1440 : BitVec 1 := Scalar.cmpi .sgt c2_i32_576 c0_i32_579
  let v1441 : BitVec 32 := Scalar.extui v1440
  let c0_i32_580 : BitVec 32 := 0#32
  let v1442 : BitVec 1 := Scalar.cmpi .slt c2_i32_576 c0_i32_580
  let v1443 : BitVec 32 := Scalar.extui v1442
  let v1444 : BitVec 32 := Scalar.subi v1441 v1443
  let v1445 : BitVec 1 := Scalar.cmpi .ne v1439 v1444
  let v1446 : BitVec 32 := Scalar.remsi arg1 c2_i32_576
  let c0_i32_581 : BitVec 32 := 0#32
  let v1447 : BitVec 1 := Scalar.cmpi .ne v1446 c0_i32_581
  let v1448 : BitVec 1 := Scalar.andi v1445 v1447
  let v1434 : BitVec 32 := Scalar.divsi arg1 c2_i32_576
  let c1_i32_582 : BitVec 32 := 1#32
  let v1449 : BitVec 32 := Scalar.subi v1434 c1_i32_582
  let v1450 : BitVec 32 := Scalar.select v1448 v1449 v1434
  let v1451 : BitVec 32 := Scalar.subi v1450 c0_i32_584
  let c1_i32_585 : BitVec 32 := 1#32
  let v1453 : BitVec 32 := Scalar.divsi v1451 c1_i32_585
  let v1454 : BitVec 32 := Scalar.muli v1453 c1_i32_585
  let v1455 : BitVec 32 := Scalar.addi c0_i32_584 v1454
  let c1_i32_587 : BitVec 32 := 1#32
  let arg19 : BitVec 32 := Scf.iv v1455 c1_i32_587 k0_t7
  let v1888 : BitVec 32 := Scalar.muli c2_i32_904 arg19
  let c1_i32_905 : BitVec 32 := 1#32
  let v1889 : BitVec 32 := Scalar.addi v1888 c1_i32_905
  let c256_i32_966 : BitVec 32 := 256#32
  let v1974 : BitVec 32 := Scalar.muli v1889 c256_i32_966
  v1974
def k0_mult39 (i : grid0.Coords) (k0_t7 : Fin (k0_t7_loop i).trips) : BitVec 32 :=
  let c2_i32_904 : BitVec 32 := 2#32
  let c0_i32_584 : BitVec 32 := 0#32
  let arg1 : BitVec 32 := BitVec.ofNat 32 (i 1).val
  let c0_i32_577 : BitVec 32 := 0#32
  let v1435 : BitVec 1 := Scalar.cmpi .sgt arg1 c0_i32_577
  let v1436 : BitVec 32 := Scalar.extui v1435
  let c0_i32_578 : BitVec 32 := 0#32
  let v1437 : BitVec 1 := Scalar.cmpi .slt arg1 c0_i32_578
  let v1438 : BitVec 32 := Scalar.extui v1437
  let v1439 : BitVec 32 := Scalar.subi v1436 v1438
  let c2_i32_576 : BitVec 32 := 2#32
  let c0_i32_579 : BitVec 32 := 0#32
  let v1440 : BitVec 1 := Scalar.cmpi .sgt c2_i32_576 c0_i32_579
  let v1441 : BitVec 32 := Scalar.extui v1440
  let c0_i32_580 : BitVec 32 := 0#32
  let v1442 : BitVec 1 := Scalar.cmpi .slt c2_i32_576 c0_i32_580
  let v1443 : BitVec 32 := Scalar.extui v1442
  let v1444 : BitVec 32 := Scalar.subi v1441 v1443
  let v1445 : BitVec 1 := Scalar.cmpi .ne v1439 v1444
  let v1446 : BitVec 32 := Scalar.remsi arg1 c2_i32_576
  let c0_i32_581 : BitVec 32 := 0#32
  let v1447 : BitVec 1 := Scalar.cmpi .ne v1446 c0_i32_581
  let v1448 : BitVec 1 := Scalar.andi v1445 v1447
  let v1434 : BitVec 32 := Scalar.divsi arg1 c2_i32_576
  let c1_i32_582 : BitVec 32 := 1#32
  let v1449 : BitVec 32 := Scalar.subi v1434 c1_i32_582
  let v1450 : BitVec 32 := Scalar.select v1448 v1449 v1434
  let v1451 : BitVec 32 := Scalar.subi v1450 c0_i32_584
  let c1_i32_585 : BitVec 32 := 1#32
  let v1453 : BitVec 32 := Scalar.divsi v1451 c1_i32_585
  let v1454 : BitVec 32 := Scalar.muli v1453 c1_i32_585
  let v1455 : BitVec 32 := Scalar.addi c0_i32_584 v1454
  let c1_i32_587 : BitVec 32 := 1#32
  let arg19 : BitVec 32 := Scf.iv v1455 c1_i32_587 k0_t7
  let v1888 : BitVec 32 := Scalar.muli c2_i32_904 arg19
  let c1_i32_905 : BitVec 32 := 1#32
  let v1889 : BitVec 32 := Scalar.addi v1888 c1_i32_905
  let c256_i32_996 : BitVec 32 := 256#32
  let v2016 : BitVec 32 := Scalar.muli v1889 c256_i32_996
  v2016
def k0_mult40 (i : grid0.Coords) (k0_t7 : Fin (k0_t7_loop i).trips) : BitVec 32 :=
  let c2_i32_904 : BitVec 32 := 2#32
  let c0_i32_584 : BitVec 32 := 0#32
  let arg1 : BitVec 32 := BitVec.ofNat 32 (i 1).val
  let c0_i32_577 : BitVec 32 := 0#32
  let v1435 : BitVec 1 := Scalar.cmpi .sgt arg1 c0_i32_577
  let v1436 : BitVec 32 := Scalar.extui v1435
  let c0_i32_578 : BitVec 32 := 0#32
  let v1437 : BitVec 1 := Scalar.cmpi .slt arg1 c0_i32_578
  let v1438 : BitVec 32 := Scalar.extui v1437
  let v1439 : BitVec 32 := Scalar.subi v1436 v1438
  let c2_i32_576 : BitVec 32 := 2#32
  let c0_i32_579 : BitVec 32 := 0#32
  let v1440 : BitVec 1 := Scalar.cmpi .sgt c2_i32_576 c0_i32_579
  let v1441 : BitVec 32 := Scalar.extui v1440
  let c0_i32_580 : BitVec 32 := 0#32
  let v1442 : BitVec 1 := Scalar.cmpi .slt c2_i32_576 c0_i32_580
  let v1443 : BitVec 32 := Scalar.extui v1442
  let v1444 : BitVec 32 := Scalar.subi v1441 v1443
  let v1445 : BitVec 1 := Scalar.cmpi .ne v1439 v1444
  let v1446 : BitVec 32 := Scalar.remsi arg1 c2_i32_576
  let c0_i32_581 : BitVec 32 := 0#32
  let v1447 : BitVec 1 := Scalar.cmpi .ne v1446 c0_i32_581
  let v1448 : BitVec 1 := Scalar.andi v1445 v1447
  let v1434 : BitVec 32 := Scalar.divsi arg1 c2_i32_576
  let c1_i32_582 : BitVec 32 := 1#32
  let v1449 : BitVec 32 := Scalar.subi v1434 c1_i32_582
  let v1450 : BitVec 32 := Scalar.select v1448 v1449 v1434
  let v1451 : BitVec 32 := Scalar.subi v1450 c0_i32_584
  let c1_i32_585 : BitVec 32 := 1#32
  let v1453 : BitVec 32 := Scalar.divsi v1451 c1_i32_585
  let v1454 : BitVec 32 := Scalar.muli v1453 c1_i32_585
  let v1455 : BitVec 32 := Scalar.addi c0_i32_584 v1454
  let c1_i32_587 : BitVec 32 := 1#32
  let arg19 : BitVec 32 := Scf.iv v1455 c1_i32_587 k0_t7
  let v1888 : BitVec 32 := Scalar.muli c2_i32_904 arg19
  let c1_i32_905 : BitVec 32 := 1#32
  let v1889 : BitVec 32 := Scalar.addi v1888 c1_i32_905
  let c256_i32_1026 : BitVec 32 := 256#32
  let v2058 : BitVec 32 := Scalar.muli v1889 c256_i32_1026
  v2058
def k0_mult41 (i : grid0.Coords) (k0_t7 : Fin (k0_t7_loop i).trips) : BitVec 32 :=
  let c2_i32_904 : BitVec 32 := 2#32
  let c0_i32_584 : BitVec 32 := 0#32
  let arg1 : BitVec 32 := BitVec.ofNat 32 (i 1).val
  let c0_i32_577 : BitVec 32 := 0#32
  let v1435 : BitVec 1 := Scalar.cmpi .sgt arg1 c0_i32_577
  let v1436 : BitVec 32 := Scalar.extui v1435
  let c0_i32_578 : BitVec 32 := 0#32
  let v1437 : BitVec 1 := Scalar.cmpi .slt arg1 c0_i32_578
  let v1438 : BitVec 32 := Scalar.extui v1437
  let v1439 : BitVec 32 := Scalar.subi v1436 v1438
  let c2_i32_576 : BitVec 32 := 2#32
  let c0_i32_579 : BitVec 32 := 0#32
  let v1440 : BitVec 1 := Scalar.cmpi .sgt c2_i32_576 c0_i32_579
  let v1441 : BitVec 32 := Scalar.extui v1440
  let c0_i32_580 : BitVec 32 := 0#32
  let v1442 : BitVec 1 := Scalar.cmpi .slt c2_i32_576 c0_i32_580
  let v1443 : BitVec 32 := Scalar.extui v1442
  let v1444 : BitVec 32 := Scalar.subi v1441 v1443
  let v1445 : BitVec 1 := Scalar.cmpi .ne v1439 v1444
  let v1446 : BitVec 32 := Scalar.remsi arg1 c2_i32_576
  let c0_i32_581 : BitVec 32 := 0#32
  let v1447 : BitVec 1 := Scalar.cmpi .ne v1446 c0_i32_581
  let v1448 : BitVec 1 := Scalar.andi v1445 v1447
  let v1434 : BitVec 32 := Scalar.divsi arg1 c2_i32_576
  let c1_i32_582 : BitVec 32 := 1#32
  let v1449 : BitVec 32 := Scalar.subi v1434 c1_i32_582
  let v1450 : BitVec 32 := Scalar.select v1448 v1449 v1434
  let v1451 : BitVec 32 := Scalar.subi v1450 c0_i32_584
  let c1_i32_585 : BitVec 32 := 1#32
  let v1453 : BitVec 32 := Scalar.divsi v1451 c1_i32_585
  let v1454 : BitVec 32 := Scalar.muli v1453 c1_i32_585
  let v1455 : BitVec 32 := Scalar.addi c0_i32_584 v1454
  let c1_i32_587 : BitVec 32 := 1#32
  let arg19 : BitVec 32 := Scf.iv v1455 c1_i32_587 k0_t7
  let v1888 : BitVec 32 := Scalar.muli c2_i32_904 arg19
  let c1_i32_905 : BitVec 32 := 1#32
  let v1889 : BitVec 32 := Scalar.addi v1888 c1_i32_905
  let c256_i32_1056 : BitVec 32 := 256#32
  let v2100 : BitVec 32 := Scalar.muli v1889 c256_i32_1056
  v2100
def k0_mult42 (i : grid0.Coords) (k0_t7 : Fin (k0_t7_loop i).trips) : BitVec 32 :=
  let c2_i32_904 : BitVec 32 := 2#32
  let c0_i32_584 : BitVec 32 := 0#32
  let arg1 : BitVec 32 := BitVec.ofNat 32 (i 1).val
  let c0_i32_577 : BitVec 32 := 0#32
  let v1435 : BitVec 1 := Scalar.cmpi .sgt arg1 c0_i32_577
  let v1436 : BitVec 32 := Scalar.extui v1435
  let c0_i32_578 : BitVec 32 := 0#32
  let v1437 : BitVec 1 := Scalar.cmpi .slt arg1 c0_i32_578
  let v1438 : BitVec 32 := Scalar.extui v1437
  let v1439 : BitVec 32 := Scalar.subi v1436 v1438
  let c2_i32_576 : BitVec 32 := 2#32
  let c0_i32_579 : BitVec 32 := 0#32
  let v1440 : BitVec 1 := Scalar.cmpi .sgt c2_i32_576 c0_i32_579
  let v1441 : BitVec 32 := Scalar.extui v1440
  let c0_i32_580 : BitVec 32 := 0#32
  let v1442 : BitVec 1 := Scalar.cmpi .slt c2_i32_576 c0_i32_580
  let v1443 : BitVec 32 := Scalar.extui v1442
  let v1444 : BitVec 32 := Scalar.subi v1441 v1443
  let v1445 : BitVec 1 := Scalar.cmpi .ne v1439 v1444
  let v1446 : BitVec 32 := Scalar.remsi arg1 c2_i32_576
  let c0_i32_581 : BitVec 32 := 0#32
  let v1447 : BitVec 1 := Scalar.cmpi .ne v1446 c0_i32_581
  let v1448 : BitVec 1 := Scalar.andi v1445 v1447
  let v1434 : BitVec 32 := Scalar.divsi arg1 c2_i32_576
  let c1_i32_582 : BitVec 32 := 1#32
  let v1449 : BitVec 32 := Scalar.subi v1434 c1_i32_582
  let v1450 : BitVec 32 := Scalar.select v1448 v1449 v1434
  let v1451 : BitVec 32 := Scalar.subi v1450 c0_i32_584
  let c1_i32_585 : BitVec 32 := 1#32
  let v1453 : BitVec 32 := Scalar.divsi v1451 c1_i32_585
  let v1454 : BitVec 32 := Scalar.muli v1453 c1_i32_585
  let v1455 : BitVec 32 := Scalar.addi c0_i32_584 v1454
  let c1_i32_587 : BitVec 32 := 1#32
  let arg19 : BitVec 32 := Scf.iv v1455 c1_i32_587 k0_t7
  let v1888 : BitVec 32 := Scalar.muli c2_i32_904 arg19
  let c1_i32_905 : BitVec 32 := 1#32
  let v1889 : BitVec 32 := Scalar.addi v1888 c1_i32_905
  let c256_i32_1086 : BitVec 32 := 256#32
  let v2142 : BitVec 32 := Scalar.muli v1889 c256_i32_1086
  v2142
def k0_mult43 (i : grid0.Coords) (k0_t7 : Fin (k0_t7_loop i).trips) : BitVec 32 :=
  let c2_i32_904 : BitVec 32 := 2#32
  let c0_i32_584 : BitVec 32 := 0#32
  let arg1 : BitVec 32 := BitVec.ofNat 32 (i 1).val
  let c0_i32_577 : BitVec 32 := 0#32
  let v1435 : BitVec 1 := Scalar.cmpi .sgt arg1 c0_i32_577
  let v1436 : BitVec 32 := Scalar.extui v1435
  let c0_i32_578 : BitVec 32 := 0#32
  let v1437 : BitVec 1 := Scalar.cmpi .slt arg1 c0_i32_578
  let v1438 : BitVec 32 := Scalar.extui v1437
  let v1439 : BitVec 32 := Scalar.subi v1436 v1438
  let c2_i32_576 : BitVec 32 := 2#32
  let c0_i32_579 : BitVec 32 := 0#32
  let v1440 : BitVec 1 := Scalar.cmpi .sgt c2_i32_576 c0_i32_579
  let v1441 : BitVec 32 := Scalar.extui v1440
  let c0_i32_580 : BitVec 32 := 0#32
  let v1442 : BitVec 1 := Scalar.cmpi .slt c2_i32_576 c0_i32_580
  let v1443 : BitVec 32 := Scalar.extui v1442
  let v1444 : BitVec 32 := Scalar.subi v1441 v1443
  let v1445 : BitVec 1 := Scalar.cmpi .ne v1439 v1444
  let v1446 : BitVec 32 := Scalar.remsi arg1 c2_i32_576
  let c0_i32_581 : BitVec 32 := 0#32
  let v1447 : BitVec 1 := Scalar.cmpi .ne v1446 c0_i32_581
  let v1448 : BitVec 1 := Scalar.andi v1445 v1447
  let v1434 : BitVec 32 := Scalar.divsi arg1 c2_i32_576
  let c1_i32_582 : BitVec 32 := 1#32
  let v1449 : BitVec 32 := Scalar.subi v1434 c1_i32_582
  let v1450 : BitVec 32 := Scalar.select v1448 v1449 v1434
  let v1451 : BitVec 32 := Scalar.subi v1450 c0_i32_584
  let c1_i32_585 : BitVec 32 := 1#32
  let v1453 : BitVec 32 := Scalar.divsi v1451 c1_i32_585
  let v1454 : BitVec 32 := Scalar.muli v1453 c1_i32_585
  let v1455 : BitVec 32 := Scalar.addi c0_i32_584 v1454
  let c1_i32_587 : BitVec 32 := 1#32
  let arg19 : BitVec 32 := Scf.iv v1455 c1_i32_587 k0_t7
  let v1888 : BitVec 32 := Scalar.muli c2_i32_904 arg19
  let c1_i32_905 : BitVec 32 := 1#32
  let v1889 : BitVec 32 := Scalar.addi v1888 c1_i32_905
  let c256_i32_1116 : BitVec 32 := 256#32
  let v2184 : BitVec 32 := Scalar.muli v1889 c256_i32_1116
  v2184
def k0_cond2 (i : grid0.Coords) : BitVec 1 :=
  let arg1 : BitVec 32 := BitVec.ofNat 32 (i 1).val
  let c2_i32_588 : BitVec 32 := 2#32
  let c0_i32_589 : BitVec 32 := 0#32
  let v1456 : BitVec 1 := Scalar.cmpi .eq c2_i32_588 c0_i32_589
  let c1_i32_590 : BitVec 32 := 1#32
  let v1457 : BitVec 32 := Scalar.select v1456 c1_i32_590 c2_i32_588
  let v1458 : BitVec 32 := Scalar.remsi arg1 v1457
  let c0_i32_592 : BitVec 32 := 0#32
  let v1460 : BitVec 1 := Scalar.cmpi .slt v1458 c0_i32_592
  let c0_i32_593 : BitVec 32 := 0#32
  let v1461 : BitVec 1 := Scalar.cmpi .slt v1457 c0_i32_593
  let v1462 : BitVec 1 := Scalar.xori v1460 v1461
  let c0_i32_591 : BitVec 32 := 0#32
  let v1459 : BitVec 1 := Scalar.cmpi .ne v1458 c0_i32_591
  let v1463 : BitVec 1 := Scalar.andi v1462 v1459
  let v1464 : BitVec 32 := Scalar.addi v1458 v1457
  let v1465 : BitVec 32 := Scalar.select v1463 v1464 v1458
  let c0_i32_594 : BitVec 32 := 0#32
  let v1466 : BitVec 1 := Scalar.cmpi .eq v1465 c0_i32_594
  let v1467 : BitVec 32 := Scalar.extui v1466
  let c0_i32_595 : BitVec 32 := 0#32
  let v1468 : BitVec 1 := Scalar.cmpi .ne v1467 c0_i32_595
  v1468

def k0_off126 (i : grid0.Coords) : Fin 3 → Nat :=
  let arg1 : BitVec 32 := BitVec.ofNat 32 (i 1).val
  let c0_i32_659 : BitVec 32 := 0#32
  let v1546 : BitVec 1 := Scalar.cmpi .eq arg1 c0_i32_659
  let c1_i32_660 : BitVec 32 := 1#32
  let v1547 : BitVec 32 := Scalar.subi arg1 c1_i32_660
  let v1548 : BitVec 32 := Scalar.select v1546 arg1 v1547
  let v1566 : Index := Scalar.indexCast v1548
  let c0_671 : Index := 0#32
  let c0_672 : Index := 0#32
  ![v1566.toNat, 0, 0]
def k0_cond3 (i : grid0.Coords) : BitVec 1 :=
  let arg1 : BitVec 32 := BitVec.ofNat 32 (i 1).val
  let c2_i32_596 : BitVec 32 := 2#32
  let c0_i32_597 : BitVec 32 := 0#32
  let v1469 : BitVec 1 := Scalar.cmpi .eq c2_i32_596 c0_i32_597
  let c1_i32_598 : BitVec 32 := 1#32
  let v1470 : BitVec 32 := Scalar.select v1469 c1_i32_598 c2_i32_596
  let v1471 : BitVec 32 := Scalar.remsi arg1 v1470
  let c0_i32_600 : BitVec 32 := 0#32
  let v1473 : BitVec 1 := Scalar.cmpi .slt v1471 c0_i32_600
  let c0_i32_601 : BitVec 32 := 0#32
  let v1474 : BitVec 1 := Scalar.cmpi .slt v1470 c0_i32_601
  let v1475 : BitVec 1 := Scalar.xori v1473 v1474
  let c0_i32_599 : BitVec 32 := 0#32
  let v1472 : BitVec 1 := Scalar.cmpi .ne v1471 c0_i32_599
  let v1476 : BitVec 1 := Scalar.andi v1475 v1472
  let v1477 : BitVec 32 := Scalar.addi v1471 v1470
  let v1478 : BitVec 32 := Scalar.select v1476 v1477 v1471
  let c1_i32_602 : BitVec 32 := 1#32
  let v1479 : BitVec 1 := Scalar.cmpi .eq v1478 c1_i32_602
  let v1480 : BitVec 32 := Scalar.extui v1479
  let c0_i32_603 : BitVec 32 := 0#32
  let v1481 : BitVec 1 := Scalar.cmpi .ne v1480 c0_i32_603
  v1481

def k0_mult44 (i : grid0.Coords) : BitVec 32 :=
  let arg1 : BitVec 32 := BitVec.ofNat 32 (i 1).val
  let c1_i32_662 : BitVec 32 := 1#32
  let v1550 : BitVec 32 := Scalar.subi arg1 c1_i32_662
  let c256_i32_663 : BitVec 32 := 256#32
  let v1551 : BitVec 32 := Scalar.muli v1550 c256_i32_663
  v1551
def k0_off127 (i : grid0.Coords) : Fin 2 → Nat :=
  let arg1 : BitVec 32 := BitVec.ofNat 32 (i 1).val
  let c1_i32_662 : BitVec 32 := 1#32
  let v1550 : BitVec 32 := Scalar.subi arg1 c1_i32_662
  let c256_i32_663 : BitVec 32 := 256#32
  let v1551 : BitVec 32 := Scalar.muli v1550 c256_i32_663
  let v1552 : BitVec 32 := v1551
  let v1553 : Index := Scalar.indexCast v1552
  let c0_664 : Index := 0#32
  ![v1553.toNat, 0]
def k0_off128 (i : grid0.Coords) : Fin 3 → Nat :=
  let arg1 : BitVec 32 := BitVec.ofNat 32 (i 1).val
  let c1_i32_662 : BitVec 32 := 1#32
  let v1550 : BitVec 32 := Scalar.subi arg1 c1_i32_662
  let v1558 : Index := Scalar.indexCast v1550
  let c0_669 : Index := 0#32
  let c0_670 : Index := 0#32
  ![v1558.toNat, 0, 0]
def k0_off129 (i : grid0.Coords) : Fin 3 → Nat :=
  let arg1 : BitVec 32 := BitVec.ofNat 32 (i 1).val
  let c1_i32_659 : BitVec 32 := 1#32
  let v1546 : BitVec 32 := Scalar.subi arg1 c1_i32_659
  let c0_i32_660 : BitVec 32 := 0#32
  let v1547 : BitVec 1 := Scalar.cmpi .eq v1546 c0_i32_660
  let c1_i32_661 : BitVec 32 := 1#32
  let v1548 : BitVec 32 := Scalar.subi v1546 c1_i32_661
  let v1549 : BitVec 32 := Scalar.select v1547 arg1 v1548
  let v1582 : Index := Scalar.indexCast v1549
  let c0_684 : Index := 0#32
  let c0_685 : Index := 0#32
  ![v1582.toNat, 0, 0]
def k0_mult45 (i : grid0.Coords) : BitVec 32 :=
  let arg1 : BitVec 32 := BitVec.ofNat 32 (i 1).val
  let c1_i32_662 : BitVec 32 := 1#32
  let v1550 : BitVec 32 := Scalar.subi arg1 c1_i32_662
  let c256_i32_693 : BitVec 32 := 256#32
  let v1593 : BitVec 32 := Scalar.muli v1550 c256_i32_693
  v1593
def k0_mult46 (i : grid0.Coords) : BitVec 32 :=
  let arg1 : BitVec 32 := BitVec.ofNat 32 (i 1).val
  let c1_i32_662 : BitVec 32 := 1#32
  let v1550 : BitVec 32 := Scalar.subi arg1 c1_i32_662
  let c256_i32_723 : BitVec 32 := 256#32
  let v1635 : BitVec 32 := Scalar.muli v1550 c256_i32_723
  v1635
def k0_mult47 (i : grid0.Coords) : BitVec 32 :=
  let arg1 : BitVec 32 := BitVec.ofNat 32 (i 1).val
  let c1_i32_662 : BitVec 32 := 1#32
  let v1550 : BitVec 32 := Scalar.subi arg1 c1_i32_662
  let c256_i32_753 : BitVec 32 := 256#32
  let v1677 : BitVec 32 := Scalar.muli v1550 c256_i32_753
  v1677
def k0_mult48 (i : grid0.Coords) : BitVec 32 :=
  let arg1 : BitVec 32 := BitVec.ofNat 32 (i 1).val
  let c1_i32_662 : BitVec 32 := 1#32
  let v1550 : BitVec 32 := Scalar.subi arg1 c1_i32_662
  let c256_i32_783 : BitVec 32 := 256#32
  let v1719 : BitVec 32 := Scalar.muli v1550 c256_i32_783
  v1719
def k0_mult49 (i : grid0.Coords) : BitVec 32 :=
  let arg1 : BitVec 32 := BitVec.ofNat 32 (i 1).val
  let c1_i32_662 : BitVec 32 := 1#32
  let v1550 : BitVec 32 := Scalar.subi arg1 c1_i32_662
  let c256_i32_813 : BitVec 32 := 256#32
  let v1761 : BitVec 32 := Scalar.muli v1550 c256_i32_813
  v1761
def k0_mult50 (i : grid0.Coords) : BitVec 32 :=
  let arg1 : BitVec 32 := BitVec.ofNat 32 (i 1).val
  let c1_i32_662 : BitVec 32 := 1#32
  let v1550 : BitVec 32 := Scalar.subi arg1 c1_i32_662
  let c256_i32_843 : BitVec 32 := 256#32
  let v1803 : BitVec 32 := Scalar.muli v1550 c256_i32_843
  v1803
def k0_mult51 (i : grid0.Coords) : BitVec 32 :=
  let arg1 : BitVec 32 := BitVec.ofNat 32 (i 1).val
  let c1_i32_662 : BitVec 32 := 1#32
  let v1550 : BitVec 32 := Scalar.subi arg1 c1_i32_662
  let c256_i32_873 : BitVec 32 := 256#32
  let v1845 : BitVec 32 := Scalar.muli v1550 c256_i32_873
  v1845
def k0_off130 (i : grid0.Coords) : Fin 3 → Nat :=
  let arg1 : BitVec 32 := BitVec.ofNat 32 (i 1).val
  let c1_i32_903 : BitVec 32 := 1#32
  let v1887 : BitVec 32 := Scalar.subi arg1 c1_i32_903
  let v1905 : Index := Scalar.indexCast v1887
  let c0_914 : Index := 0#32
  let c0_915 : Index := 0#32
  ![v1905.toNat, 0, 0]
def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c20_i32 : BitVec 32 := 20#32
  let c0_i32 : BitVec 32 := 0#32
  ![v1.toNat, c20_i32.toNat]

def cc0_transform_1 (i : grid0.Coords) : Fin 2 → Nat :=
  let arg0 : BitVec 32 := BitVec.ofNat 32 (i 0).val
  let arg1 : BitVec 32 := BitVec.ofNat 32 (i 1).val
  let c21_i32 : BitVec 32 := 21#32
  let c0_i32 : BitVec 32 := 0#32
  ![arg0.toNat, c21_i32.toNat]

def cc0_transform_2 (i : grid0.Coords) : Fin 2 → Nat :=
  let arg0 : BitVec 32 := BitVec.ofNat 32 (i 0).val
  let arg1 : BitVec 32 := BitVec.ofNat 32 (i 1).val
  let c20_i32 : BitVec 32 := 20#32
  let c0_i32 : BitVec 32 := 0#32
  ![arg0.toNat, c20_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c6_i32 : BitVec 32 := 6#32
  let c0_i32 : BitVec 32 := 0#32
  ![v1.toNat, c6_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Merge.lean ====
abbrev S16384x1024 : Shape := ⟨2, ![16384, 1024]⟩
abbrev S1024 : Shape := ⟨1, ![1024]⟩
abbrev S16384x512 : Shape := ⟨2, ![16384, 512]⟩
abbrev S1024x4096 : Shape := ⟨2, ![1024, 4096]⟩
abbrev S4x512x1024 : Shape := ⟨3, ![4, 512, 1024]⟩
abbrev S1024x1024 : Shape := ⟨2, ![1024, 1024]⟩
abbrev S1x1024 : Shape := ⟨2, ![1, 1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S1x512x1024 : Shape := ⟨3, ![1, 512, 1024]⟩

abbrev nBuf : Space → Nat
  | .hbm => 13
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x512, .bf16⟩
  | .hbm, ⟨3, _⟩ => ⟨S16384x512, .bf16⟩
  | .hbm, ⟨4, _⟩ => ⟨S16384x512, .bf16⟩
  | .hbm, ⟨5, _⟩ => ⟨S16384x512, .bf16⟩
  | .hbm, ⟨6, _⟩ => ⟨S1024x4096, .bf16⟩
  | .hbm, ⟨7, _⟩ => ⟨S4x512x1024, .f32⟩
  | .hbm, ⟨8, _⟩ => ⟨S1024x1024, .f32⟩
  | .hbm, ⟨9, _⟩ => ⟨S1x1024, .f32⟩
  | .hbm, ⟨10, _⟩ => ⟨S4x512x1024, .bf16⟩
  | .hbm, ⟨11, _⟩ => ⟨S1024x1024, .bf16⟩
  | .hbm, ⟨12, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S1024x4096, .bf16⟩
  | .local _ .vmem, ⟨12, _⟩ => ⟨S4x512x1024, .bf16⟩
  | .local _ .vmem, ⟨13, _⟩ => ⟨S1024x1024, .bf16⟩
  | .local _ .vmem, ⟨14, _⟩ => ⟨S512x1024, .f32⟩
  | .local _ .vmem, ⟨15, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MergeRefIdeal.lean ====
abbrev S16384x1024 : Shape := ⟨2, ![16384, 1024]⟩
abbrev S1024 : Shape := ⟨1, ![1024]⟩
abbrev S16384x512 : Shape := ⟨2, ![16384, 512]⟩
abbrev S1024x4096 : Shape := ⟨2, ![1024, 4096]⟩
abbrev S4x512x1024 : Shape := ⟨3, ![4, 512, 1024]⟩
abbrev S1024x1024 : Shape := ⟨2, ![1024, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4096 : Shape := ⟨2, ![16384, 4096]⟩
abbrev S16384x4x1024 : Shape := ⟨3, ![16384, 4, 1024]⟩
abbrev S16384x1x512 : Shape := ⟨3, ![16384, 1, 512]⟩
abbrev S16384x4x512 : Shape := ⟨3, ![16384, 4, 512]⟩
abbrev S4x1024x16384 : Shape := ⟨3, ![4, 1024, 16384]⟩

abbrev nBuf : Space → Nat
  | .hbm => 49
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x512, .bf16⟩
  | .hbm, ⟨3, _⟩ => ⟨S16384x512, .bf16⟩
  | .hbm, ⟨4, _⟩ => ⟨S16384x512, .bf16⟩
  | .hbm, ⟨5, _⟩ => ⟨S16384x512, .bf16⟩
  | .hbm, ⟨6, _⟩ => ⟨S1024x4096, .bf16⟩
  | .hbm, ⟨7, _⟩ => ⟨S4x512x1024, .f32⟩
  | .hbm, ⟨8, _⟩ => ⟨S1024x1024, .f32⟩
  | .hbm, ⟨9, _⟩ => ⟨S16384x1024, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S1024x4096, .f32⟩
  | .hbm, ⟨26, _⟩ => ⟨S16384x4096, .f32⟩
  | .hbm, ⟨27, _⟩ => ⟨S16384x4096, .f32⟩
  | .hbm, ⟨28, _⟩ => ⟨S16384x4096, .f32⟩
  | .hbm, ⟨29, _⟩ => ⟨S_, .f32⟩
  | .hbm, ⟨30, _⟩ => ⟨S16384x4096, .f32⟩
  | .hbm, ⟨31, _⟩ => ⟨S16384x4096, .f32⟩
  | .hbm, ⟨32, _⟩ => ⟨S_, .f32⟩
  | .hbm, ⟨33, _⟩ => ⟨S16384x4096, .f32⟩
  | .hbm, ⟨34, _⟩ => ⟨S16384x4096, .f32⟩
  | .hbm, ⟨35, _⟩ => ⟨S16384x4x1024, .f32⟩
  | .hbm, ⟨36, _⟩ => ⟨S16384x1x512, .bf16⟩
  | .hbm, ⟨37, _⟩ => ⟨S16384x1x512, .bf16⟩
  | .hbm, ⟨38, _⟩ => ⟨S16384x1x512, .bf16⟩
  | .hbm, ⟨39, _⟩ => ⟨S16384x1x512, .bf16⟩
  | .hbm, ⟨40, _⟩ => ⟨S16384x4x512, .bf16⟩
  | .hbm, ⟨41, _⟩ => ⟨S16384x4x512, .f32⟩
  | .hbm, ⟨42, _⟩ => ⟨S4x1024x16384, .f32⟩
  | .hbm, ⟨43, _⟩ => ⟨S16384x4x1024, .f32⟩
  | .hbm, ⟨44, _⟩ => ⟨S16384x4x1024, .f32⟩
  | .hbm, ⟨45, _⟩ => ⟨S_, .f32⟩
  | .hbm, ⟨46, _⟩ => ⟨S16384x1024, .f32⟩
  | .hbm, ⟨47, _⟩ => ⟨S16384x1024, .f32⟩
  | .hbm, ⟨48, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_4 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩

abbrev nD : Nat := 1
abbrev τ : Topo := Topo.v7x

variable {F : FTy → Type} [FloatOps F]
-- ==== Ffn.lean ====
abbrev S16384x1024 : Shape := ⟨2, ![16384, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1x1024 : Shape := ⟨2, ![1, 1024]⟩
abbrev S1x5632 : Shape := ⟨2, ![1, 5632]⟩
abbrev S512x1024 : Shape := ⟨2, ![512, 1024]⟩
abbrev S8x5632 : Shape := ⟨2, ![8, 5632]⟩
abbrev S4x520x256 : Shape := ⟨3, ![4, 520, 256]⟩
abbrev S512x2816 : Shape := ⟨2, ![512, 2816]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S8x256 : Shape := ⟨2, ![8, 256]⟩
abbrev S1x8x256 : Shape := ⟨3, ![1, 8, 256]⟩
abbrev S1x512x256 : Shape := ⟨3, ![1, 512, 256]⟩
abbrev S3x256 : Shape := ⟨2, ![3, 256]⟩
abbrev S1x256 : Shape := ⟨2, ![1, 256]⟩

abbrev nBuf : Space → Nat
  | .hbm => 13
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S1024, .f32⟩
  | .hbm, ⟨7, _⟩ => ⟨S1x1024, .f32⟩
  | .hbm, ⟨8, _⟩ => ⟨S1024x5632, .bf16⟩
  | .hbm, ⟨9, _⟩ => ⟨S1x5632, .f32⟩
  | .hbm, ⟨10, _⟩ => ⟨S2816x1024, .bf16⟩
  | .hbm, ⟨11, _⟩ => ⟨S1x1024, .f32⟩
  | .hbm, ⟨12, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5632, .bf16⟩
  | .local _ .vmem, ⟨4, _⟩ => ⟨S3x5632, .f32⟩
  | .local _ .vmem, ⟨5, _⟩ => ⟨S1x5632, .f32⟩
  | .local _ .vmem, ⟨6, _⟩ => ⟨S2816x1024, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S8x5632, .f32⟩
  | .local _ .vmem, ⟨11, _⟩ => ⟨S4x520x256, .f32⟩
  | .local _ .vmem, ⟨12, _⟩ => ⟨S512x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S3x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== FfnRefIdeal.lean ====
abbrev S16384x1024 : Shape := ⟨2, ![16384, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S8x2048x1024 : Shape := ⟨3, ![8, 2048, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x5632 : Shape := ⟨3, ![8, 2048, 5632]⟩
abbrev S8x2x5632 : Shape := ⟨3, ![8, 2, 5632]⟩
abbrev S8x2050x5632 : Shape := ⟨3, ![8, 2050, 5632]⟩
abbrev S1x5632 : Shape := ⟨2, ![1, 5632]⟩
abbrev S1x1x5632 : Shape := ⟨3, ![1, 1, 5632]⟩
abbrev S8x2048x2816 : Shape := ⟨3, ![8, 2048, 2816]⟩

abbrev nBuf : Space → Nat
  | .hbm => 83
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S1024, .f32⟩
  | .hbm, ⟨7, _⟩ => ⟨S8x2048x1024, .f32⟩
  | .hbm, ⟨8, _⟩ => ⟨S8x2048x1024, .f32⟩
  | .hbm, ⟨9, _⟩ => ⟨S_, .f32⟩
  | .hbm, ⟨10, _⟩ => ⟨S8x2048, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S_, .f32⟩
  | .hbm, ⟨16, _⟩ => ⟨S8x2048x1, .f32⟩
  | .hbm, ⟨17, _⟩ => ⟨S8x2048x1, .f32⟩
  | .hbm, ⟨18, _⟩ => ⟨S8x2048x1, .f32⟩
  | .hbm, ⟨19, _⟩ => ⟨S8x2048x1024, .f32⟩
  | .hbm, ⟨20, _⟩ => ⟨S8x2048x1024, .f32⟩
  | .hbm, ⟨21, _⟩ => ⟨S1x1x1024, .f32⟩
  | .hbm, ⟨22, _⟩ => ⟨S8x2048x1024, .f32⟩
  | .hbm, ⟨23, _⟩ => ⟨S8x2048x1024, .f32⟩
  | .hbm, ⟨24, _⟩ => ⟨S8x2048x5632, .f32⟩
  | .hbm, ⟨25, _⟩ => ⟨S8x2x5632, .f32⟩
  | .hbm, ⟨26, _⟩ => ⟨S_, .f32⟩
  | .hbm, ⟨27, _⟩ => ⟨S8x2x5632, .f32⟩
  | .hbm, ⟨28, _⟩ => ⟨S8x2050x5632, .f32⟩
  | .hbm, ⟨29, _⟩ => ⟨S1x5632, .f32⟩
  | .hbm, ⟨30, _⟩ => ⟨S5632, .f32⟩
  | .hbm, ⟨31, _⟩ => ⟨S8x2048x5632, .f32⟩
  | .hbm, ⟨32, _⟩ => ⟨S1x1x5632, .f32⟩
  | .hbm, ⟨33, _⟩ => ⟨S8x2048x5632, .f32⟩
  | .hbm, ⟨34, _⟩ => ⟨S8x2048x5632, .f32⟩
  | .hbm, ⟨35, _⟩ => ⟨S1x5632, .f32⟩
  | .hbm, ⟨36, _⟩ => ⟨S5632, .f32⟩
  | .hbm, ⟨37, _⟩ => ⟨S8x2048x5632, .f32⟩
  | .hbm, ⟨38, _⟩ => ⟨S1x1x5632, .f32⟩
  | .hbm, ⟨39, _⟩ => ⟨S8x2048x5632, .f32⟩
  | .hbm, ⟨40, _⟩ => ⟨S8x2048x5632, .f32⟩
  | .hbm, ⟨41, _⟩ => ⟨S8x2048x5632, .f32⟩
  | .hbm, ⟨42, _⟩ => ⟨S1x5632, .f32⟩
  | .hbm, ⟨43, _⟩ => ⟨S5632, .f32⟩
  | .hbm, ⟨44, _⟩ => ⟨S8x2048x5632, .f32⟩
  | .hbm, ⟨45, _⟩ => ⟨S1x1x5632, .f32⟩
  | .hbm, ⟨46, _⟩ => ⟨S8x2048x5632, .f32⟩
  | .hbm, ⟨47, _⟩ => ⟨S8x2048x5632, .f32⟩
  | .hbm, ⟨48, _⟩ => ⟨S8x2048x5632, .f32⟩
  | .hbm, ⟨49, _⟩ => ⟨S1x1x5632, .f32⟩
  | .hbm, ⟨50, _⟩ => ⟨S8x2048x5632, .f32⟩
  | .hbm, ⟨51, _⟩ => ⟨S8x2048x5632, .f32⟩
  | .hbm, ⟨52, _⟩ => ⟨S8x2048x2816, .f32⟩
  | .hbm, ⟨53, _⟩ => ⟨S8x2048x2816, .f32⟩
  | .hbm, ⟨54, _⟩ => ⟨S8x2048x2816, .f32⟩
  | .hbm, ⟨55, _⟩ => ⟨S8x2048x2816, .f32⟩
  | .hbm, ⟨56, _⟩ => ⟨S_, .f32⟩
  | .hbm, ⟨57, _⟩ => ⟨S8x2048x2816, .f32⟩
  | .hbm, ⟨58, _⟩ => ⟨S8x2048x2816, .f32⟩
  | .hbm, ⟨59, _⟩ => ⟨S_, .f32⟩
  | .hbm, ⟨60, _⟩ => ⟨S8x2048x2816, .f32⟩
  | .hbm, ⟨61, _⟩ => ⟨S8x2048x2816, .f32⟩
  | .hbm, ⟨62, _⟩ => ⟨S8x2048x2816, .f32⟩
  | .hbm, ⟨63, _⟩ => ⟨S8x2048x2816, .f32⟩
  | .hbm, ⟨64, _⟩ => ⟨S8x2048x1024, .f32⟩
  | .hbm, ⟨65, _⟩ => ⟨S8x2048x1024, .f32⟩
  | .hbm, ⟨66, _⟩ => ⟨S8x2048x1024, .f32⟩
  | .hbm, ⟨67, _⟩ => ⟨S_, .f32⟩
  | .hbm, ⟨68, _⟩ => ⟨S8x2048, .f32⟩
  | .hbm, ⟨69, _⟩ => ⟨S8x2048x1, .f32⟩
  | .hbm, ⟨70, _⟩ => ⟨S_, .f32⟩
  | .hbm, ⟨71, _⟩ => ⟨S8x2048x1, .f32⟩
  | .hbm, ⟨72, _⟩ => ⟨S8x2048x1, .f32⟩
  | .hbm, ⟨73, _⟩ => ⟨S_, .f32⟩
  | .hbm, ⟨74, _⟩ => ⟨S8x2048x1, .f32⟩
  | .hbm, ⟨75, _⟩ => ⟨S8x2048x1, .f32⟩
  | .hbm, ⟨76, _⟩ => ⟨S8x2048x1, .f32⟩
  | .hbm, ⟨77, _⟩ => ⟨S8x2048x1024, .f32⟩
  | .hbm, ⟨78, _⟩ => ⟨S8x2048x1024, .f32⟩
  | .hbm, ⟨79, _⟩ => ⟨S1x1x1024, .f32⟩
  | .hbm, ⟨80, _⟩ => ⟨S8x2048x1024, .f32⟩
  | .hbm, ⟨81, _⟩ => ⟨S8x2048x1024, .f32⟩
  | .hbm, ⟨82, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_3 : Ref sig .tc := ⟨.hbm, 56, rfl⟩
abbrev main_v45 : Ref sig .tc := ⟨.hbm, 57, rfl⟩
abbrev main_v46 : Ref sig .tc := ⟨.hbm, 58, rfl⟩
abbrev main_cst_4 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_cst_5 : Ref sig .tc := ⟨.hbm, 67, rfl⟩
abbrev main_v54 : Ref sig .tc := ⟨.hbm, 68, rfl⟩
abbrev main_v55 : Ref sig .tc := ⟨.hbm, 69, rfl⟩
abbrev main_cst_6 : Ref sig .tc := ⟨.hbm, 70, rfl⟩
abbrev main_v56 : Ref sig .tc := ⟨.hbm, 71, rfl⟩
abbrev main_v57 : Ref sig .tc := ⟨.hbm, 72, rfl⟩
abbrev main_cst_7 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩

abbrev nD : Nat := 1
abbrev τ : Topo := Topo.v7x

variable {F : FTy → Type} [FloatOps F]
-- ==== FfnMid.lean ====
abbrev S16384x1024 : Shape := ⟨2, ![16384, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1x1024 : Shape := ⟨2, ![1, 1024]⟩
abbrev S1x5632 : Shape := ⟨2, ![1, 5632]⟩
abbrev S512x1024 : Shape := ⟨2, ![512, 1024]⟩
abbrev S8x5632 : Shape := ⟨2, ![8, 5632]⟩
abbrev S4x520x256 : Shape := ⟨3, ![4, 520, 256]⟩
abbrev S512x2816 : Shape := ⟨2, ![512, 2816]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S8x256 : Shape := ⟨2, ![8, 256]⟩
abbrev S1x8x256 : Shape := ⟨3, ![1, 8, 256]⟩
abbrev S1x512x256 : Shape := ⟨3, ![1, 512, 256]⟩
abbrev S3x256 : Shape := ⟨2, ![3, 256]⟩
abbrev S1x256 : Shape := ⟨2, ![1, 256]⟩

abbrev nBuf : Space → Nat
  | .hbm => 13
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S1024, .f32⟩
  | .hbm, ⟨7, _⟩ => ⟨S1x1024, .f32⟩
  | .hbm, ⟨8, _⟩ => ⟨S1024x5632, .bf16⟩
  | .hbm, ⟨9, _⟩ => ⟨S1x5632, .f32⟩
  | .hbm, ⟨10, _⟩ => ⟨S2816x1024, .bf16⟩
  | .hbm, ⟨11, _⟩ => ⟨S1x1024, .f32⟩
  | .hbm, ⟨12, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5632, .bf16⟩
  | .local _ .vmem, ⟨4, _⟩ => ⟨S3x5632, .f32⟩
  | .local _ .vmem, ⟨5, _⟩ => ⟨S1x5632, .f32⟩
  | .local _ .vmem, ⟨6, _⟩ => ⟨S2816x1024, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S8x5632, .f32⟩
  | .local _ .vmem, ⟨11, _⟩ => ⟨S4x520x256, .f32⟩
  | .local _ .vmem, ⟨12, _⟩ => ⟨S512x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S3x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== FfnMidRefIdeal.lean ====
abbrev S16384x1024 : Shape := ⟨2, ![16384, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S8x2048x1024 : Shape := ⟨3, ![8, 2048, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x5632 : Shape := ⟨3, ![8, 2048, 5632]⟩
abbrev S8x2x5632 : Shape := ⟨3, ![8, 2, 5632]⟩
abbrev S8x2050x5632 : Shape := ⟨3, ![8, 2050, 5632]⟩
abbrev S1x5632 : Shape := ⟨2, ![1, 5632]⟩
abbrev S1x1x5632 : Shape := ⟨3, ![1, 1, 5632]⟩
abbrev S8x2048x2816 : Shape := ⟨3, ![8, 2048, 2816]⟩

abbrev nBuf : Space → Nat
  | .hbm => 67
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S1024, .f32⟩
  | .hbm, ⟨7, _⟩ => ⟨S8x2048x1024, .f32⟩
  | .hbm, ⟨8, _⟩ => ⟨S8x2048x1024, .f32⟩
  | .hbm, ⟨9, _⟩ => ⟨S_, .f32⟩
  | .hbm, ⟨10, _⟩ => ⟨S8x2048, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S_, .f32⟩
  | .hbm, ⟨16, _⟩ => ⟨S8x2048x1, .f32⟩
  | .hbm, ⟨17, _⟩ => ⟨S8x2048x1, .f32⟩
  | .hbm, ⟨18, _⟩ => ⟨S8x2048x1, .f32⟩
  | .hbm, ⟨19, _⟩ => ⟨S8x2048x1024, .f32⟩
  | .hbm, ⟨20, _⟩ => ⟨S8x2048x1024, .f32⟩
  | .hbm, ⟨21, _⟩ => ⟨S1x1x1024, .f32⟩
  | .hbm, ⟨22, _⟩ => ⟨S8x2048x1024, .f32⟩
  | .hbm, ⟨23, _⟩ => ⟨S8x2048x1024, .f32⟩
  | .hbm, ⟨24, _⟩ => ⟨S8x2048x5632, .f32⟩
  | .hbm, ⟨25, _⟩ => ⟨S8x2x5632, .f32⟩
  | .hbm, ⟨26, _⟩ => ⟨S_, .f32⟩
  | .hbm, ⟨27, _⟩ => ⟨S8x2x5632, .f32⟩
  | .hbm, ⟨28, _⟩ => ⟨S8x2050x5632, .f32⟩
  | .hbm, ⟨29, _⟩ => ⟨S1x5632, .f32⟩
  | .hbm, ⟨30, _⟩ => ⟨S5632, .f32⟩
  | .hbm, ⟨31, _⟩ => ⟨S8x2048x5632, .f32⟩
  | .hbm, ⟨32, _⟩ => ⟨S1x1x5632, .f32⟩
  | .hbm, ⟨33, _⟩ => ⟨S8x2048x5632, .f32⟩
  | .hbm, ⟨34, _⟩ => ⟨S8x2048x5632, .f32⟩
  | .hbm, ⟨35, _⟩ => ⟨S1x5632, .f32⟩
  | .hbm, ⟨36, _⟩ => ⟨S5632, .f32⟩
  | .hbm, ⟨37, _⟩ => ⟨S8x2048x5632, .f32⟩
  | .hbm, ⟨38, _⟩ => ⟨S1x1x5632, .f32⟩
  | .hbm, ⟨39, _⟩ => ⟨S8x2048x5632, .f32⟩
  | .hbm, ⟨40, _⟩ => ⟨S8x2048x5632, .f32⟩
  | .hbm, ⟨41, _⟩ => ⟨S8x2048x5632, .f32⟩
  | .hbm, ⟨42, _⟩ => ⟨S1x5632, .f32⟩
  | .hbm, ⟨43, _⟩ => ⟨S5632, .f32⟩
  | .hbm, ⟨44, _⟩ => ⟨S8x2048x5632, .f32⟩
  | .hbm, ⟨45, _⟩ => ⟨S1x1x5632, .f32⟩
  | .hbm, ⟨46, _⟩ => ⟨S8x2048x5632, .f32⟩
  | .hbm, ⟨47, _⟩ => ⟨S8x2048x5632, .f32⟩
  | .hbm, ⟨48, _⟩ => ⟨S8x2048x5632, .f32⟩
  | .hbm, ⟨49, _⟩ => ⟨S1x1x5632, .f32⟩
  | .hbm, ⟨50, _⟩ => ⟨S8x2048x5632, .f32⟩
  | .hbm, ⟨51, _⟩ => ⟨S8x2048x5632, .f32⟩
  | .hbm, ⟨52, _⟩ => ⟨S8x2048x2816, .f32⟩
  | .hbm, ⟨53, _⟩ => ⟨S8x2048x2816, .f32⟩
  | .hbm, ⟨54, _⟩ => ⟨S8x2048x2816, .f32⟩
  | .hbm, ⟨55, _⟩ => ⟨S8x2048x2816, .f32⟩
  | .hbm, ⟨56, _⟩ => ⟨S_, .f32⟩
  | .hbm, ⟨57, _⟩ => ⟨S8x2048x2816, .f32⟩
  | .hbm, ⟨58, _⟩ => ⟨S8x2048x2816, .f32⟩
  | .hbm, ⟨59, _⟩ => ⟨S_, .f32⟩
  | .hbm, ⟨60, _⟩ => ⟨S8x2048x2816, .f32⟩
  | .hbm, ⟨61, _⟩ => ⟨S8x2048x2816, .f32⟩
  | .hbm, ⟨62, _⟩ => ⟨S8x2048x2816, .f32⟩
  | .hbm, ⟨63, _⟩ => ⟨S8x2048x2816, .f32⟩
  | .hbm, ⟨64, _⟩ => ⟨S8x2048x1024, .f32⟩
  | .hbm, ⟨65, _⟩ => ⟨S8x2048x1024, .f32⟩
  | .hbm, ⟨66, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_3 : Ref sig .tc := ⟨.hbm, 56, rfl⟩
abbrev main_v45 : Ref sig .tc := ⟨.hbm, 57, rfl⟩
abbrev main_v46 : Ref sig .tc := ⟨.hbm, 58, rfl⟩
abbrev main_cst_4 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩

abbrev nD : Nat := 1
abbrev τ : Topo := Topo.v7x

variable {F : FTy → Type} [FloatOps F]
-- ==== Inproj.lean ====
abbrev S16384x1024 : Shape := ⟨2, ![16384, 1024]⟩
abbrev S1024 : Shape := ⟨1, ![1024]⟩
abbrev S1024x5888 : Shape := ⟨2, ![1024, 5888]⟩
abbrev S1024x128 : Shape := ⟨2, ![1024, 128]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S1x2048x1x32 : Shape := ⟨4, ![1, 2048, 1, 32]⟩
abbrev S1x2048x4x32 : Shape := ⟨4, ![1, 2048, 4, 32]⟩
abbrev S2048x128 : Shape := ⟨2, ![2048, 128]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S1x1024 : Shape := ⟨2, ![1, 1024]⟩
abbrev S16384x5888 : Shape := ⟨2, ![16384, 5888]⟩
abbrev S16384x128 : Shape := ⟨2, ![16384, 128]⟩
abbrev S512x1024 : Shape := ⟨2, ![512, 1024]⟩
abbrev S512x128 : Shape := ⟨2, ![512, 128]⟩
abbrev S512x5888 : Shape := ⟨2, ![512, 5888]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩

abbrev nBuf : Space → Nat
  | .hbm => 36
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5888, .bf16⟩
  | .hbm, ⟨3, _⟩ => ⟨S1024x128, .bf16⟩
  | .hbm, ⟨4, _⟩ => ⟨S2048, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S2048x1, .f32⟩
  | .hbm, ⟨19, _⟩ => ⟨S1x32, .f32⟩
  | .hbm, ⟨20, _⟩ => ⟨S2048x32, .f32⟩
  | .hbm, ⟨21, _⟩ => ⟨S2048x32, .f32⟩
  | .hbm, ⟨22, _⟩ => ⟨S2048x32, .f32⟩
  | .hbm, ⟨23, _⟩ => ⟨S2048x32, .f32⟩
  | .hbm, ⟨24, _⟩ => ⟨S2048x32, .f32⟩
  | .hbm, ⟨25, _⟩ => ⟨S1x2048x1x32, .f32⟩
  | .hbm, ⟨26, _⟩ => ⟨S1x2048x4x32, .f32⟩
  | .hbm, ⟨27, _⟩ => ⟨S2048x128, .f32⟩
  | .hbm, ⟨28, _⟩ => ⟨S2048x32, .f32⟩
  | .hbm, ⟨29, _⟩ => ⟨S2048x64, .f32⟩
  | .hbm, ⟨30, _⟩ => ⟨S1x2048x1x64, .f32⟩
  | .hbm, ⟨31, _⟩ => ⟨S1x2048x2x64, .f32⟩
  | .hbm, ⟨32, _⟩ => ⟨S2048x128, .f32⟩
  | .hbm, ⟨33, _⟩ => ⟨S1x1024, .f32⟩
  | .hbm, ⟨34, _⟩ => ⟨S16384x5888, .bf16⟩
  | .hbm, ⟨35, _⟩ => ⟨S16384x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5888, .bf16⟩
  | .local _ .vmem, ⟨4, _⟩ => ⟨S1024x128, .bf16⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x5888, .bf16⟩
  | .local _ .vmem, ⟨10, _⟩ => ⟨S512x5888, .bf16⟩
  | .local _ .vmem, ⟨11, _⟩ => ⟨S512x128, .f32⟩
  | .local _ .vmem, ⟨12, _⟩ => ⟨S512x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26_0 : Ref sig .tc := ⟨.hbm, 34, rfl⟩
abbrev main_v26_1 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5888 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x5888 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== InprojRefIdeal.lean ====
abbrev S16384x1024 : Shape := ⟨2, ![16384, 1024]⟩
abbrev S1024 : Shape := ⟨1, ![1024]⟩
abbrev S1024x5888 : Shape := ⟨2, ![1024, 5888]⟩
abbrev S1024x128 : Shape := ⟨2, ![1024, 128]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x5888 : Shape := ⟨2, ![16384, 5888]⟩
abbrev S16384x2816 : Shape := ⟨2, ![16384, 2816]⟩
abbrev S8x2048x44x64 : Shape := ⟨4, ![8, 2048, 44, 64]⟩
abbrev S32 : Shape := ⟨1, ![32]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S1x2048x1x32 : Shape := ⟨4, ![1, 2048, 1, 32]⟩
abbrev S8x2048x44x32 : Shape := ⟨4, ![8, 2048, 44, 32]⟩
abbrev S16384x3072 : Shape := ⟨2, ![16384, 3072]⟩
abbrev S16384x128 : Shape := ⟨2, ![16384, 128]⟩

abbrev nBuf : Space → Nat
  | .hbm => 66
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5888, .bf16⟩
  | .hbm, ⟨3, _⟩ => ⟨S1024x128, .bf16⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S1024x5888, .f32⟩
  | .hbm, ⟨21, _⟩ => ⟨S16384x5888, .f32⟩
  | .hbm, ⟨22, _⟩ => ⟨S16384x2816, .f32⟩
  | .hbm, ⟨23, _⟩ => ⟨S8x2048x44x64, .f32⟩
  | .hbm, ⟨24, _⟩ => ⟨S32, .f32⟩
  | .hbm, ⟨25, _⟩ => ⟨S_, .f32⟩
  | .hbm, ⟨26, _⟩ => ⟨S32, .f32⟩
  | .hbm, ⟨27, _⟩ => ⟨S32, .f32⟩
  | .hbm, ⟨28, _⟩ => ⟨S_, .f32⟩
  | .hbm, ⟨29, _⟩ => ⟨S32, .f32⟩
  | .hbm, ⟨30, _⟩ => ⟨S32, .f32⟩
  | .hbm, ⟨31, _⟩ => ⟨S_, .f32⟩
  | .hbm, ⟨32, _⟩ => ⟨S32, .f32⟩
  | .hbm, ⟨33, _⟩ => ⟨S32, .f32⟩
  | .hbm, ⟨34, _⟩ => ⟨S_, .f32⟩
  | .hbm, ⟨35, _⟩ => ⟨S32, .f32⟩
  | .hbm, ⟨36, _⟩ => ⟨S32, .f32⟩
  | .hbm, ⟨37, _⟩ => ⟨S2048, .f32⟩
  | .hbm, ⟨38, _⟩ => ⟨S2048x1, .f32⟩
  | .hbm, ⟨39, _⟩ => ⟨S1x32, .f32⟩
  | .hbm, ⟨40, _⟩ => ⟨S2048x32, .f32⟩
  | .hbm, ⟨41, _⟩ => ⟨S2048x32, .f32⟩
  | .hbm, ⟨42, _⟩ => ⟨S2048x32, .f32⟩
  | .hbm, ⟨43, _⟩ => ⟨S2048x32, .f32⟩
  | .hbm, ⟨44, _⟩ => ⟨S1x2048x1x32, .f32⟩
  | .hbm, ⟨45, _⟩ => ⟨S2048x32, .f32⟩
  | .hbm, ⟨46, _⟩ => ⟨S1x2048x1x32, .f32⟩
  | .hbm, ⟨47, _⟩ => ⟨S8x2048x44x32, .f32⟩
  | .hbm, ⟨48, _⟩ => ⟨S8x2048x44x32, .f32⟩
  | .hbm, ⟨49, _⟩ => ⟨S8x2048x44x32, .f32⟩
  | .hbm, ⟨50, _⟩ => ⟨S8x2048x44x32, .f32⟩
  | .hbm, ⟨51, _⟩ => ⟨S8x2048x44x32, .f32⟩
  | .hbm, ⟨52, _⟩ => ⟨S8x2048x44x32, .f32⟩
  | .hbm, ⟨53, _⟩ => ⟨S8x2048x44x32, .f32⟩
  | .hbm, ⟨54, _⟩ => ⟨S8x2048x44x32, .f32⟩
  | .hbm, ⟨55, _⟩ => ⟨S8x2048x44x32, .f32⟩
  | .hbm, ⟨56, _⟩ => ⟨S8x2048x44x32, .f32⟩
  | .hbm, ⟨57, _⟩ => ⟨S8x2048x44x32, .f32⟩
  | .hbm, ⟨58, _⟩ => ⟨S8x2048x44x32, .f32⟩
  | .hbm, ⟨59, _⟩ => ⟨S8x2048x44x64, .f32⟩
  | .hbm, ⟨60, _⟩ => ⟨S16384x2816, .f32⟩
  | .hbm, ⟨61, _⟩ => ⟨S16384x3072, .f32⟩
  | .hbm, ⟨62, _⟩ => ⟨S16384x5888, .f32⟩
  | .hbm, ⟨63, _⟩ => ⟨S16384x5888, .bf16⟩
  | .hbm, ⟨64, _⟩ => ⟨S1024x128, .f32⟩
  | .hbm, ⟨65, _⟩ => ⟨S16384x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩

abbrev nD : Nat := 1
abbrev τ : Topo := Topo.v7x

variable {F : FTy → Type} [FloatOps F]
-- ==== Repack.lean ====
abbrev S2x1024x9420 : Shape := ⟨3, ![2, 1024, 9420]⟩
abbrev S1024x5888 : Shape := ⟨2, ![1024, 5888]⟩
abbrev S1024x128 : Shape := ⟨2, ![1024, 128]⟩
abbrev S1024x4096 : Shape := ⟨2, ![1024, 4096]⟩
abbrev S1x128x9420 : Shape := ⟨3, ![1, 128, 9420]⟩
abbrev S128x5888 : Shape := ⟨2, ![128, 5888]⟩
abbrev S128x128 : Shape := ⟨2, ![128, 128]⟩
abbrev S128x4096 : Shape := ⟨2, ![128, 4096]⟩
abbrev S1x128x512 : Shape := ⟨3, ![1, 128, 512]⟩
abbrev S128x512 : Shape := ⟨2, ![128, 512]⟩
abbrev S1x128x1024 : Shape := ⟨3, ![1, 128, 1024]⟩
abbrev S128x1024 : Shape := ⟨2, ![128, 1024]⟩
abbrev S1x128x64 : Shape := ⟨3, ![1, 128, 64]⟩
abbrev S128x64 : Shape := ⟨2, ![128, 64]⟩
abbrev S1x128x128 : Shape := ⟨3, ![1, 128, 128]⟩
abbrev S1x128x256 : Shape := ⟨3, ![1, 128, 256]⟩
abbrev S128x256 : Shape := ⟨2, ![128, 256]⟩
abbrev S1x128x8 : Shape := ⟨3, ![1, 128, 8]⟩
abbrev S128x8 : Shape := ⟨2, ![128, 8]⟩
abbrev S1x128x4 : Shape := ⟨3, ![1, 128, 4]⟩
abbrev S128x4 : Shape := ⟨2, ![128, 4]⟩
abbrev S128x116 : Shape := ⟨2, ![128, 116]⟩
abbrev S1x128x4096 : Shape := ⟨3, ![1, 128, 4096]⟩

abbrev nBuf : Space → Nat
  | .hbm => 4
  | .vmem => 8
  | .smem => 0
  | _ => 0

abbrev bufTy : (tb : Table) → Fin (tcTables nBuf tb) → BufTy
  | .hbm, ⟨0, _⟩ => ⟨S2x1024x9420, .f32⟩
  | .hbm, ⟨1, _⟩ => ⟨S1024x5888, .bf16⟩
  | .hbm, ⟨2, _⟩ => ⟨S1024x128, .bf16⟩
  | .hbm, ⟨3, _⟩ => ⟨S1024x4096, .bf16⟩
  | .local _ .vmem, ⟨0, _⟩ => ⟨S1x128x9420, .f32⟩
  | .local _ .vmem, ⟨1, _⟩ => ⟨S1x128x9420, .f32⟩
  | .local _ .vmem, ⟨2, _⟩ => ⟨S128x5888, .bf16⟩
  | .local _ .vmem, ⟨3, _⟩ => ⟨S128x5888, .bf16⟩
  | .local _ .vmem, ⟨4, _⟩ => ⟨S128x128, .bf16⟩
  | .local _ .vmem, ⟨5, _⟩ => ⟨S128x128, .bf16⟩
  | .local _ .vmem, ⟨6, _⟩ => ⟨S128x4096, .bf16⟩
  | .local _ .vmem, ⟨7, _⟩ => ⟨S128x4096, .bf16⟩
  | _, _ => ⟨S2x1024x9420, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x128x9420 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x5888 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Fcum.lean ====
abbrev S16384x128 : Shape := ⟨2, ![16384, 128]⟩
abbrev S8 : Shape := ⟨1, ![8]⟩
abbrev S16384x5888 : Shape := ⟨2, ![16384, 5888]⟩
abbrev S128x128 : Shape := ⟨2, ![128, 128]⟩
abbrev S384x128 : Shape := ⟨2, ![384, 128]⟩
abbrev S_ : Shape := ⟨0, ![]⟩
abbrev S128 : Shape := ⟨1, ![128]⟩
abbrev S1x128 : Shape := ⟨2, ![1, 128]⟩
abbrev S16384x1024 : Shape := ⟨2, ![16384, 1024]⟩
abbrev S2048x128 : Shape := ⟨2, ![2048, 128]⟩
abbrev S2048x512 : Shape := ⟨2, ![2048, 512]⟩
abbrev S2048x1024 : Shape := ⟨2, ![2048, 1024]⟩
abbrev S128x384 : Shape := ⟨2, ![128, 384]⟩

abbrev nBuf : Space → Nat
  | .hbm => 10
  | .vmem => 9
  | .smem => 0
  | _ => 0

abbrev bufTy : (tb : Table) → Fin (tcTables nBuf tb) → BufTy
  | .hbm, ⟨0, _⟩ => ⟨S16384x128, .f32⟩
  | .hbm, ⟨1, _⟩ => ⟨S8, .f32⟩
  | .hbm, ⟨2, _⟩ => ⟨S16384x5888, .bf16⟩
  | .hbm, ⟨3, _⟩ => ⟨S128x128, .bf16⟩
  | .hbm, ⟨4, _⟩ => ⟨S384x128, .bf16⟩
  | .hbm, ⟨5, _⟩ => ⟨S_, .i32⟩
  | .hbm, ⟨6, _⟩ => ⟨S_, .f32⟩
  | .hbm, ⟨7, _⟩ => ⟨S128, .f32⟩
  | .hbm, ⟨8, _⟩ => ⟨S1x128, .f32⟩
  | .hbm, ⟨9, _⟩ => ⟨S16384x1024, .bf16⟩
  | .local _ .vmem, ⟨0, _⟩ => ⟨S2048x128, .f32⟩
  | .local _ .vmem, ⟨1, _⟩ => ⟨S2048x128, .f32⟩
  | .local _ .vmem, ⟨2, _⟩ => ⟨S1x128, .f32⟩
  | .local _ .vmem, ⟨3, _⟩ => ⟨S128x128, .bf16⟩
  | .local _ .vmem, ⟨4, _⟩ => ⟨S384x128, .bf16⟩
  | .local _ .vmem, ⟨5, _⟩ => ⟨S2048x512, .bf16⟩
  | .local _ .vmem, ⟨6, _⟩ => ⟨S2048x512, .bf16⟩
  | .local _ .vmem, ⟨7, _⟩ => ⟨S2048x1024, .bf16⟩
  | .local _ .vmem, ⟨8, _⟩ => ⟨S2048x1024, .bf16⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c16_i32 : BitVec 32 := 16#32
  let v4 : BitVec 32 := Scalar.addi c0_i32 c16_i32
  let c1_i32 : BitVec 32 := 1#32
  ⟨c0_i32, v4, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c128_i32 : BitVec 32 := 128#32
  let v6 : BitVec 32 := Scalar.muli arg7 c128_i32
  v6
def k0_off1 (k0_t1 : Fin k0_t1_loop.trips) : Fin 2 → Nat :=
  let c0_i32 : BitVec 32 := 0#32
  let c1_i32 : BitVec 32 := 1#32
  let arg7 : BitVec 32 := Scf.iv c0_i32 c1_i32 k0_t1
  let c128_i32 : BitVec 32 := 128#32
  let v6 : BitVec 32 := Scalar.muli arg7 c128_i32
  let v7 : BitVec 32 := v6
  let v8 : Index := Scalar.indexCast v7
  let c0 : Index := 0#32
  ![v8.toNat, 0]
def k0_off2 (k0_t1 : Fin k0_t1_loop.trips) : Fin 2 → Nat :=
  let c0_i32 : BitVec 32 := 0#32
  let c1_i32 : BitVec 32 := 1#32
  let arg7 : BitVec 32 := Scf.iv c0_i32 c1_i32 k0_t1
  let c128_i32 : BitVec 32 := 128#32
  let v6 : BitVec 32 := Scalar.muli arg7 c128_i32
  let v7 : BitVec 32 := v6
  let v54 : Index := Scalar.indexCast v7
  let c0_13 : Index := 0#32
  ![v54.toNat, 0]
def k0_off3 (k0_t1 : Fin k0_t1_loop.trips) : Fin 2 → Nat :=
  let c0_i32 : BitVec 32 := 0#32
  let c1_i32 : BitVec 32 := 1#32
  let arg7 : BitVec 32 := Scf.iv c0_i32 c1_i32 k0_t1
  let c128_i32 : BitVec 32 := 128#32
  let v6 : BitVec 32 := Scalar.muli arg7 c128_i32
  let v7 : BitVec 32 := v6
  let v57 : Index := Scalar.indexCast v7
  let c0_14 : Index := 0#32
  ![v57.toNat, 0]
def k0_off4 (k0_t1 : Fin k0_t1_loop.trips) : Fin 2 → Nat :=
  let c0_i32 : BitVec 32 := 0#32
  let c1_i32 : BitVec 32 := 1#32
  let arg7 : BitVec 32 := Scf.iv c0_i32 c1_i32 k0_t1
  let c128_i32 : BitVec 32 := 128#32
  let v6 : BitVec 32 := Scalar.muli arg7 c128_i32
  let v7 : BitVec 32 := v6
  let v63 : Index := Scalar.indexCast v7
  let c128 : Index := 128#32
  ![v63.toNat, 128]
def k0_off5 (k0_t1 : Fin k0_t1_loop.trips) : Fin 2 → Nat :=
  let c0_i32 : BitVec 32 := 0#32
  let c1_i32 : BitVec 32 := 1#32
  let arg7 : BitVec 32 := Scf.iv c0_i32 c1_i32 k0_t1
  let c128_i32 : BitVec 32 := 128#32
  let v6 : BitVec 32 := Scalar.muli arg7 c128_i32
  let v7 : BitVec 32 := v6
  let v65 : Index := Scalar.indexCast v7
  let c128_17 : Index := 128#32
  ![v65.toNat, 128]
def k0_off6 (k0_t1 : Fin k0_t1_loop.trips) : Fin 2 → Nat :=
  let c0_i32 : BitVec 32 := 0#32
  let c1_i32 : BitVec 32 := 1#32
  let arg7 : BitVec 32 := Scf.iv c0_i32 c1_i32 k0_t1
  let c128_i32 : BitVec 32 := 128#32
  let v6 : BitVec 32 := Scalar.muli arg7 c128_i32
  let v7 : BitVec 32 := v6
  let v68 : Index := Scalar.indexCast v7
  let c256 : Index := 256#32
  ![v68.toNat, 256]
def k0_off7 (k0_t1 : Fin k0_t1_loop.trips) : Fin 2 → Nat :=
  let c0_i32 : BitVec 32 := 0#32
  let c1_i32 : BitVec 32 := 1#32
  let arg7 : BitVec 32 := Scf.iv c0_i32 c1_i32 k0_t1
  let c128_i32 : BitVec 32 := 128#32
  let v6 : BitVec 32 := Scalar.muli arg7 c128_i32
  let v7 : BitVec 32 := v6
  let v74 : Index := Scalar.indexCast v7
  let c384 : Index := 384#32
  ![v74.toNat, 384]
def k0_off8 (k0_t1 : Fin k0_t1_loop.trips) : Fin 2 → Nat :=
  let c0_i32 : BitVec 32 := 0#32
  let c1_i32 : BitVec 32 := 1#32
  let arg7 : BitVec 32 := Scf.iv c0_i32 c1_i32 k0_t1
  let c128_i32 : BitVec 32 := 128#32
  let v6 : BitVec 32 := Scalar.muli arg7 c128_i32
  let v7 : BitVec 32 := v6
  let v76 : Index := Scalar.indexCast v7
  let c256_20 : Index := 256#32
  ![v76.toNat, 256]
def k0_off9 (k0_t1 : Fin k0_t1_loop.trips) : Fin 2 → Nat :=
  let c0_i32 : BitVec 32 := 0#32
  let c1_i32 : BitVec 32 := 1#32
  let arg7 : BitVec 32 := Scf.iv c0_i32 c1_i32 k0_t1
  let c128_i32 : BitVec 32 := 128#32
  let v6 : BitVec 32 := Scalar.muli arg7 c128_i32
  let v7 : BitVec 32 := v6
  let v79 : Index := Scalar.indexCast v7
  let c512 : Index := 512#32
  ![v79.toNat, 512]
def k0_off10 (k0_t1 : Fin k0_t1_loop.trips) : Fin 2 → Nat :=
  let c0_i32 : BitVec 32 := 0#32
  let c1_i32 : BitVec 32 := 1#32
  let arg7 : BitVec 32 := Scf.iv c0_i32 c1_i32 k0_t1
  let c128_i32 : BitVec 32 := 128#32
  let v6 : BitVec 32 := Scalar.muli arg7 c128_i32
  let v7 : BitVec 32 := v6
  let v85 : Index := Scalar.indexCast v7
  let c640 : Index := 640#32
  ![v85.toNat, 640]
def k0_off11 (k0_t1 : Fin k0_t1_loop.trips) : Fin 2 → Nat :=
  let c0_i32 : BitVec 32 := 0#32
  let c1_i32 : BitVec 32 := 1#32
  let arg7 : BitVec 32 := Scf.iv c0_i32 c1_i32 k0_t1
  let c128_i32 : BitVec 32 := 128#32
  let v6 : BitVec 32 := Scalar.muli arg7 c128_i32
  let v7 : BitVec 32 := v6
  let v87 : Index := Scalar.indexCast v7
  let c384_23 : Index := 384#32
  ![v87.toNat, 384]
def k0_off12 (k0_t1 : Fin k0_t1_loop.trips) : Fin 2 → Nat :=
  let c0_i32 : BitVec 32 := 0#32
  let c1_i32 : BitVec 32 := 1#32
  let arg7 : BitVec 32 := Scf.iv c0_i32 c1_i32 k0_t1
  let c128_i32 : BitVec 32 := 128#32
  let v6 : BitVec 32 := Scalar.muli arg7 c128_i32
  let v7 : BitVec 32 := v6
  let v90 : Index := Scalar.indexCast v7
  let c768 : Index := 768#32
  ![v90.toNat, 768]
def k0_off13 (k0_t1 : Fin k0_t1_loop.trips) : Fin 2 → Nat :=
  let c0_i32 : BitVec 32 := 0#32
  let c1_i32 : BitVec 32 := 1#32
  let arg7 : BitVec 32 := Scf.iv c0_i32 c1_i32 k0_t1
  let c128_i32 : BitVec 32 := 128#32
  let v6 : BitVec 32 := Scalar.muli arg7 c128_i32
  let v7 : BitVec 32 := v6
  let v96 : Index := Scalar.indexCast v7
  let c896 : Index := 896#32
  ![v96.toNat, 896]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S384x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Swa.lean ====
abbrev S16384x5888 : Shape := ⟨2, ![16384, 5888]⟩
abbrev S8 : Shape := ⟨1, ![8]⟩
abbrev S_ : Shape := ⟨0, ![]⟩
abbrev S128 : Shape := ⟨1, ![128]⟩
abbrev S1x128 : Shape := ⟨2, ![1, 128]⟩
abbrev S16384x512 : Shape := ⟨2, ![16384, 512]⟩
abbrev S512x512 : Shape := ⟨2, ![512, 512]⟩
abbrev S512x256 : Shape := ⟨2, ![512, 256]⟩
abbrev S128x256 : Shape := ⟨2, ![128, 256]⟩
abbrev S128x128 : Shape := ⟨2, ![128, 128]⟩
abbrev S1x1 : Shape := ⟨2, ![1, 1]⟩
abbrev S128x1 : Shape := ⟨2, ![128, 1]⟩
abbrev S512x1 : Shape := ⟨2, ![512, 1]⟩
abbrev S512x128 : Shape := ⟨2, ![512, 128]⟩
abbrev S256x128 : Shape := ⟨2, ![256, 128]⟩
abbrev S4x128x256 : Shape := ⟨3, ![4, 128, 256]⟩
abbrev S1x128x256 : Shape := ⟨3, ![1, 128, 256]⟩
abbrev S512 : Shape := ⟨1, ![512]⟩

abbrev nBuf : Space → Nat
  | .hbm => 7
  | .vmem => 13
  | .smem => 0
  | _ => 0

abbrev bufTy : (tb : Table) → Fin (tcTables nBuf tb) → BufTy
  | .hbm, ⟨0, _⟩ => ⟨S16384x5888, .bf16⟩
  | .hbm, ⟨1, _⟩ => ⟨S8, .f32⟩
  | .hbm, ⟨2, _⟩ => ⟨S_, .i32⟩
  | .hbm, ⟨3, _⟩ => ⟨S_, .f32⟩
  | .hbm, ⟨4, _⟩ => ⟨S128, .f32⟩
  | .hbm, ⟨5, _⟩ => ⟨S1x128, .f32⟩
  | .hbm, ⟨6, _⟩ => ⟨S16384x512, .bf16⟩
  | .local _ .vmem, ⟨0, _⟩ => ⟨S512x512, .bf16⟩
  | .local _ .vmem, ⟨1, _⟩ => ⟨S512x512, .bf16⟩
  | .local _ .vmem, ⟨2, _⟩ => ⟨S512x256, .bf16⟩
  | .local _ .vmem, ⟨3, _⟩ => ⟨S512x256, .bf16⟩
  | .local _ .vmem, ⟨4, _⟩ => ⟨S128x256, .bf16⟩
  | .local _ .vmem, ⟨5, _⟩ => ⟨S128x256, .bf16⟩
  | .local _ .vmem, ⟨6, _⟩ => ⟨S512x256, .bf16⟩
  | .local _ .vmem, ⟨7, _⟩ => ⟨S512x256, .bf16⟩
  | .local _ .vmem, ⟨8, _⟩ => ⟨S128x256, .bf16⟩
  | .local _ .vmem, ⟨9, _⟩ => ⟨S128x256, .bf16⟩
  | .local _ .vmem, ⟨10, _⟩ => ⟨S1x128, .f32⟩
  | .local _ .vmem, ⟨11, _⟩ => ⟨S512x512, .bf16⟩
  | .local _ .vmem, ⟨12, _⟩ => ⟨S512x512, .bf16⟩
  | _, _ => ⟨S16384x5888, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c9_i32 : BitVec 32 := 9#32
  let c0_i32 : BitVec 32 := 0#32
  ![v1.toNat, c9_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c22_i32 : BitVec 32 := 22#32
  let c0_i32 : BitVec 32 := 0#32
  ![v1.toNat, c22_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c4_i32_0 : BitVec 32 := 4#32
  let v2 : BitVec 32 := Scalar.muli v1 c4_i32_0
  let c1_i32 : BitVec 32 := 1#32
  let v3 : BitVec 32 := Scalar.subi v2 c1_i32
  let c4_i32_1 : BitVec 32 := 4#32
  let v4 : BitVec 32 := Scalar.muli arg0 c4_i32_1
  let c4_i32_2 : BitVec 32 := 4#32
  let v5 : BitVec 32 := Scalar.muli v4 c4_i32_2
  let v6 : BitVec 32 := Scalar.maxsi v3 v5
  let c22_i32 : BitVec 32 := 22#32
  let c0_i32 : BitVec 32 := 0#32
  ![v6.toNat, c22_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c11_i32 : BitVec 32 := 11#32
  let c0_i32 : BitVec 32 := 0#32
  ![v1.toNat, c11_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c4_i32_0 : BitVec 32 := 4#32
  let v2 : BitVec 32 := Scalar.muli v1 c4_i32_0
  let c1_i32 : BitVec 32 := 1#32
  let v3 : BitVec 32 := Scalar.subi v2 c1_i32
  let c4_i32_1 : BitVec 32 := 4#32
  let v4 : BitVec 32 := Scalar.muli arg0 c4_i32_1
  let c4_i32_2 : BitVec 32 := 4#32
  let v5 : BitVec 32 := Scalar.muli v4 c4_i32_2
  let v6 : BitVec 32 := Scalar.maxsi v3 v5
  let c11_i32 : BitVec 32 := 11#32
  let c0_i32 : BitVec 32 := 0#32
  ![v6.toNat, c11_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Proof.MergeRef.lean ====
module

public import proofs.«01_k».proof.Proof.Gen.MergeRefIdeal
public import Idealize.ShloMosaic.Lib.Pointwise

/- The reference of the merge, operation by operation. -/

@[expose] public section

set_option maxRecDepth 16384

noncomputable section

open Idealize.ShloMosaic Idealize.ShloMosaic.TcCoe Idealize.SL.Sem
open scoped BigOperators

namespace Cert.MergeRefIdeal.Value

open Cert.MergeRefIdeal Cert.MergeRefIdeal.Gen

/-- The rows of `x`, normalised. -/
def normed (x : FVec Ideal S16384x1024 .f32) (g : FVec Ideal S1024 .f32) : FVec Ideal S16384x1024 .f32 :=
  (mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32 : FVec Ideal S_ .f32) reducesTo_S16384x1024_S16384_d1 h_S_)) (broadcastInDim S16384x1 ![] bcast_S_S16384x1 (constant S_ .f32 0x44800000#32 : FVec Ideal S_ .f32))) (broadcastInDim S16384x1 ![] bcast_S_S16384x1 (constant S_ .f32 0x358637BD#32 : FVec Ideal S_ .f32)))))) (broadcastInDim S16384x1024 ![0, 1] bcast_S1x1024_S16384x1024_0_1 (broadcastInDim S1x1024 ![1] bcast_S1024_S1x1024_1 g)))

/-- The four gates of each row. -/
def gates (x : FVec Ideal S16384x1024 .f32) (g : FVec Ideal S1024 .f32) (wg : FVec Ideal S1024x4096 .bf16) : FVec Ideal S16384x4x1024 .f32 :=
  (shapeCast S16384x4x1024 (Host.divf (broadcastInDim S16384x4096 ![] bcast_S_S16384x4096 (constant S_ .f32 0x3F800000#32 : FVec Ideal S_ .f32)) (addf (broadcastInDim S16384x4096 ![] bcast_S_S16384x4096 (constant S_ .f32 0x3F800000#32 : FVec Ideal S_ .f32)) (Host.exp (Host.negf (Host.dotGeneral dot_S16384x1024_S1024x4096_S16384x4096_1_0_0_1_n_n none (normed x g) (extf .f32 wg bitsLt_bf16_f32)))))) shapeCasts_S16384x4096_S16384x4x1024)

/-- The four projected branches of each row. -/
def branch (ya : FVec Ideal S16384x512 .bf16) (yb : FVec Ideal S16384x512 .bf16) (yc : FVec Ideal S16384x512 .bf16) (yd : FVec Ideal S16384x512 .bf16) (wb : FVec Ideal S4x512x1024 .f32) : FVec Ideal S16384x4x1024 .f32 :=
  (transpose S16384x4x1024 [2, 0, 1] (Host.dotGeneral dot_S4x512x1024_S16384x4x512_S4x1024x16384_1_2_2_0_0_1 none wb (extf .f32 (concatenate S16384x4x512 1 [⟨S16384x1x512, (broadcastInDim S16384x1x512 ![0, 2] bcast_S16384x512_S16384x1x512_0_2 ya)⟩, ⟨S16384x1x512, (broadcastInDim S16384x1x512 ![0, 2] bcast_S16384x512_S16384x1x512_0_2 yb)⟩, ⟨S16384x1x512, (broadcastInDim S16384x1x512 ![0, 2] bcast_S16384x512_S16384x1x512_0_2 yc)⟩, ⟨S16384x1x512, (broadcastInDim S16384x1x512 ![0, 2] bcast_S16384x512_S16384x1x512_0_2 yd)⟩] concatenates_S16384x1x512_S16384x1x512_S16384x1x512_S16384x1x512_S16384x4x512_d1) bitsLt_bf16_f32)) transposes_S4x1024x16384_S16384x4x1024_2_0_1)

/-- The gated sum of the branches. -/
def merged (x : FVec Ideal S16384x1024 .f32) (g : FVec Ideal S1024 .f32) (ya : FVec Ideal S16384x512 .bf16) (yb : FVec Ideal S16384x512 .bf16) (yc : FVec Ideal S16384x512 .bf16) (yd : FVec Ideal S16384x512 .bf16) (wg : FVec Ideal S1024x4096 .bf16) (wb : FVec Ideal S4x512x1024 .f32) : FVec Ideal S16384x1024 .f32 :=
  (Host.reduceAdd (mulf (gates x g wg) (branch ya yb yc yd wb)) (constant S_ .f32 0x00000000#32 : FVec Ideal S_ .f32) reducesTo_S16384x4x1024_S16384x1024_d1 h_S_)

/-- What the reference returns. -/
def result (x : FVec Ideal S16384x1024 .f32) (g : FVec Ideal S1024 .f32) (ya : FVec Ideal S16384x512 .bf16) (yb : FVec Ideal S16384x512 .bf16) (yc : FVec Ideal S16384x512 .bf16) (yd : FVec Ideal S16384x512 .bf16) (wg : FVec Ideal S1024x4096 .bf16) (wb : FVec Ideal S4x512x1024 .f32) (wo : FVec Ideal S1024x1024 .f32) : FVec Ideal S16384x1024 .f32 :=
  (addf x (Host.dotGeneral dot_S16384x1024_S1024x1024_S16384x1024_1_0_0_1_n_n none (merged x g ya yb yc yd wg wb) wo))

end Cert.MergeRefIdeal.Value

end
-- ==== Proof.MergeRun.lean ====
module

public import proofs.«01_k».proof.Defs
public import proofs.«01_k».proof.Proof.Gen.MergeRefIdeal
public import proofs.«01_k».proof.Proof.MergeRef
public import Idealize.ShloMosaic.Lib.Claim

/- What the merge's reference leaves in memory when it runs. -/

@[expose] public section

set_option maxRecDepth 16384
set_option maxHeartbeats 8000000

noncomputable section

open Idealize.ShloMosaic Idealize.ShloMosaic.TcCoe Idealize.SL.Sem

namespace Cert.MergeRefIdeal.Value

/-- The arguments are left as they were. -/
theorem args_kept (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  refine θ_run_mono (StableHlo.run_hlo _ _ (by hlo_seq) (by decide) (by decide) (by simp)
    (by intro _ h; (repeat (cases h with | head => rfl | tail _ h => ?_)); exact nomatch h) _ _) ?_
  intro r hr c
  have hc := hr c
  clear hr
  refine ⟨(hc main_arg0).trans ?_, (hc main_arg1).trans ?_, (hc main_arg2).trans ?_, (hc main_arg3).trans ?_, (hc main_arg4).trans ?_, (hc main_arg5).trans ?_, (hc main_arg6).trans ?_, (hc main_arg7).trans ?_, (hc main_arg8).trans ?_⟩
  all_goals clear hc r
  all_goals simp only [StableHlo.after_cons, StableHlo.after_nil]
  all_goals after_results_simp
  all_goals repeat rw [StableHlo.launchContents_devRef]

/-- The result is what the definitions above say. -/
theorem leaves_result (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v33) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  refine θ_run_mono (StableHlo.run_hlo _ _ (by hlo_seq) (by decide) (by decide) (by simp)
    (by intro _ h; (repeat (cases h with | head => rfl | tail _ h => ?_)); exact nomatch h) _ _) ?_
  intro r hr c
  have hc := hr c
  clear hr
  refine (hc main_v33).trans ?_
  all_goals clear hc r
  after_results
  all_goals repeat rw [StableHlo.launchContents_devRef]
  all_goals rfl

end Cert.MergeRefIdeal.Value

end
-- ==== Proof.InprojRef.lean ====
module

public import proofs.«01_k».proof.Proof.Gen.InprojRefIdeal
public import Idealize.ShloMosaic.Lib.Pointwise

/- The reference of the joint projection, operation by operation. -/

@[expose] public section

set_option maxRecDepth 16384

noncomputable section

open Idealize.ShloMosaic Idealize.ShloMosaic.TcCoe Idealize.SL.Sem
open scoped BigOperators

namespace Cert.InprojRefIdeal.Value

open Cert.InprojRefIdeal Cert.InprojRefIdeal.Gen

/-- The rows of `x`, normalised. -/
def normed (x : FVec Ideal S16384x1024 .f32) (g : FVec Ideal S1024 .f32) : FVec Ideal S16384x1024 .f32 :=
  (mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32 : FVec Ideal S_ .f32) reducesTo_S16384x1024_S16384_d1 h_S_)) (broadcastInDim S16384x1 ![] bcast_S_S16384x1 (constant S_ .f32 0x44800000#32 : FVec Ideal S_ .f32))) (broadcastInDim S16384x1 ![] bcast_S_S16384x1 (constant S_ .f32 0x358637BD#32 : FVec Ideal S_ .f32)))))) (broadcastInDim S16384x1024 ![0, 1] bcast_S1x1024_S16384x1024_0_1 (broadcastInDim S1x1024 ![1] bcast_S1024_S1x1024_1 g)))

/-- The rows projected by the large weight. -/
def proj (x : FVec Ideal S16384x1024 .f32) (g : FVec Ideal S1024 .f32) (w : FVec Ideal S1024x5888 .bf16) : FVec Ideal S16384x5888 .f32 :=
  (Host.dotGeneral dot_S16384x1024_S1024x5888_S16384x5888_1_0_0_1_n_n none (normed x g) (extf .f32 w bitsLt_bf16_f32))

/-- The angle of each position and each of the 32 frequencies. -/
def angle  : FVec Ideal S2048x32 .f32 :=
  (mulf (broadcastInDim S2048x32 ![0, 1] bcast_S2048x1_S2048x32_0_1 (broadcastInDim S2048x1 ![0] bcast_S2048_S2048x1_0 (sitofp .f32 (iotaInDim S2048 32 0) : FVec Ideal S2048 .f32))) (broadcastInDim S2048x32 ![0, 1] bcast_S1x32_S2048x32_0_1 (broadcastInDim S1x32 ![1] bcast_S32_S1x32_1 (Host.divf (broadcastInDim S32 ![] bcast_S_S32 (constant S_ .f32 0x3F800000#32 : FVec Ideal S_ .f32)) (Host.powf (broadcastInDim S32 ![] bcast_S_S32 (constant S_ .f32 0x461C4000#32 : FVec Ideal S_ .f32)) (Host.divf (mulf (sitofp .f32 (iotaInDim S32 32 0) : FVec Ideal S32 .f32) (broadcastInDim S32 ![] bcast_S_S32 (constant S_ .f32 0x40000000#32 : FVec Ideal S_ .f32))) (broadcastInDim S32 ![] bcast_S_S32 (constant S_ .f32 0x42800000#32 : FVec Ideal S_ .f32))))))))

/-- The last 2816 columns, head by head, after the rotation. -/
def roped (x : FVec Ideal S16384x1024 .f32) (g : FVec Ideal S1024 .f32) (w : FVec Ideal S1024x5888 .bf16) : FVec Ideal S8x2048x44x64 .f32 :=
  (concatenate S8x2048x44x64 3 [⟨S8x2048x44x32, (subf (mulf (extractStridedSlice S8x2048x44x32 ![0, 0, 0, 0] (shapeCast S8x2048x44x64 (extractStridedSlice S16384x2816 ![0, 3072] (proj x g w) slices_S16384x5888_S16384x2816_0_3072) shapeCasts_S16384x2816_S8x2048x44x64) slices_S8x2048x44x64_S8x2048x44x32_0_0_0_0) (broadcastInDim S8x2048x44x32 ![0, 1, 2, 3] bcast_S1x2048x1x32_S8x2048x44x32_0_1_2_3 (broadcastInDim S1x2048x1x32 ![1, 3] bcast_S2048x32_S1x2048x1x32_1_3 (Host.cos (angle ))))) (mulf (extractStridedSlice S8x2048x44x32 ![0, 0, 0, 32] (shapeCast S8x2048x44x64 (extractStridedSlice S16384x2816 ![0, 3072] (proj x g w) slices_S16384x5888_S16384x2816_0_3072) shapeCasts_S16384x2816_S8x2048x44x64) slices_S8x2048x44x64_S8x2048x44x32_0_0_0_32) (broadcastInDim S8x2048x44x32 ![0, 1, 2, 3] bcast_S1x2048x1x32_S8x2048x44x32_0_1_2_3 (broadcastInDim S1x2048x1x32 ![1, 3] bcast_S2048x32_S1x2048x1x32_1_3 (Host.sin (angle ))))))⟩, ⟨S8x2048x44x32, (addf (mulf (extractStridedSlice S8x2048x44x32 ![0, 0, 0, 32] (shapeCast S8x2048x44x64 (extractStridedSlice S16384x2816 ![0, 3072] (proj x g w) slices_S16384x5888_S16384x2816_0_3072) shapeCasts_S16384x2816_S8x2048x44x64) slices_S8x2048x44x64_S8x2048x44x32_0_0_0_32) (broadcastInDim S8x2048x44x32 ![0, 1, 2, 3] bcast_S1x2048x1x32_S8x2048x44x32_0_1_2_3 (broadcastInDim S1x2048x1x32 ![1, 3] bcast_S2048x32_S1x2048x1x32_1_3 (Host.cos (angle ))))) (mulf (extractStridedSlice S8x2048x44x32 ![0, 0, 0, 0] (shapeCast S8x2048x44x64 (extractStridedSlice S16384x2816 ![0, 3072] (proj x g w) slices_S16384x5888_S16384x2816_0_3072) shapeCasts_S16384x2816_S8x2048x44x64) slices_S8x2048x44x64_S8x2048x44x32_0_0_0_0) (broadcastInDim S8x2048x44x32 ![0, 1, 2, 3] bcast_S1x2048x1x32_S8x2048x44x32_0_1_2_3 (broadcastInDim S1x2048x1x32 ![1, 3] bcast_S2048x32_S1x2048x1x32_1_3 (Host.sin (angle ))))))⟩] concatenates_S8x2048x44x32_S8x2048x44x32_S8x2048x44x64_d3)

/-- The first result of the reference. -/
def result (x : FVec Ideal S16384x1024 .f32) (g : FVec Ideal S1024 .f32) (w : FVec Ideal S1024x5888 .bf16) : FVec Ideal S16384x5888 .bf16 :=
  (truncf .bf16 (concatenate S16384x5888 1 [⟨S16384x3072, (extractStridedSlice S16384x3072 ![0, 0] (proj x g w) slices_S16384x5888_S16384x3072_0_0)⟩, ⟨S16384x2816, (shapeCast S16384x2816 (roped x g w) shapeCasts_S8x2048x44x64_S16384x2816)⟩] concatenates_S16384x3072_S16384x2816_S16384x5888_d1) bitsLt_bf16_f32)

/-- The second result of the reference. -/
def small (x : FVec Ideal S16384x1024 .f32) (g : FVec Ideal S1024 .f32) (ws : FVec Ideal S1024x128 .bf16) : FVec Ideal S16384x128 .f32 :=
  (Host.dotGeneral dot_S16384x1024_S1024x128_S16384x128_1_0_0_1_n_n none (normed x g) (extf .f32 ws bitsLt_bf16_f32))

end Cert.InprojRefIdeal.Value

end
-- ==== Proof.InprojRun.lean ====
module

public import proofs.«01_k».proof.Defs
public import proofs.«01_k».proof.Proof.Gen.InprojRefIdeal
public import proofs.«01_k».proof.Proof.InprojRef
public import Idealize.ShloMosaic.Lib.Claim

/- What the joint projection's reference leaves in memory when it runs. -/

@[expose] public section

set_option maxRecDepth 16384
set_option maxHeartbeats 8000000

noncomputable section

open Idealize.ShloMosaic Idealize.ShloMosaic.TcCoe Idealize.SL.Sem

namespace Cert.InprojRefIdeal.Value

/-- The arguments are left as they were. -/
theorem args_kept (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine θ_run_mono (StableHlo.run_hlo _ _ (by hlo_seq) (by decide) (by decide) (by simp)
    (by intro _ h; (repeat (cases h with | head => rfl | tail _ h => ?_)); exact nomatch h) _ _) ?_
  intro r hr c
  have hc := hr c
  clear hr
  refine ⟨(hc main_arg0).trans ?_, (hc main_arg1).trans ?_, (hc main_arg2).trans ?_, (hc main_arg3).trans ?_⟩
  all_goals clear hc r
  all_goals simp only [StableHlo.after_cons, StableHlo.after_nil]
  all_goals after_results_simp
  all_goals repeat rw [StableHlo.launchContents_devRef]

/-- The result is what the definitions above say. -/
theorem leaves_result (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v52) = result (m ((c.tc : Thread nD τ).loc main_arg0)) (m ((c.tc : Thread nD τ).loc main_arg1)) (m ((c.tc : Thread nD τ).loc main_arg2)) := by
  refine θ_run_mono (StableHlo.run_hlo _ _ (by hlo_seq) (by decide) (by decide) (by simp)
    (by intro _ h; (repeat (cases h with | head => rfl | tail _ h => ?_)); exact nomatch h) _ _) ?_
  intro r hr c
  have hc := hr c
  clear hr
  refine (hc main_v52).trans ?_
  all_goals clear hc r
  after_results
  all_goals repeat rw [StableHlo.launchContents_devRef]
  all_goals rfl
/-- The result is what the definitions above say. -/
theorem leaves_small (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v54) = small (m ((c.tc : Thread nD τ).loc main_arg0)) (m ((c.tc : Thread nD τ).loc main_arg1)) (m ((c.tc : Thread nD τ).loc main_arg3)) := by
  refine θ_run_mono (StableHlo.run_hlo _ _ (by hlo_seq) (by decide) (by decide) (by simp)
    (by intro _ h; (repeat (cases h with | head => rfl | tail _ h => ?_)); exact nomatch h) _ _) ?_
  intro r hr c
  have hc := hr c
  clear hr
  refine (hc main_v54).trans ?_
  all_goals clear hc r
  after_results
  all_goals repeat rw [StableHlo.launchContents_devRef]
  all_goals rfl

end Cert.InprojRefIdeal.Value

end
-- ==== Proof.FfnRef.lean ====
module

public import proofs.«01_k».proof.Proof.Gen.FfnRefIdeal
public import Idealize.ShloMosaic.Lib.Pointwise

/- The reference of the feed-forward block, operation by operation. -/

@[expose] public section

set_option maxRecDepth 16384

noncomputable section

open Idealize.ShloMosaic Idealize.ShloMosaic.TcCoe Idealize.SL.Sem
open scoped BigOperators

namespace Cert.FfnRefIdeal.Value

open Cert.FfnRefIdeal Cert.FfnRefIdeal.Gen

/-- The rows of `x`, normalised. -/
def normed (x : FVec Ideal S16384x1024 .f32) (g : FVec Ideal S1024 .f32) : FVec Ideal S8x2048x1024 .f32 :=
  (mulf (mulf (shapeCast S8x2048x1024 x shapeCasts_S16384x1024_S8x2048x1024) (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf (shapeCast S8x2048x1024 x shapeCasts_S16384x1024_S8x2048x1024) (shapeCast S8x2048x1024 x shapeCasts_S16384x1024_S8x2048x1024)) (constant S_ .f32 0x00000000#32 : FVec Ideal S_ .f32) reducesTo_S8x2048x1024_S8x2048_d2 h_S_)) (broadcastInDim S8x2048x1 ![] bcast_S_S8x2048x1 (constant S_ .f32 0x44800000#32 : FVec Ideal S_ .f32))) (broadcastInDim S8x2048x1 ![] bcast_S_S8x2048x1 (constant S_ .f32 0x358637BD#32 : FVec Ideal S_ .f32)))))) (broadcastInDim S8x2048x1024 ![0, 1, 2] bcast_S1x1x1024_S8x2048x1024_0_1_2 (broadcastInDim S1x1x1024 ![2] bcast_S1024_S1x1x1024_2 g)))

/-- The rows projected upwards. -/
def up (x : FVec Ideal S16384x1024 .f32) (g : FVec Ideal S1024 .f32) (w : FVec Ideal S1024x5632 .f32) : FVec Ideal S8x2048x5632 .f32 :=
  (Host.dotGeneral dot_S8x2048x1024_S1024x5632_S8x2048x5632_2_0_01_1_n_n none (normed x g) w)

/-- The same with two zero rows before each sequence. -/
def padded (x : FVec Ideal S16384x1024 .f32) (g : FVec Ideal S1024 .f32) (w : FVec Ideal S1024x5632 .f32) : FVec Ideal S8x2050x5632 .f32 :=
  (concatenate S8x2050x5632 1 [⟨S8x2x5632, (broadcastInDim S8x2x5632 ![] bcast_S_S8x2x5632 (constant S_ .f32 0x00000000#32 : FVec Ideal S_ .f32))⟩, ⟨S8x2048x5632, (up x g w)⟩] concatenates_S8x2x5632_S8x2048x5632_S8x2050x5632_d1)

/-- The causal convolution of width three. -/
def conv (x : FVec Ideal S16384x1024 .f32) (g : FVec Ideal S1024 .f32) (w : FVec Ideal S1024x5632 .f32) (cw : FVec Ideal S3x5632 .f32) (cb : FVec Ideal S5632 .f32) : FVec Ideal S8x2048x5632 .f32 :=
  (addf (addf (addf (mulf (broadcastInDim S8x2048x5632 ![0, 1, 2] bcast_S1x1x5632_S8x2048x5632_0_1_2 (broadcastInDim S1x1x5632 ![2] bcast_S5632_S1x1x5632_2 (shapeCast S5632 (extractStridedSlice S1x5632 ![0, 0] cw slices_S3x5632_S1x5632_0_0) shapeCasts_S1x5632_S5632))) (extractStridedSlice S8x2048x5632 ![0, 0, 0] (padded x g w) slices_S8x2050x5632_S8x2048x5632_0_0_0)) (mulf (broadcastInDim S8x2048x5632 ![0, 1, 2] bcast_S1x1x5632_S8x2048x5632_0_1_2 (broadcastInDim S1x1x5632 ![2] bcast_S5632_S1x1x5632_2 (shapeCast S5632 (extractStridedSlice S1x5632 ![1, 0] cw slices_S3x5632_S1x5632_1_0) shapeCasts_S1x5632_S5632))) (extractStridedSlice S8x2048x5632 ![0, 1, 0] (padded x g w) slices_S8x2050x5632_S8x2048x5632_0_1_0))) (mulf (broadcastInDim S8x2048x5632 ![0, 1, 2] bcast_S1x1x5632_S8x2048x5632_0_1_2 (broadcastInDim S1x1x5632 ![2] bcast_S5632_S1x1x5632_2 (shapeCast S5632 (extractStridedSlice S1x5632 ![2, 0] cw slices_S3x5632_S1x5632_2_0) shapeCasts_S1x5632_S5632))) (extractStridedSlice S8x2048x5632 ![0, 2, 0] (padded x g w) slices_S8x2050x5632_S8x2048x5632_0_2_0))) (broadcastInDim S8x2048x5632 ![0, 1, 2] bcast_S1x1x5632_S8x2048x5632_0_1_2 (broadcastInDim S1x1x5632 ![2] bcast_S5632_S1x1x5632_2 cb)))

/-- The gated channels. -/
def act (x : FVec Ideal S16384x1024 .f32) (g : FVec Ideal S1024 .f32) (w : FVec Ideal S1024x5632 .f32) (cw : FVec Ideal S3x5632 .f32) (cb : FVec Ideal S5632 .f32) : FVec Ideal S8x2048x2816 .f32 :=
  (mulf (mulf (extractStridedSlice S8x2048x2816 ![0, 0, 0] (conv x g w cw cb) slices_S8x2048x5632_S8x2048x2816_0_0_0) (Host.divf (broadcastInDim S8x2048x2816 ![] bcast_S_S8x2048x2816 (constant S_ .f32 0x3F800000#32 : FVec Ideal S_ .f32)) (addf (broadcastInDim S8x2048x2816 ![] bcast_S_S8x2048x2816 (constant S_ .f32 0x3F800000#32 : FVec Ideal S_ .f32)) (Host.exp (Host.negf (extractStridedSlice S8x2048x2816 ![0, 0, 0] (conv x g w cw cb) slices_S8x2048x5632_S8x2048x2816_0_0_0)))))) (extractStridedSlice S8x2048x2816 ![0, 0, 2816] (conv x g w cw cb) slices_S8x2048x5632_S8x2048x2816_0_0_2816))

/-- The residual and the rows projected downwards. -/
def resid (x : FVec Ideal S16384x1024 .f32) (g : FVec Ideal S1024 .f32) (w : FVec Ideal S1024x5632 .f32) (cw : FVec Ideal S3x5632 .f32) (cb : FVec Ideal S5632 .f32) (wd : FVec Ideal S2816x1024 .f32) : FVec Ideal S8x2048x1024 .f32 :=
  (addf (shapeCast S8x2048x1024 x shapeCasts_S16384x1024_S8x2048x1024) (Host.dotGeneral dot_S8x2048x2816_S2816x1024_S8x2048x1024_2_0_01_1_n_n none (act x g w cw cb) wd))

/-- The result of the reference: the last, normalised. -/
def result (x : FVec Ideal S16384x1024 .f32) (g : FVec Ideal S1024 .f32) (w : FVec Ideal S1024x5632 .f32) (cw : FVec Ideal S3x5632 .f32) (cb : FVec Ideal S5632 .f32) (wd : FVec Ideal S2816x1024 .f32) (fg : FVec Ideal S1024 .f32) : FVec Ideal S16384x1024 .f32 :=
  (shapeCast S16384x1024 (mulf (mulf (resid x g w cw cb wd) (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf (resid x g w cw cb wd) (resid x g w cw cb wd)) (constant S_ .f32 0x00000000#32 : FVec Ideal S_ .f32) reducesTo_S8x2048x1024_S8x2048_d2 h_S_)) (broadcastInDim S8x2048x1 ![] bcast_S_S8x2048x1 (constant S_ .f32 0x44800000#32 : FVec Ideal S_ .f32))) (broadcastInDim S8x2048x1 ![] bcast_S_S8x2048x1 (constant S_ .f32 0x358637BD#32 : FVec Ideal S_ .f32)))))) (broadcastInDim S8x2048x1024 ![0, 1, 2] bcast_S1x1x1024_S8x2048x1024_0_1_2 (broadcastInDim S1x1x1024 ![2] bcast_S1024_S1x1x1024_2 fg))) shapeCasts_S8x2048x1024_S16384x1024)

end Cert.FfnRefIdeal.Value

end
-- ==== Proof.FfnRun.lean ====
module

public import proofs.«01_k».proof.Defs
public import proofs.«01_k».proof.Proof.Gen.FfnRefIdeal
public import proofs.«01_k».proof.Proof.FfnRef
public import Idealize.ShloMosaic.Lib.Claim

/- What the feed-forward block's reference leaves in memory when it runs. -/

@[expose] public section

set_option maxRecDepth 16384
set_option maxHeartbeats 8000000

noncomputable section

open Idealize.ShloMosaic Idealize.ShloMosaic.TcCoe Idealize.SL.Sem

namespace Cert.FfnRefIdeal.Value

/-- The arguments are left as they were. -/
theorem args_kept (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine θ_run_mono (StableHlo.run_hlo _ _ (by hlo_seq) (by decide) (by decide) (by simp)
    (by intro _ h; (repeat (cases h with | head => rfl | tail _ h => ?_)); exact nomatch h) _ _) ?_
  intro r hr c
  have hc := hr c
  clear hr
  refine ⟨(hc main_arg0).trans ?_, (hc main_arg1).trans ?_, (hc main_arg2).trans ?_, (hc main_arg3).trans ?_, (hc main_arg4).trans ?_, (hc main_arg5).trans ?_, (hc main_arg6).trans ?_⟩
  all_goals clear hc r
  all_goals simp only [StableHlo.after_cons, StableHlo.after_nil]
  all_goals after_results_simp
  all_goals repeat rw [StableHlo.launchContents_devRef]

/-- The result is what the definitions above say. -/
theorem leaves_result (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v66) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine θ_run_mono (StableHlo.run_hlo _ _ (by hlo_seq) (by decide) (by decide) (by simp)
    (by intro _ h; (repeat (cases h with | head => rfl | tail _ h => ?_)); exact nomatch h) _ _) ?_
  intro r hr c
  have hc := hr c
  clear hr
  refine (hc main_v66).trans ?_
  all_goals clear hc r
  after_results
  all_goals repeat rw [StableHlo.launchContents_devRef]
  all_goals rfl

end Cert.FfnRefIdeal.Value

end
-- ==== Proof.MergeValue.lean ====
module

public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.MergeRef
public import Idealize.ShloMosaic.Lib.Pipeline.Value
public import Idealize.ShloMosaic.Lib.StableHlo.Run
public import Idealize.ShloMosaic.Lib.Claim
public import Idealize.ShloMosaic.Lib.Pipeline.ValueKit
public import Idealize.ShloMosaic.Lib.Pointwise
public import Idealize.ShloMosaic.Lib.WordCmp
public import Idealize.ShloMosaic.Lib.Pipeline.FrameTail
public import Idealize.ShloMosaic.Lib.LayoutAt

/- The values of the merge at exact numbers: what each grid point stores is the reference there. -/

@[expose] public section

set_option maxRecDepth 16384

noncomputable section

open Idealize.ShloMosaic Idealize.ShloMosaic.TcCoe Idealize.SL.Sem
open Idealize.ShloMosaic.Pipeline (Dat)
open scoped BigOperators

namespace Cert.MergeIdeal.Value

open Cert.MergeIdeal Cert.MergeIdeal.Gen

variable (m : (ℓ : Loc nD τ sig) → Buf (Elt Ideal) ℓ)

/-- Every window's block index at a grid point. -/
theorem idx_val : ∀ t : Fin cfg0.N, win0_0.index t = ![t.val, 0]
    ∧ win0_1.index t = ![0, 0]
    ∧ win0_2.index t = ![t.val, 0]
    ∧ win0_3.index t = ![t.val, 0]
    ∧ win0_4.index t = ![t.val, 0]
    ∧ win0_5.index t = ![t.val, 0]
    ∧ win0_6.index t = ![0, 0]
    ∧ win0_7.index t = ![0, 0, 0]
    ∧ win0_8.index t = ![0, 0]
    ∧ win0_9.index t = ![t.val, 0] :=
  (by decide +kernel : ∀ t : Fin grid0.N, _)

/-- POINT: what the body stores at block index `y` of point `t` is the reference at the array index `y` sits at. -/
theorem point (c : Dev nD) (t : Fin cfg0.N) (y) :
    k0_pay1 (iblk m c 0 t) (k0_pay2 (iblk m c 0 t) (iblk m c 1 t)) (k0_pay3 (iblk m c 0 t) (iblk m c 1 t) (View.ld
      (iblk m c 6 t) r0_2) (iblk m c 2 t) (View.ld (iblk m c 7 t) r0_4)) (k0_pay4 (iblk m c 0 t) (iblk m c 1 t) (View.ld
      (iblk m c 6 t) r0_5)) (k0_pay5 (iblk m c 3 t) (View.ld (iblk m c 7 t) r0_6)) (View.ld (iblk m c 6 t) r0_7) (iblk m
      c 4 t) (View.ld (iblk m c 7 t) r0_8) (View.ld (iblk m c 6 t) r0_9) (iblk m c 5 t) (View.ld (iblk m c 7 t) r0_10)
      (iblk m c 8 t) y
      = Cert.MergeRefIdeal.Value.result (m ((c : Thread nD τ).loc main_arg0)) (m ((c : Thread nD τ).loc main_arg1)) (m ((c : Thread nD τ).loc
        main_arg2)) (m ((c : Thread nD τ).loc main_arg3)) (m ((c : Thread nD τ).loc main_arg4)) (m ((c : Thread nD
        τ).loc main_arg5)) (m ((c : Thread nD τ).loc main_arg6)) (m ((c : Thread nD τ).loc main_arg7)) (m ((c : Thread
        nD τ).loc main_arg8)) (((cfg0.win 9).blk t).view.emb y) := by
  pointwise [k0_pay1, k0_pay2, k0_pay3, k0_pay4, k0_pay5, Ideal.logistic, Cert.MergeRefIdeal.Value.result, Cert.MergeRefIdeal.Value.merged, Cert.MergeRefIdeal.Value.gates, Cert.MergeRefIdeal.Value.branch, Cert.MergeRefIdeal.Value.normed]
  simp only [Fin.sum_univ_four]
  pointwise []
  have hc : ∀ (i : S4x512x1024.Idx) (b : EReal),
      @HMul.hMul EReal EReal EReal instHMul (m ((c : Thread nD τ).loc main_arg7) i) b
        = @HMul.hMul EReal EReal EReal instHMul b (m ((c : Thread nD τ).loc main_arg7) i) :=
    fun i b => mul_comm (G := EReal) _ _
  simp only [hc]
  blk_point [iblk, V, idx_val t]

/-- BRIDGE: the result array after the run (complete: the blocks tile the array, decided). -/
theorem final (c : Dev nD) : (dats m 0 c).arrAt 9 (cfgs 0).N = Cert.MergeRefIdeal.Value.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 9 _ (by decide +kernel) fun t hf y => ?_
  blk_simp; rw [after0_9]; frame_out
  exact point m c t y

end Cert.MergeIdeal.Value

end
-- ==== Proof.InprojCore.lean ====
module

public import proofs.«01_k».proof.Proof.Gen.InprojIdeal
public import proofs.«01_k».proof.Proof.Gen.InprojIdeal.Skeleton
public import proofs.«01_k».proof.Proof.Gen.InprojIdeal.Launch
public import proofs.«01_k».proof.Proof.Gen.InprojIdeal.Points
public import proofs.«01_k».proof.Proof.Gen.InprojIdeal.Frame
public import proofs.«01_k».proof.Proof.InprojRef
public import Idealize.ShloMosaic.Lib.Pipeline.Value
public import Idealize.ShloMosaic.Lib.StableHlo.Run
public import Idealize.ShloMosaic.Lib.Claim
public import Idealize.ShloMosaic.Lib.Pipeline.ValueKit
public import Idealize.ShloMosaic.Lib.Pointwise
public import Idealize.ShloMosaic.Lib.WordCmp
public import Idealize.ShloMosaic.Lib.Pipeline.FrameTail
public import Idealize.ShloMosaic.Lib.LayoutAt

/- The joint projection at an index: what the body stores there is the reference there. -/

@[expose] public section

set_option maxRecDepth 16384

noncomputable section

open Idealize.ShloMosaic Idealize.ShloMosaic.TcCoe Idealize.SL.Sem
open Idealize.ShloMosaic.Pipeline (Dat)
open scoped BigOperators

namespace Cert.InprojIdeal.Value

open Cert.InprojIdeal Cert.InprojIdeal.Gen

variable (m : (ℓ : Loc nD τ sig) → Buf (Elt Ideal) ℓ)

/-- Every window's block index at a grid point. -/
theorem idx6 : ∀ t : Fin cfg0.N, win0_0.index t = ![t.val, 0]
    ∧ win0_1.index t = ![0, 0]
    ∧ win0_2.index t = ![0, 0]
    ∧ win0_3.index t = ![0, 0]
    ∧ win0_4.index t = ![t.val % 4, 0]
    ∧ win0_5.index t = ![t.val % 4, 0]
    ∧ win0_6.index t = ![t.val, 0]
    ∧ win0_7.index t = ![t.val, 0] :=
  (by decide +kernel : ∀ t : Fin grid0.N, _)

/-- The lanes of the first half of a head. -/
theorem first_half (x : S512x128.Idx) : (k0_pay4 : IVec S512x128 1) x = if (x 1 : ℕ) % 64 < 32 then 1#1 else 0#1 := by
  pointwise [k0_pay4]
  exact (by decide +kernel : ∀ l : Fin 128, IntOp.cmpi CmpIPredicate.slt
      (Scalar.select
        (IntOp.andi
          (IntOp.xori
            (IntOp.cmpi CmpIPredicate.slt
              (IntOp.remsi ArithUnit.vector (BitVec.ofNat 32 (l : ℕ))
                (Scalar.select (Scalar.cmpi CmpIPredicate.eq 64#32 0#32) 1#32 64#32))
              0#32)
            (Scalar.cmpi CmpIPredicate.slt (Scalar.select (Scalar.cmpi CmpIPredicate.eq 64#32 0#32) 1#32 64#32) 0#32))
          (IntOp.cmpi CmpIPredicate.ne
            (IntOp.remsi ArithUnit.vector (BitVec.ofNat 32 (l : ℕ))
              (Scalar.select (Scalar.cmpi CmpIPredicate.eq 64#32 0#32) 1#32 64#32))
            0#32))
        (IntOp.addi
          (IntOp.remsi ArithUnit.vector (BitVec.ofNat 32 (l : ℕ))
            (Scalar.select (Scalar.cmpi CmpIPredicate.eq 64#32 0#32) 1#32 64#32))
          (Scalar.select (Scalar.cmpi CmpIPredicate.eq 64#32 0#32) 1#32 64#32))
        (IntOp.remsi ArithUnit.vector (BitVec.ofNat 32 (l : ℕ))
          (Scalar.select (Scalar.cmpi CmpIPredicate.eq 64#32 0#32) 1#32 64#32)))
      32#32 =
    if (l : ℕ) % 64 < 32 then 1#1 else 0#1) (x 1)

/-- A row of the block times a column of the weight. -/
def acc (h : FVec Ideal S512x1024 .bf16) (w : Vec Ideal S1024x5888 .bf16) (r : Fin 512) (n : Fin 5888) : EReal :=
  ∑ k : Fin 1024, @HMul.hMul EReal EReal EReal instHMul (h (ix2 r k)) (w (ix2 k n))

/-- What the body stores at row `r` and column `n` of its block: the product, and past column 3072 its rotation. -/
def out (h : FVec Ideal S512x1024 .bf16) (w : Vec Ideal S1024x5888 .bf16) (cs sn : Vec Ideal S512x128 .f32) (r : Fin 512) (n : Fin 5888) : EReal :=
  if (n : ℕ) < 3072 then acc h w r n
  else if hl : (n : ℕ) % 64 < 32 then
    @HMul.hMul EReal EReal EReal instHMul (acc h w r n) (cs (ix2 r ⟨n % 128, by omega⟩))
      + @HMul.hMul EReal EReal EReal instHMul (acc h w r ⟨n + 32, by omega⟩) (sn (ix2 r ⟨n % 128, by omega⟩))
  else
    @HMul.hMul EReal EReal EReal instHMul (acc h w r n) (cs (ix2 r ⟨n % 128, by omega⟩))
      + @HMul.hMul EReal EReal EReal instHMul (acc h w r ⟨n - 32, by omega⟩) (sn (ix2 r ⟨n % 128, by omega⟩))

/-- The table of cosines. -/
theorem arr_cos (c : Dev nD) (j : S2048x128.Idx) (p : Fin 2048) (q : Fin 32) (hp : (p : ℕ) = j 0) (hq : (q : ℕ) = j 1 % 32) :
    V m c main_v19 j = Ideal.cos (Cert.InprojRefIdeal.Value.angle (ix2 p q)) := by
  pointwise [V, Cert.InprojRefIdeal.Value.angle]
  entry_read
  pointwise []
  simp only [hp, hq]

/-- The table of sines, in the first half of a head. -/
theorem arr_sin_lo (c : Dev nD) (j : S2048x128.Idx) (p : Fin 2048) (q : Fin 32) (hp : (p : ℕ) = j 0) (hl : (j 1 : ℕ) % 64 < 32) (hq : (q : ℕ) = j 1 % 64) :
    V m c main_v24 j = @Neg.neg EReal _ (Ideal.sin (Cert.InprojRefIdeal.Value.angle (ix2 p q))) := by
  pointwise [V, Cert.InprojRefIdeal.Value.angle]
  entry_read
  pointwise []
  rw [dif_pos hl]
  simp only [hp, hq]

/-- The table of sines, in the second half of a head. -/
theorem arr_sin_hi (c : Dev nD) (j : S2048x128.Idx) (p : Fin 2048) (q : Fin 32) (hp : (p : ℕ) = j 0) (hl : ¬ (j 1 : ℕ) % 64 < 32) (hq : (q : ℕ) = j 1 % 64 - 32) :
    V m c main_v24 j = Ideal.sin (Cert.InprojRefIdeal.Value.angle (ix2 p q)) := by
  pointwise [V, Cert.InprojRefIdeal.Value.angle]
  entry_read
  pointwise []
  rw [dif_neg hl]
  simp only [hp, hq]

/-- The block of cosines. -/
theorem in_cos (c : Dev nD) (t : Fin cfg0.N) (r : Fin 512) (l : Fin 128) (p : Fin 2048) (q : Fin 32) (hp : (p : ℕ) = (512 * t.val + r) % 2048) (hq : (q : ℕ) = l % 32) :
    iblk m c 4 t (ix2 r l) = Ideal.cos (Cert.InprojRefIdeal.Value.angle (ix2 p q)) := by
  refine arr_cos m c (((cfg0.win 4).blk t).view.emb (ix2 r l)) p q ?_ ?_ <;> blk_simp [idx6 t] <;> omega

/-- The block of sines, in the first half of a head. -/
theorem in_sin_lo (c : Dev nD) (t : Fin cfg0.N) (r : Fin 512) (l : Fin 128) (p : Fin 2048) (q : Fin 32) (hp : (p : ℕ) = (512 * t.val + r) % 2048) (hl : (l : ℕ) % 64 < 32) (hq : (q : ℕ) = l % 32) :
    iblk m c 5 t (ix2 r l) = @Neg.neg EReal _ (Ideal.sin (Cert.InprojRefIdeal.Value.angle (ix2 p q))) := by
  refine arr_sin_lo m c (((cfg0.win 5).blk t).view.emb (ix2 r l)) p q ?_ ?_ ?_ <;> blk_simp [idx6 t] <;> omega

/-- The block of sines, in the second half of a head. -/
theorem in_sin_hi (c : Dev nD) (t : Fin cfg0.N) (r : Fin 512) (l : Fin 128) (p : Fin 2048) (q : Fin 32) (hp : (p : ℕ) = (512 * t.val + r) % 2048) (hl : ¬ (l : ℕ) % 64 < 32) (hq : (q : ℕ) = l % 32) :
    iblk m c 5 t (ix2 r l) = Ideal.sin (Cert.InprojRefIdeal.Value.angle (ix2 p q)) := by
  refine arr_sin_hi m c (((cfg0.win 5).blk t).view.emb (ix2 r l)) p q ?_ ?_ ?_ <;> blk_simp [idx6 t] <;> omega

/-- The block of `x`. -/
theorem in_x (c : Dev nD) (t : Fin cfg0.N) (r : Fin 512) (k : Fin 1024) (i : Fin 16384) (hi : (i : ℕ) = 512 * t.val + r) :
    iblk m c 0 t (ix2 r k) = m ((c : Thread nD τ).loc main_arg0) (ix2 i k) := by
  blk_point [iblk, V, idx6 t]

/-- The norm weight. -/
theorem in_g (c : Dev nD) (t : Fin cfg0.N) (k : Fin 1024) :
    iblk m c 1 t (ix2 0 k) = m ((c : Thread nD τ).loc main_arg1) (ix1 k) := by
  blk_point [iblk, V, idx6 t]

/-- The large weight. -/
theorem in_w (c : Dev nD) (t : Fin cfg0.N) (k : Fin 1024) (n : Fin 5888) :
    iblk m c 2 t (ix2 k n) = m ((c : Thread nD τ).loc main_arg2) (ix2 k n) := by
  blk_point [iblk, V, idx6 t]

/-- The product of the block is the reference's. -/
theorem acc_eq (c : Dev nD) (t : Fin cfg0.N) (r : Fin 512) (n : Fin 5888) (i : Fin 16384) (hi : (i : ℕ) = 512 * t.val + r) :
    acc (k0_pay2 (iblk m c 0 t) (iblk m c 1 t)) (iblk m c 2 t) r n
      = Cert.InprojRefIdeal.Value.proj (m ((c : Thread nD τ).loc main_arg0)) (m ((c : Thread nD τ).loc main_arg1)) (m ((c : Thread nD τ).loc main_arg2)) (ix2 i n) := by
  pointwise [acc, k0_pay2, Cert.InprojRefIdeal.Value.proj, Cert.InprojRefIdeal.Value.normed]
  simp only [in_x m c t r _ i hi, in_g, in_w]

/-- The reference, in the plain columns. -/
theorem ref_plain (x : FVec Ideal Cert.InprojRefIdeal.S16384x1024 .f32) (g : FVec Ideal Cert.InprojRefIdeal.S1024 .f32) (w : FVec Ideal Cert.InprojRefIdeal.S1024x5888 .bf16) (j : Cert.InprojRefIdeal.S16384x5888.Idx) (n n' : Fin 5888) (p : Fin 2048) (q : Fin 32) (hn : (n : ℕ) = j 1) (hj : (j 1 : ℕ) < 3072) :
    Cert.InprojRefIdeal.Value.result x g w j = Cert.InprojRefIdeal.Value.proj x g w (ix2 (j 0) n) := by
  pointwise [Cert.InprojRefIdeal.Value.result, Cert.InprojRefIdeal.Value.roped]
  rw [dif_pos hj]
  blk_ext

/-- The reference, in the first half of a head. -/
theorem ref_lo (x : FVec Ideal Cert.InprojRefIdeal.S16384x1024 .f32) (g : FVec Ideal Cert.InprojRefIdeal.S1024 .f32) (w : FVec Ideal Cert.InprojRefIdeal.S1024x5888 .bf16) (j : Cert.InprojRefIdeal.S16384x5888.Idx) (n n' : Fin 5888) (p : Fin 2048) (q : Fin 32) (hn : (n : ℕ) = j 1) (hp : (p : ℕ) = j 0 % 2048) (hj : ¬ (j 1 : ℕ) < 3072) (hl : (j 1 : ℕ) % 64 < 32) (hq : (q : ℕ) = j 1 % 32) (hn' : (n' : ℕ) = j 1 + 32) :
    Cert.InprojRefIdeal.Value.result x g w j = @HMul.hMul EReal EReal EReal instHMul (Cert.InprojRefIdeal.Value.proj x g w (ix2 (j 0) n)) (Ideal.cos (Cert.InprojRefIdeal.Value.angle (ix2 p q)))
      + @HMul.hMul EReal EReal EReal instHMul (Cert.InprojRefIdeal.Value.proj x g w (ix2 (j 0) n')) (@Neg.neg EReal _ (Ideal.sin (Cert.InprojRefIdeal.Value.angle (ix2 p q)))) := by
  pointwise [Cert.InprojRefIdeal.Value.result, Cert.InprojRefIdeal.Value.roped]
  rw [dif_neg hj, dif_pos (show ((j 1 : ℕ) - 3072) % 64 < 32 by omega)]
  have hs : ∀ a b s : EReal, a - b * s = a + b * (-s) := fun a b s => by rw [sub_eq_add_neg, mul_neg]
  rw [hs]
  blk_point []
  all_goals (congr 1; omega)

/-- The reference, in the second half of a head. -/
theorem ref_hi (x : FVec Ideal Cert.InprojRefIdeal.S16384x1024 .f32) (g : FVec Ideal Cert.InprojRefIdeal.S1024 .f32) (w : FVec Ideal Cert.InprojRefIdeal.S1024x5888 .bf16) (j : Cert.InprojRefIdeal.S16384x5888.Idx) (n n' : Fin 5888) (p : Fin 2048) (q : Fin 32) (hn : (n : ℕ) = j 1) (hp : (p : ℕ) = j 0 % 2048) (hj : ¬ (j 1 : ℕ) < 3072) (hl : ¬ (j 1 : ℕ) % 64 < 32) (hq : (q : ℕ) = j 1 % 32) (hn' : (n' : ℕ) = j 1 - 32) :
    Cert.InprojRefIdeal.Value.result x g w j = @HMul.hMul EReal EReal EReal instHMul (Cert.InprojRefIdeal.Value.proj x g w (ix2 (j 0) n)) (Ideal.cos (Cert.InprojRefIdeal.Value.angle (ix2 p q)))
      + @HMul.hMul EReal EReal EReal instHMul (Cert.InprojRefIdeal.Value.proj x g w (ix2 (j 0) n')) (Ideal.sin (Cert.InprojRefIdeal.Value.angle (ix2 p q))) := by
  pointwise [Cert.InprojRefIdeal.Value.result, Cert.InprojRefIdeal.Value.roped]
  rw [dif_neg hj, dif_neg (show ¬ ((j 1 : ℕ) - 3072) % 64 < 32 by omega)]
  blk_point []
  all_goals (congr 1; omega)

/-- What is stored is the reference. -/
theorem core (c : Dev nD) (t : Fin cfg0.N) (r : Fin 512) (n : Fin 5888) (j : S16384x5888.Idx) (hj0 : (j 0 : ℕ) = 512 * t.val + r) (hj1 : (j 1 : ℕ) = n) :
    out (k0_pay2 (iblk m c 0 t) (iblk m c 1 t)) (iblk m c 2 t) (iblk m c 4 t) (iblk m c 5 t) r n
      = Cert.InprojRefIdeal.Value.result (m ((c : Thread nD τ).loc main_arg0)) (m ((c : Thread nD τ).loc main_arg1)) (m ((c : Thread nD τ).loc main_arg2)) j := by
  unfold out
  simp only [acc_eq m c t r _ (j 0) hj0]
  have hn : (n : ℕ) < 5888 := n.isLt
  by_cases hp : (n : ℕ) < 3072
  · rw [if_pos hp]
    exact (ref_plain _ _ _ j n n ⟨0, by omega⟩ ⟨0, by omega⟩ hj1.symm (by omega)).symm
  · rw [if_neg hp]
    by_cases hl : (n : ℕ) % 64 < 32
    · rw [dif_pos hl]
      rw [in_cos m c t r _ ⟨(512 * t.val + r) % 2048, by omega⟩ ⟨n % 32, by omega⟩ rfl (by simp only []; omega),
        in_sin_lo m c t r _ ⟨(512 * t.val + r) % 2048, by omega⟩ ⟨n % 32, by omega⟩ rfl (by simp only []; omega) (by simp only []; omega)]
      exact (ref_lo _ _ _ j n ⟨n + 32, by omega⟩ ⟨(512 * t.val + r) % 2048, by omega⟩ ⟨n % 32, by omega⟩ hj1.symm (by simp only []; omega) (by omega) (by omega) (by simp only []; omega) (by simp only []; omega)).symm
    · rw [dif_neg hl]
      rw [in_cos m c t r _ ⟨(512 * t.val + r) % 2048, by omega⟩ ⟨n % 32, by omega⟩ rfl (by simp only []; omega),
        in_sin_hi m c t r _ ⟨(512 * t.val + r) % 2048, by omega⟩ ⟨n % 32, by omega⟩ rfl (by simp only []; omega) (by simp only []; omega)]
      exact (ref_hi _ _ _ j n ⟨n - 32, by omega⟩ ⟨(512 * t.val + r) % 2048, by omega⟩ ⟨n % 32, by omega⟩ hj1.symm (by simp only []; omega) (by omega) (by omega) (by simp only []; omega) (by simp only []; omega)).symm

end Cert.InprojIdeal.Value

end
-- ==== Proof.InprojMain.lean ====
module

public import proofs.«01_k».proof.Proof.Gen.InprojIdeal
public import proofs.«01_k».proof.Proof.Gen.InprojIdeal.Skeleton
public import proofs.«01_k».proof.Proof.Gen.InprojIdeal.Launch
public import proofs.«01_k».proof.Proof.Gen.InprojIdeal.Points
public import proofs.«01_k».proof.Proof.Gen.InprojIdeal.Frame
public import proofs.«01_k».proof.Proof.InprojCore
public import Idealize.ShloMosaic.Lib.Pipeline.Value
public import Idealize.ShloMosaic.Lib.StableHlo.Run
public import Idealize.ShloMosaic.Lib.Claim
public import Idealize.ShloMosaic.Lib.Pipeline.ValueKit
public import Idealize.ShloMosaic.Lib.Pointwise
public import Idealize.ShloMosaic.Lib.WordCmp
public import Idealize.ShloMosaic.Lib.Pipeline.FrameTail
public import Idealize.ShloMosaic.Lib.LayoutAt

/- The values of the joint projection: the first result. -/

@[expose] public section

set_option maxRecDepth 16384

noncomputable section

open Idealize.ShloMosaic Idealize.ShloMosaic.TcCoe Idealize.SL.Sem
open Idealize.ShloMosaic.Pipeline (Dat)
open scoped BigOperators

namespace Cert.InprojIdeal.Value

open Cert.InprojIdeal Cert.InprojIdeal.Gen

variable (m : (ℓ : Loc nD τ sig) → Buf (Elt Ideal) ℓ)

set_option maxHeartbeats 8000000 in
/-- The first result array after the run. -/
theorem final_6 (c : Dev nD) : (dats m 0 c).arrAt 6 (cfgs 0).N = Cert.InprojRefIdeal.Value.result (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp; rw [after0_6]; unfold outsAt0; dsimp only; frame_out
  refine Eq.trans (b := out (k0_pay2 (iblk m c 0 t) (iblk m c 1 t)) (iblk m c 2 t) (iblk m c 4 t) (iblk m c 5 t) (y 0) (y 1)) ?_ ?_
  · generalize (k0_pay2 (iblk m c 0 t) (iblk m c 1 t)) = h at *
    generalize iblk m c 2 t = w
    generalize iblk m c 4 t = cs
    generalize iblk m c 5 t = sn
    have s1 : ∀ a b : EReal, Scalar.select 1#1 a b = a := fun a b => rfl
    have s0 : ∀ a b : EReal, Scalar.select 0#1 a b = b := fun a b => rfl
    canon_tiles x h using (View.cover_of_tiledBy _ ![512, 128] (by sl_kernel_rfl) y)
    all_goals first
      | (have hp : ((y 1 : Fin 5888) : ℕ) < 3072 := by omega
         unfold out
         rw [if_pos hp]
         pointwise [k0_pay5, k0_pay6, k0_pay7, k0_pay8, k0_pay9, k0_pay10, k0_pay11, k0_pay12, k0_pay13, k0_pay14, k0_pay15, k0_pay16, acc]
         blk_point [])
      | (have hp : ¬ ((y 1 : Fin 5888) : ℕ) < 3072 := by omega
         unfold out
         rw [if_neg hp]
         by_cases hl : (x 1 : ℕ) % 64 < 32
         · rw [dif_pos (show ((y 1 : Fin 5888) : ℕ) % 64 < 32 by omega)]
           pointwise [k0_pay1, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, first_half, acc]
           rw [if_pos hl]
           simp only [s1]
           blk_point []
         · rw [dif_neg (show ¬ ((y 1 : Fin 5888) : ℕ) % 64 < 32 by omega)]
           pointwise [k0_pay1, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, first_half, acc]
           rw [if_neg hl]
           simp only [s0]
           blk_point [])
  · exact core m c t (y 0) (y 1) _ (by blk_simp [idx6 t] <;> omega) (by blk_simp [idx6 t] <;> omega)

end Cert.InprojIdeal.Value

end
-- ==== Proof.InprojValue.lean ====
module

public import proofs.«01_k».proof.Proof.Gen.InprojIdeal
public import proofs.«01_k».proof.Proof.Gen.InprojIdeal.Skeleton
public import proofs.«01_k».proof.Proof.Gen.InprojIdeal.Launch
public import proofs.«01_k».proof.Proof.Gen.InprojIdeal.Points
public import proofs.«01_k».proof.Proof.Gen.InprojIdeal.Frame
public import proofs.«01_k».proof.Proof.InprojRef
public import Idealize.ShloMosaic.Lib.Pipeline.Value
public import Idealize.ShloMosaic.Lib.StableHlo.Run
public import Idealize.ShloMosaic.Lib.Claim
public import Idealize.ShloMosaic.Lib.Pipeline.ValueKit
public import Idealize.ShloMosaic.Lib.Pointwise
public import Idealize.ShloMosaic.Lib.WordCmp
public import Idealize.ShloMosaic.Lib.Pipeline.FrameTail
public import Idealize.ShloMosaic.Lib.LayoutAt

/- The values of the joint projection: the second result. -/

@[expose] public section

set_option maxRecDepth 16384

noncomputable section

open Idealize.ShloMosaic Idealize.ShloMosaic.TcCoe Idealize.SL.Sem
open Idealize.ShloMosaic.Pipeline (Dat)
open scoped BigOperators

namespace Cert.InprojIdeal.Value

open Cert.InprojIdeal Cert.InprojIdeal.Gen

variable (m : (ℓ : Loc nD τ sig) → Buf (Elt Ideal) ℓ)

/-- Every window's block index at a grid point. -/
theorem idx_val : ∀ t : Fin cfg0.N, win0_0.index t = ![t.val, 0]
    ∧ win0_1.index t = ![0, 0]
    ∧ win0_2.index t = ![0, 0]
    ∧ win0_3.index t = ![0, 0]
    ∧ win0_4.index t = ![t.val % 4, 0]
    ∧ win0_5.index t = ![t.val % 4, 0]
    ∧ win0_6.index t = ![t.val, 0]
    ∧ win0_7.index t = ![t.val, 0] :=
  (by decide +kernel : ∀ t : Fin grid0.N, _)

/-- The second result array after the run. -/
theorem final_7 (c : Dev nD) : (dats m 0 c).arrAt 7 (cfgs 0).N = Cert.InprojRefIdeal.Value.small (m ((c : Thread nD τ).loc main_arg0)) (m ((c : Thread nD τ).loc main_arg1)) (m ((c : Thread nD τ).loc main_arg3)) := by
  refine (dats m 0 c).arrAt_eq_of_covers 7 _ (by decide +kernel) fun t hf y => ?_
  blk_simp; rw [after0_7]; unfold outsAt0; dsimp only; frame_out
  pointwise [k0_pay1, k0_pay2, k0_pay3, Cert.InprojRefIdeal.Value.small, Cert.InprojRefIdeal.Value.normed]
  blk_point [iblk, V, idx_val t]

end Cert.InprojIdeal.Value

end
-- ==== Proof.Body.lean ====
module

public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

theorem off126_eq : ∀ i : grid0.Coords, k0_off126 i = ![(i 1).val - 1, 0, 0] := by decide +kernel
theorem off127_eq : ∀ i : grid0.Coords, k0_cond3 i = 1#1 → k0_off127 i = ![256 * ((i 1).val - 1), 0] := by decide +kernel
theorem off128_eq : ∀ i : grid0.Coords, k0_cond3 i = 1#1 → k0_off128 i = ![(i 1).val - 1, 0, 0] := by decide +kernel
theorem off129_eq : ∀ i : grid0.Coords, k0_cond3 i = 1#1 → k0_off129 i = ![((i 1).val - 2) + (2 - (i 1).val), 0, 0] := by decide +kernel
theorem off130_eq : ∀ i : grid0.Coords, k0_cond3 i = 1#1 → k0_off130 i = ![(i 1).val - 1, 0, 0] := by decide +kernel
theorem cond_cases : ∀ i : grid0.Coords, (k0_cond2 i = 1#1 ∧ k0_cond3 i ≠ 1#1) ∨ (k0_cond2 i ≠ 1#1 ∧ k0_cond3 i = 1#1) := by decide +kernel
theorem cond_zero : ∀ i : grid0.Coords, Scalar.cmpi .ne (Scalar.extui (Scalar.cmpi .eq (BitVec.ofNat 32 (i 1).val) 0#32) : BitVec 32) 0#32 = 1#1 → k0_cond2 i = 1#1 ∧ k0_cond3 i ≠ 1#1 := by decide +kernel

instance off126_closed (i : grid0.Coords) : ClosedOff (k0_off126 i) := ⟨![(i 1).val - 1, 0, 0], off126_eq i⟩
instance off127_closed (i : grid0.Coords) [h : Fact (k0_cond3 i = 1#1)] : ClosedOff (k0_off127 i) := ⟨![256 * ((i 1).val - 1), 0], off127_eq i h.out⟩
instance off128_closed (i : grid0.Coords) [h : Fact (k0_cond3 i = 1#1)] : ClosedOff (k0_off128 i) := ⟨![(i 1).val - 1, 0, 0], off128_eq i h.out⟩
instance off129_closed (i : grid0.Coords) [h : Fact (k0_cond3 i = 1#1)] : ClosedOff (k0_off129 i) := ⟨![((i 1).val - 2) + (2 - (i 1).val), 0, 0], off129_eq i h.out⟩
instance off130_closed (i : grid0.Coords) [h : Fact (k0_cond3 i = 1#1)] : ClosedOff (k0_off130 i) := ⟨![(i 1).val - 1, 0, 0], off130_eq i h.out⟩

set_option maxHeartbeats 0 in
/-- The body at a point of the case `Zero`: it runs, keeps the blocks it reads, and leaves every buffer it writes owned. -/
theorem bodyZero (c : Dev nD) (i : grid0.Coords) (arg2 : Memref sig .tc .vmem S256x256 .bf16) (harg2 : arg2.IsWhole) (arg3 : Memref sig .tc .vmem S2048x256 .bf16) (harg3 : arg3.IsWhole) (arg4 : Memref sig .tc .vmem S2048x128 .bf16) (harg4 : arg4.IsWhole) (arg5 : Memref sig .tc .vmem S256x512 .bf16) (harg5 : arg5.IsWhole) (arg6 : Memref sig .tc .vmem S256x128 .f32) (harg6 : arg6.IsWhole) (arg7 : Memref sig .tc .vmem S256x256 .bf16) (harg7 : arg7.IsWhole) (arg8 : Memref sig .tc .vmem S256x512 .bf16) (harg8 : arg8.IsWhole) (arg9 : Memref sig .tc .vmem S8x256x256 .i32) (harg9 : arg9.IsWhole) (arg10 : Memref sig .tc .vmem S8x32x8x256 .i32) (harg10 : arg10.IsWhole) (arg11 : Memref sig .tc .vmem S8x256x256 .f32) (harg11 : arg11.IsWhole) (arg12 : Memref sig .tc .vmem S8x80x256 .bf16) (harg12 : arg12.IsWhole) (arg13 : Memref sig .tc .vmem S4x128x256 .bf16) (harg13 : arg13.IsWhole) (arg14 : Memref sig .tc .vmem S8x128x256 .bf16) (harg14 : arg14.IsWhole) (arg15 : Memref sig .tc .vmem S8x256x256 .f32) (harg15 : arg15.IsWhole) (arg16 : Memref sig .tc .vmem S8x256x256 .f32) (harg16 : arg16.IsWhole) (arg17 : Memref sig .tc .vmem S8x1x256 .f32) (harg17 : arg17.IsWhole) (arg18 : Memref sig .tc .vmem S8x80x256 .f32) (harg18 : arg18.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty)
    (h1 : Scalar.cmpi .ne (Scalar.extui (Scalar.cmpi .eq (BitVec.ofNat 32 (i 1).val) 0#32) : BitVec 32) 0#32 = 1#1)
    (h2 : k0_cond2 i = 1#1) (h3 : k0_cond3 i ≠ 1#1) (K : PUnit → sProp 𝕄) :
    iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗ (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f))) -∗ K ⟨⟩))
      ⊢ wp frame (wpE (defs₀ (F := F)) Variants.none c none) Set.univ (cc0_dsa i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_dsa_eq_skeleton]; unfold cc0_dsa_skel
  iintro ⟨H2, H3, H4, H5, H6, H7, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, Hk⟩
  sl_exec_parts
  sl_step
  iapply Hk
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  iexists _; iexact H18

set_option maxHeartbeats 0 in
/-- The body at a point of the case `Even`: it runs, keeps the blocks it reads, and leaves every buffer it writes owned. -/
theorem bodyEven (c : Dev nD) (i : grid0.Coords) (arg2 : Memref sig .tc .vmem S256x256 .bf16) (harg2 : arg2.IsWhole) (arg3 : Memref sig .tc .vmem S2048x256 .bf16) (harg3 : arg3.IsWhole) (arg4 : Memref sig .tc .vmem S2048x128 .bf16) (harg4 : arg4.IsWhole) (arg5 : Memref sig .tc .vmem S256x512 .bf16) (harg5 : arg5.IsWhole) (arg6 : Memref sig .tc .vmem S256x128 .f32) (harg6 : arg6.IsWhole) (arg7 : Memref sig .tc .vmem S256x256 .bf16) (harg7 : arg7.IsWhole) (arg8 : Memref sig .tc .vmem S256x512 .bf16) (harg8 : arg8.IsWhole) (arg9 : Memref sig .tc .vmem S8x256x256 .i32) (harg9 : arg9.IsWhole) (arg10 : Memref sig .tc .vmem S8x32x8x256 .i32) (harg10 : arg10.IsWhole) (arg11 : Memref sig .tc .vmem S8x256x256 .f32) (harg11 : arg11.IsWhole) (arg12 : Memref sig .tc .vmem S8x80x256 .bf16) (harg12 : arg12.IsWhole) (arg13 : Memref sig .tc .vmem S4x128x256 .bf16) (harg13 : arg13.IsWhole) (arg14 : Memref sig .tc .vmem S8x128x256 .bf16) (harg14 : arg14.IsWhole) (arg15 : Memref sig .tc .vmem S8x256x256 .f32) (harg15 : arg15.IsWhole) (arg16 : Memref sig .tc .vmem S8x256x256 .f32) (harg16 : arg16.IsWhole) (arg17 : Memref sig .tc .vmem S8x1x256 .f32) (harg17 : arg17.IsWhole) (arg18 : Memref sig .tc .vmem S8x80x256 .f32) (harg18 : arg18.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty)
    (h1 : Scalar.cmpi .ne (Scalar.extui (Scalar.cmpi .eq (BitVec.ofNat 32 (i 1).val) 0#32) : BitVec 32) 0#32 ≠ 1#1)
    (h2 : k0_cond2 i = 1#1) (h3 : k0_cond3 i ≠ 1#1) (K : PUnit → sProp 𝕄) :
    iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗ (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f))) -∗ K ⟨⟩))
      ⊢ wp frame (wpE (defs₀ (F := F)) Variants.none c none) Set.univ (cc0_dsa i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_dsa_eq_skeleton]; unfold cc0_dsa_skel
  iintro ⟨H2, H3, H4, H5, H6, H7, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, Hk⟩
  sl_exec_parts
  sl_step
  iapply Hk
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  iexists _; iexact H18

set_option maxHeartbeats 0 in
/-- The body at a point of the case `Odd`: it runs, keeps the blocks it reads, and leaves every buffer it writes owned. -/
theorem bodyOdd (c : Dev nD) (i : grid0.Coords) (arg2 : Memref sig .tc .vmem S256x256 .bf16) (harg2 : arg2.IsWhole) (arg3 : Memref sig .tc .vmem S2048x256 .bf16) (harg3 : arg3.IsWhole) (arg4 : Memref sig .tc .vmem S2048x128 .bf16) (harg4 : arg4.IsWhole) (arg5 : Memref sig .tc .vmem S256x512 .bf16) (harg5 : arg5.IsWhole) (arg6 : Memref sig .tc .vmem S256x128 .f32) (harg6 : arg6.IsWhole) (arg7 : Memref sig .tc .vmem S256x256 .bf16) (harg7 : arg7.IsWhole) (arg8 : Memref sig .tc .vmem S256x512 .bf16) (harg8 : arg8.IsWhole) (arg9 : Memref sig .tc .vmem S8x256x256 .i32) (harg9 : arg9.IsWhole) (arg10 : Memref sig .tc .vmem S8x32x8x256 .i32) (harg10 : arg10.IsWhole) (arg11 : Memref sig .tc .vmem S8x256x256 .f32) (harg11 : arg11.IsWhole) (arg12 : Memref sig .tc .vmem S8x80x256 .bf16) (harg12 : arg12.IsWhole) (arg13 : Memref sig .tc .vmem S4x128x256 .bf16) (harg13 : arg13.IsWhole) (arg14 : Memref sig .tc .vmem S8x128x256 .bf16) (harg14 : arg14.IsWhole) (arg15 : Memref sig .tc .vmem S8x256x256 .f32) (harg15 : arg15.IsWhole) (arg16 : Memref sig .tc .vmem S8x256x256 .f32) (harg16 : arg16.IsWhole) (arg17 : Memref sig .tc .vmem S8x1x256 .f32) (harg17 : arg17.IsWhole) (arg18 : Memref sig .tc .vmem S8x80x256 .f32) (harg18 : arg18.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty)
    (h1 : Scalar.cmpi .ne (Scalar.extui (Scalar.cmpi .eq (BitVec.ofNat 32 (i 1).val) 0#32) : BitVec 32) 0#32 ≠ 1#1)
    (h2 : k0_cond2 i ≠ 1#1) (h3 : k0_cond3 i = 1#1) (K : PUnit → sProp 𝕄) :
    iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗ (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f))) -∗ K ⟨⟩))
      ⊢ wp frame (wpE (defs₀ (F := F)) Variants.none c none) Set.univ (cc0_dsa i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  haveI : Fact (k0_cond3 i = 1#1) := ⟨h3⟩
  simp only [cc0_dsa_eq_skeleton]; unfold cc0_dsa_skel
  iintro ⟨H2, H3, H4, H5, H6, H7, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, Hk⟩
  sl_exec_parts
  sl_step
  iapply Hk
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  iexists _; iexact H18

end Cert.Kernel.Hand

end
-- ==== Proof.Frame.lean ====
module

public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Body
public import Idealize.ShloMosaic.Lib.Pipeline.Kit

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The kernel's ten scratch buffers, each held whole at some contents. -/
theorem scratch_eq (c : Dev nD) :
    (Pipeline.scopedRest (Ix := Unit) (Name := ℕ) (U := UR sig nD τ) (Lvl := ℕ) (Val := Elt F) spec0 c : sProp 𝕄)
      = iprop((∃ f, ((Memref.whole cc0_scratch0).view.loc (c : Thread nD τ) ↦[(Memref.whole cc0_scratch0).view.set]{fullShare} f)) ∗ (∃ f, ((Memref.whole cc0_scratch1).view.loc (c : Thread nD τ) ↦[(Memref.whole cc0_scratch1).view.set]{fullShare} f)) ∗ (∃ f, ((Memref.whole cc0_scratch2).view.loc (c : Thread nD τ) ↦[(Memref.whole cc0_scratch2).view.set]{fullShare} f)) ∗ (∃ f, ((Memref.whole cc0_scratch3).view.loc (c : Thread nD τ) ↦[(Memref.whole cc0_scratch3).view.set]{fullShare} f)) ∗ (∃ f, ((Memref.whole cc0_scratch4).view.loc (c : Thread nD τ) ↦[(Memref.whole cc0_scratch4).view.set]{fullShare} f)) ∗ (∃ f, ((Memref.whole cc0_scratch5).view.loc (c : Thread nD τ) ↦[(Memref.whole cc0_scratch5).view.set]{fullShare} f)) ∗ (∃ f, ((Memref.whole cc0_scratch6).view.loc (c : Thread nD τ) ↦[(Memref.whole cc0_scratch6).view.set]{fullShare} f)) ∗ (∃ f, ((Memref.whole cc0_scratch7).view.loc (c : Thread nD τ) ↦[(Memref.whole cc0_scratch7).view.set]{fullShare} f)) ∗ (∃ f, ((Memref.whole cc0_scratch8).view.loc (c : Thread nD τ) ↦[(Memref.whole cc0_scratch8).view.set]{fullShare} f)) ∗ (∃ f, ((Memref.whole cc0_scratch9).view.loc (c : Thread nD τ) ↦[(Memref.whole cc0_scratch9).view.set]{fullShare} f))) := by
  rw [scopedRest0_eq]; simp only [Memref.view_whole, View.set_whole]

/-- The proof data of the pipeline: each input block stays in place, and of the result's block nothing is said. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => X0_3 m c t
    | ⟨4, _⟩ => iblk m c 4 t
    | ⟨5, _⟩ => iblk m c 5 t
    | ⟨6, h⟩ => Dat.unnamed ⟨6, h⟩ t
  Φ _ := Pipeline.ΦA spec0 c
  q w := Pipeline.shareOf spec0 w
  owed _ := 0

/-- The window whose contents are not named: the result's. -/
abbrev fgt (w : Fin cfg0.W) : Bool := decide (w = 6)

theorem before_0 (c : Dev nD) (t : Fin cfg0.N) (d) : (dats (F := F) m 0 c).before 0 t d = iblk m c 0 t := before0_0_of m (dats m 0 c) rfl (fun _ => by dsimp only [dats]) t d
theorem before_1 (c : Dev nD) (t : Fin cfg0.N) (d) : (dats (F := F) m 0 c).before 1 t d = iblk m c 1 t := before0_1_of m (dats m 0 c) rfl (fun _ => by dsimp only [dats]) t d
theorem before_2 (c : Dev nD) (t : Fin cfg0.N) (d) : (dats (F := F) m 0 c).before 2 t d = iblk m c 2 t := before0_2_of m (dats m 0 c) rfl (fun _ => by dsimp only [dats]) t d
theorem before_3 (c : Dev nD) (t : Fin cfg0.N) (d) : (dats (F := F) m 0 c).before 3 t d = X0_3 m c t := before0_3_of m (dats m 0 c) rfl (fun _ => by dsimp only [dats]) t d
theorem before_4 (c : Dev nD) (t : Fin cfg0.N) (d) : (dats (F := F) m 0 c).before 4 t d = iblk m c 4 t := before0_4_of m (dats m 0 c) rfl (fun _ => by dsimp only [dats]) t d
theorem before_5 (c : Dev nD) (t : Fin cfg0.N) (d) : (dats (F := F) m 0 c).before 5 t d = iblk m c 5 t := before0_5_of m (dats m 0 c) rfl (fun _ => by dsimp only [dats]) t d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ X, owns (c : Thread nD τ) (st0_6 t) fullShare (X)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ (∃ X, owns (c : Thread nD τ) (st0_6 t) fullShare (X)))

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = Pipeline.ΦA spec0 c from rfl, show (dats m 0 c).Φ t.castSucc = Pipeline.ΦA spec0 c from rfl]
  unfold Pipeline.ΦA
  rw [scratch_eq]
  unfold Dat.owesAt Pipeline.owesWithin
  rw [show (dats m 0 c).owed t.castSucc = 0 from rfl, show (dats m 0 c).owed t.succ = 0 from rfl]
  simp only [before_0, before_1, before_2, before_3, before_4, before_5]
  rw [show (dats m 0 c).after 0 t = iblk m c 0 t from rfl, show (dats m 0 c).after 1 t = iblk m c 1 t from rfl,
    show (dats m 0 c).after 2 t = iblk m c 2 t from rfl, show (dats m 0 c).after 3 t = X0_3 m c t from rfl,
    show (dats m 0 c).after 4 t = iblk m c 4 t from rfl, show (dats m 0 c).after 5 t = iblk m c 5 t from rfl]
  unfold owns
  iintro ⟨⟨⟨HS0, HS1, HS2, HS3, HS4, HS5, HS6, HS7, HS8, HS9⟩, Hg⟩, ⟨%W, -, HW⟩, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩, ⟨%d6, %f6, %e6, H6⟩⟩
  by_cases h1 : Scalar.cmpi .ne (Scalar.extui (Scalar.cmpi .eq (BitVec.ofNat 32 ((grid0.coords t) 1).val) 0#32) : BitVec 32) 0#32 = 1#1
  · iapply (bodyZero (F := F) c (grid0.coords t) _ _ _ _ _ _ _ _ _ _ _ _ _ _ _ _ _ _ _ _ _ _ _ _ _ _ _ _ _ _ _ _ _ _ f0 f1 f2 f3 f4 f5 h1 (cond_zero _ h1).1 (cond_zero _ h1).2 _)
    isplitl [H0]; · iexact H0
    isplitl [H1]; · iexact H1
    isplitl [H2]; · iexact H2
    isplitl [H3]; · iexact H3
    isplitl [H4]; · iexact H4
    isplitl [H5]; · iexact H5
    isplitl [H6]; · iexists f6; iexact H6
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    iintro ⟨H0, H1, H2, H3, H4, H5, ⟨%g6, H6⟩, HS0, HS1, HS2, HS3, HS4, HS5, HS6, HS7, HS8, HS9⟩
    isplitl [HS0 HS1 HS2 HS3 HS4 HS5 HS6 HS7 HS8 HS9 Hg]
    · isplitl [HS0 HS1 HS2 HS3 HS4 HS5 HS6 HS7 HS8 HS9]
      · isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        isplitl [HS8]; · iexact HS8
        iexact HS9
      · iexact Hg
    isplitl [HW]
    · iexists W; isplitr; · ipureintro; exact fun _ _ => Or.inl trivial
      iexact HW
    isplitl [H0]
    · iexists f0; isplitr; · ipureintro; exact e0
      iexact H0
    isplitl [H1]
    · iexists f1; isplitr; · ipureintro; exact e1
      iexact H1
    isplitl [H2]
    · iexists f2; isplitr; · ipureintro; exact e2
      iexact H2
    isplitl [H3]
    · iexists f3; isplitr; · ipureintro; exact e3
      iexact H3
    isplitl [H4]
    · iexists f4; isplitr; · ipureintro; exact e4
      iexact H4
    isplitl [H5]
    · iexists f5; isplitr; · ipureintro; exact e5
      iexact H5
    iexists _; iexists g6; isplitr; · ipureintro; rfl
    iexact H6
  · rcases cond_cases (grid0.coords t) with ⟨h2, h3⟩ | ⟨h2, h3⟩
    · iapply (bodyEven (F := F) c (grid0.coords t) _ _ _ _ _ _ _ _ _ _ _ _ _ _ _ _ _ _ _ _ _ _ _ _ _ _ _ _ _ _ _ _ _ _ f0 f1 f2 f3 f4 f5 h1 h2 h3 _)
      isplitl [H0]; · iexact H0
      isplitl [H1]; · iexact H1
      isplitl [H2]; · iexact H2
      isplitl [H3]; · iexact H3
      isplitl [H4]; · iexact H4
      isplitl [H5]; · iexact H5
      isplitl [H6]; · iexists f6; iexact H6
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      isplitl [HS9]; · iexact HS9
      iintro ⟨H0, H1, H2, H3, H4, H5, ⟨%g6, H6⟩, HS0, HS1, HS2, HS3, HS4, HS5, HS6, HS7, HS8, HS9⟩
      isplitl [HS0 HS1 HS2 HS3 HS4 HS5 HS6 HS7 HS8 HS9 Hg]
      · isplitl [HS0 HS1 HS2 HS3 HS4 HS5 HS6 HS7 HS8 HS9]
        · isplitl [HS0]; · iexact HS0
          isplitl [HS1]; · iexact HS1
          isplitl [HS2]; · iexact HS2
          isplitl [HS3]; · iexact HS3
          isplitl [HS4]; · iexact HS4
          isplitl [HS5]; · iexact HS5
          isplitl [HS6]; · iexact HS6
          isplitl [HS7]; · iexact HS7
          isplitl [HS8]; · iexact HS8
          iexact HS9
        · iexact Hg
      isplitl [HW]
      · iexists W; isplitr; · ipureintro; exact fun _ _ => Or.inl trivial
        iexact HW
      isplitl [H0]
      · iexists f0; isplitr; · ipureintro; exact e0
        iexact H0
      isplitl [H1]
      · iexists f1; isplitr; · ipureintro; exact e1
        iexact H1
      isplitl [H2]
      · iexists f2; isplitr; · ipureintro; exact e2
        iexact H2
      isplitl [H3]
      · iexists f3; isplitr; · ipureintro; exact e3
        iexact H3
      isplitl [H4]
      · iexists f4; isplitr; · ipureintro; exact e4
        iexact H4
      isplitl [H5]
      · iexists f5; isplitr; · ipureintro; exact e5
        iexact H5
      iexists _; iexists g6; isplitr; · ipureintro; rfl
      iexact H6
    · iapply (bodyOdd (F := F) c (grid0.coords t) _ _ _ _ _ _ _ _ _ _ _ _ _ _ _ _ _ _ _ _ _ _ _ _ _ _ _ _ _ _ _ _ _ _ f0 f1 f2 f3 f4 f5 h1 h2 h3 _)
      isplitl [H0]; · iexact H0
      isplitl [H1]; · iexact H1
      isplitl [H2]; · iexact H2
      isplitl [H3]; · iexact H3
      isplitl [H4]; · iexact H4
      isplitl [H5]; · iexact H5
      isplitl [H6]; · iexists f6; iexact H6
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      isplitl [HS9]; · iexact HS9
      iintro ⟨H0, H1, H2, H3, H4, H5, ⟨%g6, H6⟩, HS0, HS1, HS2, HS3, HS4, HS5, HS6, HS7, HS8, HS9⟩
      isplitl [HS0 HS1 HS2 HS3 HS4 HS5 HS6 HS7 HS8 HS9 Hg]
      · isplitl [HS0 HS1 HS2 HS3 HS4 HS5 HS6 HS7 HS8 HS9]
        · isplitl [HS0]; · iexact HS0
          isplitl [HS1]; · iexact HS1
          isplitl [HS2]; · iexact HS2
          isplitl [HS3]; · iexact HS3
          isplitl [HS4]; · iexact HS4
          isplitl [HS5]; · iexact HS5
          isplitl [HS6]; · iexact HS6
          isplitl [HS7]; · iexact HS7
          isplitl [HS8]; · iexact HS8
          iexact HS9
        · iexact Hg
      isplitl [HW]
      · iexists W; isplitr; · ipureintro; exact fun _ _ => Or.inl trivial
        iexact HW
      isplitl [H0]
      · iexists f0; isplitr; · ipureintro; exact e0
        iexact H0
      isplitl [H1]
      · iexists f1; isplitr; · ipureintro; exact e1
        iexact H1
      isplitl [H2]
      · iexists f2; isplitr; · ipureintro; exact e2
        iexact H2
      isplitl [H3]
      · iexists f3; isplitr; · ipureintro; exact e3
        iexact H3
      isplitl [H4]
      · iexists f4; isplitr; · ipureintro; exact e4
        iexact H4
      isplitl [H5]
      · iexists f5; isplitr; · ipureintro; exact e5
        iexact H5
      iexists _; iexists g6; isplitr; · ipureintro; rfl
      iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ fgt := fun t => by
  rw [bigSep_W0, bigSep_W0, defs₀_row]
  exact triple_restated (sound_body m c t) rfl .rfl fun _ => .rfl

set_option backward.isDefEq.respectTransparency.types false in
theorem run_main : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_forget_shared (Q' := _) cfgs (dats m) (0 : Fin 1) launch₀0 defs₀ Variants.none fgt m ρ main
    (hbody := fun c => (body_obligation m c).loose) (hq := fun _ _ _ => rfl)
    (howed := fun _ _ => rfl) (V := V m) (hmain := hmain m Variants.none) (hA := fun _ _ => rfl) (hΦ := fun _ _ => rfl)

/-- The frame: the kernel runs, its two argument arrays end unchanged, and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c =>
    ⟨(((dats m 0 c).toRForget_arrAt_iff (fgt := fgt) (w := 3) rfl _ _).mp ((h.1 c).1 3)).trans (((dats m 0 c).arrAt_in 3 rfl _).trans (V_main_arg0 m c)),
     (((dats m 0 c).toRForget_arrAt_iff (fgt := fgt) (w := 4) rfl _ _).mp ((h.1 c).1 4)).trans (((dats m 0 c).arrAt_in 4 rfl _).trans (V_main_arg1 m c))⟩, h.2⟩) (run_main m ρ)

end Cert.Kernel.Hand

end
-- ==== Proof.FfnSlots.lean ====
module

public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import Idealize.ShloMosaic.Lib.Pipeline.Value
public import Idealize.ShloMosaic.Lib.StableHlo.Run
public import Idealize.ShloMosaic.Lib.Claim
public import Idealize.ShloMosaic.Lib.Pipeline.ValueKit
public import Idealize.ShloMosaic.Lib.Pointwise
public import Idealize.ShloMosaic.Lib.WordCmp
public import Idealize.ShloMosaic.Lib.Pipeline.FrameTail
public import Idealize.ShloMosaic.Lib.LayoutAt
public import Idealize.ShloMosaic.Lib.Pipeline.ReadBack
public import proofs.«01_k».proof.Proof.FfnRef

/- The feed-forward block: what its loads read of the scratch it stored before. -/

@[expose] public section

set_option maxRecDepth 16384

noncomputable section

open Idealize.ShloMosaic Idealize.ShloMosaic.TcCoe Idealize.SL.Sem
open Idealize.ShloMosaic.Pipeline (Dat)
open scoped BigOperators

namespace Cert.FfnIdeal.Value

open Cert.FfnIdeal Cert.FfnIdeal.Gen

variable (m : (ℓ : Loc nD τ sig) → Buf (Elt Ideal) ℓ)

/-- The value one row before, the row before the first being the last carried. -/
def sh1 (u : Fin 512 → EReal) (c : Fin 8 → EReal) (r : Fin 512) : EReal :=
  if h : 1 ≤ r.val then u ⟨r.val - 1, by omega⟩ else c 7

/-- The value two rows before, the rows before the first being the last two carried. -/
def sh2 (u : Fin 512 → EReal) (c : Fin 8 → EReal) (r : Fin 512) : EReal :=
  if h : 2 ≤ r.val then u ⟨r.val - 2, by omega⟩ else c ⟨r.val + 6, by omega⟩

/-- A slot's rows one before its own. -/
def slot1 (u : S1x512x256.Idx → Elt Ideal .f32) (k : S1x8x256.Idx → Elt Ideal .f32) : S1x512x256.Idx → Elt Ideal .f32 :=
  fun x => sh1 (fun r => u (ix3 0 r (x 2))) (fun r => k (ix3 0 r (x 2))) (x 1)

/-- A slot's rows two before its own. -/
def slot2 (u : S1x512x256.Idx → Elt Ideal .f32) (k : S1x8x256.Idx → Elt Ideal .f32) : S1x512x256.Idx → Elt Ideal .f32 :=
  fun x => sh2 (fun r => u (ix3 0 r (x 2))) (fun r => k (ix3 0 r (x 2))) (x 1)

/-- Rows 1 before a slot's own, read after the slot's two stores. -/
theorem read_slot1 (v : View sig .tc .vmem S4x520x256 .f32) (s : ℕ) (i1 : ∀ a, (![s, 8, 0] : Fin 3 → ℕ) a + (![1, 512, 256] : Fin 3 → ℕ) a ≤ S4x520x256.size a)
    (i2 : ∀ a, (![s, 0, 0] : Fin 3 → ℕ) a + (![1, 8, 256] : Fin 3 → ℕ) a ≤ S4x520x256.size a)
    (i3 : ∀ a, (![s, 7, 0] : Fin 3 → ℕ) a + (![1, 512, 256] : Fin 3 → ℕ) a ≤ S4x520x256.size a) (u : S1x512x256.Idx → Elt Ideal .f32) (k : S1x8x256.Idx → Elt Ideal .f32)
    (L : List (View.Piece (Elt Ideal) S4x520x256 .f32)) :
    v.readCov (⟨Rect.unit ![s, 8, 0] ![1, 512, 256] i1, u⟩ :: ⟨Rect.unit ![s, 0, 0] ![1, 8, 256] i2, k⟩ :: L) (Rect.unit ![s, 7, 0] ![1, 512, 256] i3 : Rect S4x520x256).toLoadRect = slot1 u k := by
  rw [View.readCov_eq_canon']
  funext j
  have hs : s < 4 := by have := i1 0; simpa using this
  obtain ⟨a, b, d, rfl⟩ : ∃ (a : Fin 1) (b : Fin 512) (d : Fin 256), j = ix3 a b d := ⟨j 0, j 1, j 2, by funext q; fin_cases q <;> rfl⟩
  by_cases h : 1 ≤ b.val
  · have e : (Rect.unit ![s, 7, 0] ![1, 512, 256] i3 : Rect S4x520x256).toLoadRect.idx (ix3 a b d) = (Rect.unit ![s, 8, 0] ![1, 512, 256] i1 : Rect S4x520x256).emb (ix3 (0 : Fin 1) (⟨b.val - 1, by omega⟩ : Fin 512) d) := by
      funext q
      apply Fin.ext
      fin_cases q
      · have := a.isLt; simp [ix3] <;> omega
      · simp [ix3] <;> omega
      · simp [ix3]
    rw [e, View.canon_cons_emb]
    unfold slot1 sh1
    rw [dif_pos (show 1 ≤ ((ix3 a b d : S1x512x256.Idx) 1).val from h)]
    rfl
  · have n1 : (Rect.unit ![s, 7, 0] ![1, 512, 256] i3 : Rect S4x520x256).toLoadRect.idx (ix3 a b d) ∉ (Rect.unit ![s, 8, 0] ![1, 512, 256] i1 : Rect S4x520x256).set := by
      rw [Rect.mem_set_unit]
      intro hh
      have := (hh 1).1
      simp [ix3] at this
      omega
    have e : (Rect.unit ![s, 7, 0] ![1, 512, 256] i3 : Rect S4x520x256).toLoadRect.idx (ix3 a b d) = (Rect.unit ![s, 0, 0] ![1, 8, 256] i2 : Rect S4x520x256).emb (ix3 (0 : Fin 1) (⟨b.val + 7, by omega⟩ : Fin 8) d) := by
      funext q
      apply Fin.ext
      fin_cases q
      · have := a.isLt; simp [ix3] <;> omega
      · simp [ix3] <;> omega
      · simp [ix3]
    refine (View.canon_cons_of_not_mem (⟨Rect.unit ![s, 8, 0] ![1, 512, 256] i1, u⟩ : View.Piece (Elt Ideal) S4x520x256 .f32) _ n1).trans ?_
    rw [e, View.canon_cons_emb]
    unfold slot1 sh1
    rw [dif_neg (show ¬ 1 ≤ ((ix3 a b d : S1x512x256.Idx) 1).val from h)]
    blk_ext

/-- Rows 2 before a slot's own, read after the slot's two stores. -/
theorem read_slot2 (v : View sig .tc .vmem S4x520x256 .f32) (s : ℕ) (i1 : ∀ a, (![s, 8, 0] : Fin 3 → ℕ) a + (![1, 512, 256] : Fin 3 → ℕ) a ≤ S4x520x256.size a)
    (i2 : ∀ a, (![s, 0, 0] : Fin 3 → ℕ) a + (![1, 8, 256] : Fin 3 → ℕ) a ≤ S4x520x256.size a)
    (i3 : ∀ a, (![s, 6, 0] : Fin 3 → ℕ) a + (![1, 512, 256] : Fin 3 → ℕ) a ≤ S4x520x256.size a) (u : S1x512x256.Idx → Elt Ideal .f32) (k : S1x8x256.Idx → Elt Ideal .f32)
    (L : List (View.Piece (Elt Ideal) S4x520x256 .f32)) :
    v.readCov (⟨Rect.unit ![s, 8, 0] ![1, 512, 256] i1, u⟩ :: ⟨Rect.unit ![s, 0, 0] ![1, 8, 256] i2, k⟩ :: L) (Rect.unit ![s, 6, 0] ![1, 512, 256] i3 : Rect S4x520x256).toLoadRect = slot2 u k := by
  rw [View.readCov_eq_canon']
  funext j
  have hs : s < 4 := by have := i1 0; simpa using this
  obtain ⟨a, b, d, rfl⟩ : ∃ (a : Fin 1) (b : Fin 512) (d : Fin 256), j = ix3 a b d := ⟨j 0, j 1, j 2, by funext q; fin_cases q <;> rfl⟩
  by_cases h : 2 ≤ b.val
  · have e : (Rect.unit ![s, 6, 0] ![1, 512, 256] i3 : Rect S4x520x256).toLoadRect.idx (ix3 a b d) = (Rect.unit ![s, 8, 0] ![1, 512, 256] i1 : Rect S4x520x256).emb (ix3 (0 : Fin 1) (⟨b.val - 2, by omega⟩ : Fin 512) d) := by
      funext q
      apply Fin.ext
      fin_cases q
      · have := a.isLt; simp [ix3] <;> omega
      · simp [ix3] <;> omega
      · simp [ix3]
    rw [e, View.canon_cons_emb]
    unfold slot2 sh2
    rw [dif_pos (show 2 ≤ ((ix3 a b d : S1x512x256.Idx) 1).val from h)]
    rfl
  · have n1 : (Rect.unit ![s, 6, 0] ![1, 512, 256] i3 : Rect S4x520x256).toLoadRect.idx (ix3 a b d) ∉ (Rect.unit ![s, 8, 0] ![1, 512, 256] i1 : Rect S4x520x256).set := by
      rw [Rect.mem_set_unit]
      intro hh
      have := (hh 1).1
      simp [ix3] at this
      omega
    have e : (Rect.unit ![s, 6, 0] ![1, 512, 256] i3 : Rect S4x520x256).toLoadRect.idx (ix3 a b d) = (Rect.unit ![s, 0, 0] ![1, 8, 256] i2 : Rect S4x520x256).emb (ix3 (0 : Fin 1) (⟨b.val + 6, by omega⟩ : Fin 8) d) := by
      funext q
      apply Fin.ext
      fin_cases q
      · have := a.isLt; simp [ix3] <;> omega
      · simp [ix3] <;> omega
      · simp [ix3]
    refine (View.canon_cons_of_not_mem (⟨Rect.unit ![s, 8, 0] ![1, 512, 256] i1, u⟩ : View.Piece (Elt Ideal) S4x520x256 .f32) _ n1).trans ?_
    rw [e, View.canon_cons_emb]
    unfold slot2 sh2
    rw [dif_neg (show ¬ 2 ≤ ((ix3 a b d : S1x512x256.Idx) 1).val from h)]
    blk_ext

/-- A load of the carried rows passes over a store to other columns. -/
theorem skip_cols (v : View sig .tc .vmem S8x5632 .f32) (a b : ℕ) (i1 : ∀ d, (![0, a] : Fin 2 → ℕ) d + (![8, 256] : Fin 2 → ℕ) d ≤ S8x5632.size d)
    (i2 : ∀ d, (![0, b] : Fin 2 → ℕ) d + (![8, 256] : Fin 2 → ℕ) d ≤ S8x5632.size d) (w : S8x256.Idx → Elt Ideal .f32)
    (L : List (View.Piece (Elt Ideal) S8x5632 .f32)) (h : a + 256 ≤ b ∨ b + 256 ≤ a) :
    v.readCov (⟨Rect.unit ![0, a] ![8, 256] i1, w⟩ :: L) (Rect.unit ![0, b] ![8, 256] i2).toLoadRect = v.readCov L (Rect.unit ![0, b] ![8, 256] i2).toLoadRect := by
  rw [View.readCov_eq_canon', View.readCov_eq_canon']
  funext j
  refine View.canon_cons_of_not_mem ⟨Rect.unit ![0, a] ![8, 256] i1, w⟩ L ?_
  rw [Rect.mem_set_unit]
  intro hh
  have h1 := (hh 1).1
  have h2 := (hh 1).2
  have h3 := (j 1).isLt
  simp at h1 h2 h3
  omega

/-- A load of the carried rows after a store of all of them reads that store. -/
theorem fill_cols (v : View sig .tc .vmem S8x5632 .f32) (i1 : ∀ d, (![0, 0] : Fin 2 → ℕ) d + (![8, 5632] : Fin 2 → ℕ) d ≤ S8x5632.size d)
    (w : S8x5632.Idx → Elt Ideal .f32) (L : List (View.Piece (Elt Ideal) S8x5632 .f32)) (r : Rect S8x5632) :
    v.readCov (⟨Rect.unit ![0, 0] ![8, 5632] i1, w⟩ :: L) r.toLoadRect = View.ld w r :=
  View.readCov_fill v i1 w L r (by intro d; fin_cases d <;> rfl)

/-- A load of the whole gated block reads the function its stores are pieces of. -/
theorem read_act (v : View sig .tc .vmem S512x2816 .bf16) (i1 : ∀ d, (![0, 0] : Fin 2 → ℕ) d + (![512, 2816] : Fin 2 → ℕ) d ≤ S512x2816.size d)
    (L : List (View.Piece (Elt Ideal) S512x2816 .bf16)) (G : S512x2816.Idx → Elt Ideal .bf16) (h : ∀ y, View.canon L y = G y) :
    v.readCov L (Rect.unit ![0, 0] ![512, 2816] i1).toLoadRect = G := by
  rw [View.readCov_eq_canon']
  funext j
  have e : (Rect.unit ![0, 0] ![512, 2816] i1).toLoadRect.idx j = j := by
    funext q
    apply Fin.ext
    fin_cases q <;> simp
  rw [e]
  exact h j

end Cert.FfnIdeal.Value

end
-- ==== Proof.FfnHalf.lean ====
module

public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import Idealize.ShloMosaic.Lib.Pipeline.Value
public import Idealize.ShloMosaic.Lib.StableHlo.Run
public import Idealize.ShloMosaic.Lib.Claim
public import Idealize.ShloMosaic.Lib.Pipeline.ValueKit
public import Idealize.ShloMosaic.Lib.Pointwise
public import Idealize.ShloMosaic.Lib.WordCmp
public import Idealize.ShloMosaic.Lib.Pipeline.FrameTail
public import Idealize.ShloMosaic.Lib.LayoutAt
public import Idealize.ShloMosaic.Lib.Pipeline.ReadBack
public import proofs.«01_k».proof.Proof.FfnRef
public import proofs.«01_k».proof.Proof.FfnSlots

/- The feed-forward block: 256 columns of the convolution and the gate, at a row and a column. -/

@[expose] public section

set_option maxRecDepth 16384

noncomputable section

open Idealize.ShloMosaic Idealize.ShloMosaic.TcCoe Idealize.SL.Sem
open Idealize.ShloMosaic.Pipeline (Dat)
open scoped BigOperators

namespace Cert.FfnIdeal.Value

open Cert.FfnIdeal Cert.FfnIdeal.Gen

variable (m : (ℓ : Loc nD τ sig) → Buf (Elt Ideal) ℓ)

/-- Columns `c` on of the upward weight. -/
abbrev ldW (W : FVec Ideal S1024x5632 .bf16) (c : ℕ) (h : ∀ a, (![0, c] : Fin 2 → ℕ) a + (![1024, 256] : Fin 2 → ℕ) a ≤ S1024x5632.size a) : Vec Ideal S1024x256 .bf16 :=
  View.ld (Val := Elt Ideal) (e' := .bf16) W (Rect.unit ![0, c] ![1024, 256] h : Rect S1024x5632)

/-- Columns `c` on of the convolution's weights. -/
abbrev ldC (W : FVec Ideal S3x5632 .f32) (c : ℕ) (h : ∀ a, (![0, c] : Fin 2 → ℕ) a + (![3, 256] : Fin 2 → ℕ) a ≤ S3x5632.size a) : Vec Ideal S3x256 .f32 :=
  View.ld (Val := Elt Ideal) (e' := .f32) W (Rect.unit ![0, c] ![3, 256] h : Rect S3x5632)

/-- Columns `c` on of the convolution's bias. -/
abbrev ldB (W : FVec Ideal S1x5632 .f32) (c : ℕ) (h : ∀ a, (![0, c] : Fin 2 → ℕ) a + (![1, 256] : Fin 2 → ℕ) a ≤ S1x5632.size a) : Vec Ideal S1x256 .f32 :=
  View.ld (Val := Elt Ideal) (e' := .f32) W (Rect.unit ![0, c] ![1, 256] h : Rect S1x5632)

/-- Columns `c` on of the carried rows. -/
abbrev ldR (W : FVec Ideal S8x5632 .f32) (c : ℕ) (h : ∀ a, (![0, c] : Fin 2 → ℕ) a + (![8, 256] : Fin 2 → ℕ) a ≤ S8x5632.size a) : Vec Ideal S8x256 .f32 :=
  View.ld (Val := Elt Ideal) (e' := .f32) W (Rect.unit ![0, c] ![8, 256] h : Rect S8x5632)

/-- A row of the block times a column of the upward weight. -/
def upF (H : FVec Ideal S512x1024 .bf16) (W : FVec Ideal S1024x5632 .bf16) (r : Fin 512) (n : Fin 5632) : EReal :=
  ∑ k : Fin 1024, @HMul.hMul EReal EReal EReal instHMul (H (ix2 r k)) (W (ix2 k n))

/-- The convolution of a column of the block, the rows before the block being the carried ones. -/
def cvF (H : FVec Ideal S512x1024 .bf16) (W : FVec Ideal S1024x5632 .bf16) (CW : FVec Ideal S3x5632 .f32) (CB : FVec Ideal S1x5632 .f32) (CR : FVec Ideal S8x5632 .f32) (r : Fin 512) (n : Fin 5632) : EReal :=
  @HMul.hMul EReal EReal EReal instHMul (CW (ix2 2 n)) (upF H W r n)
    + @HMul.hMul EReal EReal EReal instHMul (CW (ix2 1 n)) (sh1 (fun q => upF H W q n) (fun q => CR (ix2 q n)) r)
    + @HMul.hMul EReal EReal EReal instHMul (CW (ix2 0 n)) (sh2 (fun q => upF H W q n) (fun q => CR (ix2 q n)) r)
    + CB (ix2 0 n)

/-- A column of the gated block is one of 2816. -/
theorem idx_lt (y : S512x2816.Idx) : (y 1).val < 2816 := (y 1).isLt

/-- The gated channels of the block. -/
def actF (H : FVec Ideal S512x1024 .bf16) (W : FVec Ideal S1024x5632 .bf16) (CW : FVec Ideal S3x5632 .f32) (CB : FVec Ideal S1x5632 .f32) (CR : FVec Ideal S8x5632 .f32) : S512x2816.Idx → Elt Ideal .bf16 := fun y =>
  @HMul.hMul EReal EReal EReal instHMul
    (@HMul.hMul EReal EReal EReal instHMul (cvF H W CW CB CR (y 0) ⟨(y 1).val, by have := idx_lt y; omega⟩)
      (Ideal.logistic (cvF H W CW CB CR (y 0) ⟨(y 1).val, by have := idx_lt y; omega⟩)))
    (cvF H W CW CB CR (y 0) ⟨(y 1).val + 2816, by have := idx_lt y; omega⟩)

/-- 256 columns of the convolution, as the body computes them. -/
def half (H : FVec Ideal S512x1024 .bf16) (W : FVec Ideal S1024x5632 .bf16) (CW : FVec Ideal S3x5632 .f32) (CB : FVec Ideal S1x5632 .f32) (CR : FVec Ideal S8x5632 .f32) (c : ℕ) (hW : ∀ a, (![0, c] : Fin 2 → ℕ) a + (![1024, 256] : Fin 2 → ℕ) a ≤ S1024x5632.size a) (hC : ∀ a, (![0, c] : Fin 2 → ℕ) a + (![3, 256] : Fin 2 → ℕ) a ≤ S3x5632.size a)
    (hB : ∀ a, (![0, c] : Fin 2 → ℕ) a + (![1, 256] : Fin 2 → ℕ) a ≤ S1x5632.size a) (hR : ∀ a, (![0, c] : Fin 2 → ℕ) a + (![8, 256] : Fin 2 → ℕ) a ≤ S8x5632.size a) : FVec Ideal S512x256 .f32 :=
  k0_pay8 (k0_pay9 H (ldW W c hW)) (ldC CW c hC)
    (slot1 (k0_pay11 H (ldW W c hW)) (k0_pay10 (ldR CR c hR)))
    (slot2 (k0_pay11 H (ldW W c hW)) (k0_pay10 (ldR CR c hR)))
    (ldB CB c hB)

/-- The gate of two groups of 256 columns, as the body computes it. -/
def gate (a b : FVec Ideal S512x256 .f32) : FVec Ideal S512x256 .bf16 :=
  shapeCast S512x256 (truncf .bf16 (mulf (mulf a (logistic a)) b) bitsLt_bf16_f32) shapeCasts_S512x256_S512x256

/-- The product of a row and a column, read off the body's product of 256 columns. -/
theorem up_at (H : FVec Ideal S512x1024 .bf16) (W : FVec Ideal S1024x5632 .bf16) (c : ℕ) (hW : ∀ a, (![0, c] : Fin 2 → ℕ) a + (![1024, 256] : Fin 2 → ℕ) a ≤ S1024x5632.size a)
    (r : Fin 512) (j : Fin 256) (n : Fin 5632) (hn : n.val = c + j.val) :
    k0_pay9 H (ldW W c hW) (ix2 r j) = upF H W r n := by
  pointwise [k0_pay9, upF, ldW]
  blk_point [ldW, ldC, ldB, ldR]

/-- The same, the product being kept as a slot. -/
theorem up3_at (H : FVec Ideal S512x1024 .bf16) (W : FVec Ideal S1024x5632 .bf16) (c : ℕ) (hW : ∀ a, (![0, c] : Fin 2 → ℕ) a + (![1024, 256] : Fin 2 → ℕ) a ≤ S1024x5632.size a)
    (r : Fin 512) (j : Fin 256) (n : Fin 5632) (hn : n.val = c + j.val) :
    k0_pay11 H (ldW W c hW) (ix3 0 r j) = upF H W r n := by
  pointwise [k0_pay11, k0_pay9, upF, ldW]
  blk_point [ldW, ldC, ldB, ldR]

/-- The carried rows of 256 columns. -/
theorem cr3_at (CR : FVec Ideal S8x5632 .f32) (c : ℕ) (hR : ∀ a, (![0, c] : Fin 2 → ℕ) a + (![8, 256] : Fin 2 → ℕ) a ≤ S8x5632.size a)
    (r : Fin 8) (j : Fin 256) (n : Fin 5632) (hn : n.val = c + j.val) :
    k0_pay10 (ldR CR c hR) (ix3 0 r j) = CR (ix2 r n) := by
  pointwise [k0_pay10, ldR]
  blk_point [ldW, ldC, ldB, ldR]

/-- The last eight rows of 256 columns of the product. -/
theorem tail_at (H : FVec Ideal S512x1024 .bf16) (W : FVec Ideal S1024x5632 .bf16) (c : ℕ) (hW : ∀ a, (![0, c] : Fin 2 → ℕ) a + (![1024, 256] : Fin 2 → ℕ) a ≤ S1024x5632.size a)
    (q : Fin 8) (j : Fin 256) (n : Fin 5632) (hn : n.val = c + j.val) :
    k0_pay12 H (ldW W c hW) (ix2 q j) = upF H W ⟨504 + q.val, by omega⟩ n := by
  pointwise [k0_pay12, k0_pay9, upF, ldW]
  blk_point [ldW, ldC, ldB, ldR]

/-- The body's convolution of 256 columns, at a row and a column. -/
theorem half_at (H : FVec Ideal S512x1024 .bf16) (W : FVec Ideal S1024x5632 .bf16) (CW : FVec Ideal S3x5632 .f32) (CB : FVec Ideal S1x5632 .f32) (CR : FVec Ideal S8x5632 .f32) (c : ℕ) (hW : ∀ a, (![0, c] : Fin 2 → ℕ) a + (![1024, 256] : Fin 2 → ℕ) a ≤ S1024x5632.size a) (hC : ∀ a, (![0, c] : Fin 2 → ℕ) a + (![3, 256] : Fin 2 → ℕ) a ≤ S3x5632.size a)
    (hB : ∀ a, (![0, c] : Fin 2 → ℕ) a + (![1, 256] : Fin 2 → ℕ) a ≤ S1x5632.size a) (hR : ∀ a, (![0, c] : Fin 2 → ℕ) a + (![8, 256] : Fin 2 → ℕ) a ≤ S8x5632.size a) (r : Fin 512) (j : Fin 256) (n : Fin 5632) (hn : n.val = c + j.val) :
    half H W CW CB CR c hW hC hB hR (ix2 r j) = cvF H W CW CB CR r n := by
  have e1 : slot1 (k0_pay11 H (ldW W c hW)) (k0_pay10 (ldR CR c hR)) (ix3 0 r j)
      = sh1 (fun q => upF H W q n) (fun q => CR (ix2 q n)) r := by
    rw [show (fun q => upF H W q n) = fun q => k0_pay11 H (ldW W c hW) (ix3 0 q j) from funext fun q => (up3_at H W c hW q j n hn).symm,
      show (fun q => CR (ix2 q n)) = fun q => k0_pay10 (ldR CR c hR) (ix3 0 q j) from funext fun q => (cr3_at CR c hR q j n hn).symm]
    rfl
  have e2 : slot2 (k0_pay11 H (ldW W c hW)) (k0_pay10 (ldR CR c hR)) (ix3 0 r j)
      = sh2 (fun q => upF H W q n) (fun q => CR (ix2 q n)) r := by
    rw [show (fun q => upF H W q n) = fun q => k0_pay11 H (ldW W c hW) (ix3 0 q j) from funext fun q => (up3_at H W c hW q j n hn).symm,
      show (fun q => CR (ix2 q n)) = fun q => k0_pay10 (ldR CR c hR) (ix3 0 q j) from funext fun q => (cr3_at CR c hR q j n hn).symm]
    rfl
  unfold half cvF
  rw [← e1, ← e2, ← up_at H W c hW r j n hn]
  generalize k0_pay9 H (ldW W c hW) = u
  generalize (slot1 (k0_pay11 H (ldW W c hW)) (k0_pay10 (ldR CR c hR))) = s1
  generalize (slot2 (k0_pay11 H (ldW W c hW)) (k0_pay10 (ldR CR c hR))) = s2
  pointwise [k0_pay8, ldC, ldB]
  blk_point [ldW, ldC, ldB, ldR]

/-- The body's gate of two groups of columns, 2816 apart, is the gated channels there. -/
theorem gate_at (H : FVec Ideal S512x1024 .bf16) (W : FVec Ideal S1024x5632 .bf16) (CW : FVec Ideal S3x5632 .f32) (CB : FVec Ideal S1x5632 .f32) (CR : FVec Ideal S8x5632 .f32) (c1 : ℕ) (h1W : ∀ a, (![0, c1] : Fin 2 → ℕ) a + (![1024, 256] : Fin 2 → ℕ) a ≤ S1024x5632.size a) (h1C : ∀ a, (![0, c1] : Fin 2 → ℕ) a + (![3, 256] : Fin 2 → ℕ) a ≤ S3x5632.size a)
    (h1B : ∀ a, (![0, c1] : Fin 2 → ℕ) a + (![1, 256] : Fin 2 → ℕ) a ≤ S1x5632.size a) (h1R : ∀ a, (![0, c1] : Fin 2 → ℕ) a + (![8, 256] : Fin 2 → ℕ) a ≤ S8x5632.size a) (c2 : ℕ) (h2W : ∀ a, (![0, c2] : Fin 2 → ℕ) a + (![1024, 256] : Fin 2 → ℕ) a ≤ S1024x5632.size a) (h2C : ∀ a, (![0, c2] : Fin 2 → ℕ) a + (![3, 256] : Fin 2 → ℕ) a ≤ S3x5632.size a)
    (h2B : ∀ a, (![0, c2] : Fin 2 → ℕ) a + (![1, 256] : Fin 2 → ℕ) a ≤ S1x5632.size a) (h2R : ∀ a, (![0, c2] : Fin 2 → ℕ) a + (![8, 256] : Fin 2 → ℕ) a ≤ S8x5632.size a) (x : S512x256.Idx) (y : S512x2816.Idx)
    (h0 : (y 0 : ℕ) = x 0) (h1 : (y 1 : ℕ) = c1 + x 1) (hc : c2 = c1 + 2816) :
    gate (half H W CW CB CR c1 h1W h1C h1B h1R) (half H W CW CB CR c2 h2W h2C h2B h2R) x = actF H W CW CB CR y := by
  obtain ⟨r, j, rfl⟩ : ∃ (r : Fin 512) (j : Fin 256), x = ix2 r j := ⟨x 0, x 1, by funext q; fin_cases q <;> rfl⟩
  obtain ⟨r', n, rfl⟩ : ∃ (r' : Fin 512) (n : Fin 2816), y = ix2 r' n := ⟨y 0, y 1, by funext q; fin_cases q <;> rfl⟩
  have hr : r' = r := Fin.ext (by simpa [ix2] using h0)
  have hn : n.val = c1 + j.val := by simpa [ix2] using h1
  subst hr
  have a1 := half_at H W CW CB CR c1 h1W h1C h1B h1R r' j ⟨n.val, by omega⟩ hn
  have a2 := half_at H W CW CB CR c2 h2W h2C h2B h2R r' j ⟨n.val + 2816, by omega⟩ (by simp only; omega)
  have e : actF H W CW CB CR (ix2 r' n) = @HMul.hMul EReal EReal EReal instHMul (@HMul.hMul EReal EReal EReal instHMul (cvF H W CW CB CR r' ⟨n.val, by omega⟩) (Ideal.logistic (cvF H W CW CB CR r' ⟨n.val, by omega⟩))) (cvF H W CW CB CR r' ⟨n.val + 2816, by omega⟩) := rfl
  rw [e, ← a1, ← a2]
  generalize half H W CW CB CR c1 h1W h1C h1B h1R = a
  generalize half H W CW CB CR c2 h2W h2C h2B h2R = b
  pointwise [gate, Ideal.logistic]

end Cert.FfnIdeal.Value

end
-- ==== Proof.FfnStores.lean ====
module

public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import Idealize.ShloMosaic.Lib.Pipeline.Value
public import Idealize.ShloMosaic.Lib.StableHlo.Run
public import Idealize.ShloMosaic.Lib.Claim
public import Idealize.ShloMosaic.Lib.Pipeline.ValueKit
public import Idealize.ShloMosaic.Lib.Pointwise
public import Idealize.ShloMosaic.Lib.WordCmp
public import Idealize.ShloMosaic.Lib.Pipeline.FrameTail
public import Idealize.ShloMosaic.Lib.LayoutAt
public import Idealize.ShloMosaic.Lib.Pipeline.ReadBack
public import proofs.«01_k».proof.Proof.FfnRef
public import proofs.«01_k».proof.Proof.FfnHalf

/- The feed-forward block: what its stores leave, as functions. -/

@[expose] public section

set_option maxRecDepth 16384

noncomputable section

open Idealize.ShloMosaic Idealize.ShloMosaic.TcCoe Idealize.SL.Sem
open Idealize.ShloMosaic.Pipeline (Dat)
open scoped BigOperators

namespace Cert.FfnIdeal.Value

open Cert.FfnIdeal Cert.FfnIdeal.Gen

variable (m : (ℓ : Loc nD τ sig) → Buf (Elt Ideal) ℓ)

/-- What the body stores, the gated block being one function. -/
def blockF (X : Vec Ideal S512x1024 .f32) (A : Vec Ideal S512x2816 .bf16) (WD : Vec Ideal S2816x1024 .bf16) (FG : Vec Ideal S1x1024 .f32) : FVec Ideal S512x1024 .f32 :=
  k0_pay1 (k0_pay134 X A WD) (k0_pay135 FG) (k0_pay136 X A WD)

/-- The earliest store does not matter where a later one covers. -/
theorem canon_dropLast (L : List (View.Piece (Elt Ideal) S8x5632 .f32)) (y : S8x5632.Idx) (hc : ∃ p ∈ L.dropLast, y ∈ p.1.set) :
    View.canon L y = View.canon L.dropLast y := by
  induction L with
  | nil => rfl
  | cons p L ih =>
    cases L with
    | nil => simp at hc
    | cons q L =>
      rw [List.dropLast_cons₂] at hc ⊢
      by_cases hm : y ∈ p.1.set
      · obtain ⟨x, rfl⟩ := p.1.exists_idx_of_mem hm
        rw [show p.1.idx x = p.1.emb x from rfl, View.canon_cons_emb, View.canon_cons_emb]
      · rw [View.canon_cons_of_not_mem _ _ hm, View.canon_cons_of_not_mem _ _ hm]
        refine ih ?_
        obtain ⟨r, hr, hy⟩ := hc
        rcases List.mem_cons.mp hr with rfl | hr
        · exact absurd hy hm
        · exact ⟨r, hr, hy⟩

/-- The last eight rows of a column of the product. -/
def tailF (H : FVec Ideal S512x1024 .bf16) (W : FVec Ideal S1024x5632 .bf16) : S8x5632.Idx → Elt Ideal .f32 :=
  fun y => upF H W ⟨504 + (y 0).val, by have : (y 0).val < 8 := (y 0).isLt; omega⟩ ⟨(y 1).val, (y 1).isLt⟩

/-- The same, read off the body's last rows of 256 columns. -/
theorem tail_piece (H : FVec Ideal S512x1024 .bf16) (W : FVec Ideal S1024x5632 .bf16) (c : ℕ) (hW : ∀ a, (![0, c] : Fin 2 → ℕ) a + (![1024, 256] : Fin 2 → ℕ) a ≤ S1024x5632.size a)
    (x : S8x256.Idx) (y : S8x5632.Idx) (h0 : (y 0 : ℕ) = x 0) (h1 : (y 1 : ℕ) = c + x 1) :
    k0_pay12 H (ldW W c hW) x = tailF H W y := by
  obtain ⟨q, j, rfl⟩ : ∃ (q : Fin 8) (j : Fin 256), x = ix2 q j := ⟨x 0, x 1, by funext a; fin_cases a <;> rfl⟩
  have e := tail_at H W c hW q j ⟨(y 1).val, (y 1).isLt⟩ h1
  refine e.trans ?_
  unfold tailF
  congr 1
  apply Fin.ext
  simpa [ix2] using h0.symm

end Cert.FfnIdeal.Value

end
-- ==== Proof.FfnRefAt.lean ====
module

public import proofs.«01_k».proof.Proof.Gen.FfnRefIdeal
public import proofs.«01_k».proof.Proof.FfnRef
public import Idealize.ShloMosaic.Lib.Pointwise

/- The reference of the feed-forward block, read at an index. -/

@[expose] public section

set_option maxRecDepth 16384

noncomputable section

open Idealize.ShloMosaic Idealize.ShloMosaic.TcCoe Idealize.SL.Sem
open scoped BigOperators

namespace Cert.FfnRefIdeal.Value

open Cert.FfnRefIdeal Cert.FfnRefIdeal.Gen

/-- A row over the root of its mean square, times the weight. -/
def nrm (f g : Fin 1024 → EReal) (k : Fin 1024) : EReal :=
  @HMul.hMul EReal EReal EReal instHMul (@HMul.hMul EReal EReal EReal instHMul (f k) (Ideal.rsqrt (Ideal.div (∑ q : Fin 1024, @HMul.hMul EReal EReal EReal instHMul (f q) (f q)) (Ideal.ofBits FTy.f32 0x44800000#32) + Ideal.ofBits FTy.f32 0x358637BD#32))) (g k)

/-- The row of position `s` of sequence `b`. -/
def row (b : Fin 8) (s : Fin 2048) : Fin 16384 := ⟨b.val * 2048 + s.val, by omega⟩

/-- The value `d` positions before, zero before the first. -/
def back (u : Fin 2048 → EReal) (d : ℕ) (s : Fin 2048) : EReal :=
  if h : d ≤ s.val then u ⟨s.val - d, by omega⟩ else 0

/-- The normalised rows at an index. -/
theorem normed_at (x : FVec Ideal S16384x1024 .f32) (g : FVec Ideal S1024 .f32) (b : Fin 8) (s : Fin 2048) (k : Fin 1024) :
    normed x g (ix3 b s k) = nrm (fun q => x (ix2 (row b s) q)) (fun q => g (ix1 q)) k := by
  unfold nrm row
  pointwise [normed]

/-- The upward projection at an index. -/
theorem up_at (x : FVec Ideal S16384x1024 .f32) (g : FVec Ideal S1024 .f32) (w : FVec Ideal S1024x5632 .f32) (b : Fin 8) (s : Fin 2048) (n : Fin 5632) :
    up x g w (ix3 b s n) = ∑ k : Fin 1024, @HMul.hMul EReal EReal EReal instHMul (normed x g (ix3 b s k)) (w (ix2 k n)) := by
  pointwise [up]

/-- The padded rows at an index. -/
theorem padded_at (x : FVec Ideal S16384x1024 .f32) (g : FVec Ideal S1024 .f32) (w : FVec Ideal S1024x5632 .f32) (b : Fin 8) (p : Fin 2050) (d : ℕ) (s : Fin 2048) (n : Fin 5632) (hp : p.val + d = s.val + 2) :
    padded x g w (ix3 b p n) = back (fun q => up x g w (ix3 b q n)) d s := by
  unfold back
  pointwise [padded]
  by_cases h : d ≤ s.val
  · rw [dif_neg (show ¬ p.val < 2 by omega), dif_pos h]
    congr 2
    apply Fin.ext
    show p.val - 2 = s.val - d
    omega
  · rw [dif_pos (show p.val < 2 by omega), dif_neg h]

/-- The convolution at an index. -/
theorem conv_at (x : FVec Ideal S16384x1024 .f32) (g : FVec Ideal S1024 .f32) (w : FVec Ideal S1024x5632 .f32) (cw : FVec Ideal S3x5632 .f32) (cb : FVec Ideal S5632 .f32) (b : Fin 8) (s : Fin 2048) (n : Fin 5632) :
    conv x g w cw cb (ix3 b s n)
      = @HMul.hMul EReal EReal EReal instHMul (cw (ix2 0 n)) (back (fun q => up x g w (ix3 b q n)) 2 s)
        + @HMul.hMul EReal EReal EReal instHMul (cw (ix2 1 n)) (back (fun q => up x g w (ix3 b q n)) 1 s)
        + @HMul.hMul EReal EReal EReal instHMul (cw (ix2 2 n)) (up x g w (ix3 b s n))
        + cb (ix1 n) := by
  have e0 : up x g w (ix3 b s n) = back (fun q => up x g w (ix3 b q n)) 0 s := by
    unfold back; rw [dif_pos (Nat.zero_le _)]; rfl
  rw [e0, ← padded_at x g w b ⟨s.val, by omega⟩ 2 s n rfl, ← padded_at x g w b ⟨1 + s.val, by omega⟩ 1 s n (by simp only []; omega), ← padded_at x g w b ⟨2 + s.val, by omega⟩ 0 s n (by simp only []; omega)]
  pointwise [conv]

/-- The gated channels at an index. -/
theorem act_at (x : FVec Ideal S16384x1024 .f32) (g : FVec Ideal S1024 .f32) (w : FVec Ideal S1024x5632 .f32) (cw : FVec Ideal S3x5632 .f32) (cb : FVec Ideal S5632 .f32) (b : Fin 8) (s : Fin 2048) (j : Fin 2816) :
    act x g w cw cb (ix3 b s j)
      = @HMul.hMul EReal EReal EReal instHMul (@HMul.hMul EReal EReal EReal instHMul (conv x g w cw cb (ix3 b s ⟨j.val, by omega⟩)) (Ideal.logistic (conv x g w cw cb (ix3 b s ⟨j.val, by omega⟩))))
          (conv x g w cw cb (ix3 b s ⟨2816 + j.val, by omega⟩)) := by
  pointwise [act, Ideal.logistic]

/-- The residual sum at an index. -/
theorem resid_at (x : FVec Ideal S16384x1024 .f32) (g : FVec Ideal S1024 .f32) (w : FVec Ideal S1024x5632 .f32) (cw : FVec Ideal S3x5632 .f32) (cb : FVec Ideal S5632 .f32) (wd : FVec Ideal S2816x1024 .f32) (b : Fin 8) (s : Fin 2048) (q : Fin 1024) :
    resid x g w cw cb wd (ix3 b s q) = x (ix2 (row b s) q) + ∑ j : Fin 2816, @HMul.hMul EReal EReal EReal instHMul (act x g w cw cb (ix3 b s j)) (wd (ix2 j q)) := by
  unfold row
  pointwise [resid]

/-- The result at an index. -/
theorem result_at (x : FVec Ideal S16384x1024 .f32) (g : FVec Ideal S1024 .f32) (w : FVec Ideal S1024x5632 .f32) (cw : FVec Ideal S3x5632 .f32) (cb : FVec Ideal S5632 .f32) (wd : FVec Ideal S2816x1024 .f32) (fg : FVec Ideal S1024 .f32) (i : Fin 16384) (d : Fin 1024) :
    result x g w cw cb wd fg (ix2 i d)
      = nrm (fun q => resid x g w cw cb wd (ix3 ⟨i.val / 2048, by omega⟩ ⟨i.val % 2048, by omega⟩ q)) (fun q => fg (ix1 q)) d := by
  unfold nrm
  pointwise [result]

end Cert.FfnRefIdeal.Value

end
-- ==== Proof.FfnPoint.lean ====
module

public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import Idealize.ShloMosaic.Lib.Pipeline.Value
public import Idealize.ShloMosaic.Lib.StableHlo.Run
public import Idealize.ShloMosaic.Lib.Claim
public import Idealize.ShloMosaic.Lib.Pipeline.ValueKit
public import Idealize.ShloMosaic.Lib.Pointwise
public import Idealize.ShloMosaic.Lib.WordCmp
public import Idealize.ShloMosaic.Lib.Pipeline.FrameTail
public import Idealize.ShloMosaic.Lib.LayoutAt
public import Idealize.ShloMosaic.Lib.Pipeline.ReadBack
public import proofs.«01_k».proof.Proof.FfnRef
public import proofs.«01_k».proof.Proof.FfnStores
public import proofs.«01_k».proof.Proof.FfnRefAt

/- The feed-forward block at an index: the block functions against the reference. -/

@[expose] public section

set_option maxRecDepth 16384

noncomputable section

open Idealize.ShloMosaic Idealize.ShloMosaic.TcCoe Idealize.SL.Sem
open Idealize.ShloMosaic.Pipeline (Dat)
open scoped BigOperators

namespace Cert.FfnIdeal.Value

open Cert.FfnIdeal Cert.FfnIdeal.Gen

variable (m : (ℓ : Loc nD τ sig) → Buf (Elt Ideal) ℓ)

/-- Every window's block index at a grid point. -/
theorem idx_val : ∀ t : Fin cfg0.N, win0_0.index t = ![t.val, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![t.val, 0] :=
  (by decide +kernel : ∀ t : Fin grid0.N, _)

/-- The block of `x`. -/
theorem in_x (c : Dev nD) (t : Fin cfg0.N) (r : Fin 512) (k : Fin 1024) (i : Fin 16384) (hi : (i : ℕ) = 512 * t.val + r) :
    iblk m c 0 t (ix2 r k) = m ((c : Thread nD τ).loc main_arg0) (ix2 i k) := by
  blk_point [iblk, V, idx_val t]

/-- The first norm's weight. -/
theorem in_g (c : Dev nD) (t : Fin cfg0.N) (k : Fin 1024) :
    iblk m c 1 t (ix2 0 k) = m ((c : Thread nD τ).loc main_arg1) (ix1 k) := by
  blk_point [iblk, V, idx_val t]

/-- The upward weight. -/
theorem in_w (c : Dev nD) (t : Fin cfg0.N) (k : Fin 1024) (n : Fin 5632) :
    iblk m c 2 t (ix2 k n) = m ((c : Thread nD τ).loc main_arg2) (ix2 k n) := by
  blk_point [iblk, V, idx_val t]

/-- The convolution's weights. -/
theorem in_cw (c : Dev nD) (t : Fin cfg0.N) (a : Fin 3) (n : Fin 5632) :
    iblk m c 3 t (ix2 a n) = m ((c : Thread nD τ).loc main_arg3) (ix2 a n) := by
  blk_point [iblk, V, idx_val t]

/-- The convolution's bias. -/
theorem in_cb (c : Dev nD) (t : Fin cfg0.N) (n : Fin 5632) :
    iblk m c 4 t (ix2 0 n) = m ((c : Thread nD τ).loc main_arg4) (ix1 n) := by
  blk_point [iblk, V, idx_val t]

/-- The downward weight. -/
theorem in_wd (c : Dev nD) (t : Fin cfg0.N) (j : Fin 2816) (q : Fin 1024) :
    iblk m c 5 t (ix2 j q) = m ((c : Thread nD τ).loc main_arg5) (ix2 j q) := by
  blk_point [iblk, V, idx_val t]

/-- The last norm's weight. -/
theorem in_fg (c : Dev nD) (t : Fin cfg0.N) (k : Fin 1024) :
    iblk m c 6 t (ix2 0 k) = m ((c : Thread nD τ).loc main_arg6) (ix1 k) := by
  blk_point [iblk, V, idx_val t]

/-- The block's normalised rows at an index. -/
theorem pay3_at (X : Vec Ideal S512x1024 .f32) (G : Vec Ideal S1x1024 .f32) (r : Fin 512) (k : Fin 1024) :
    k0_pay3 X G (ix2 r k) = Cert.FfnRefIdeal.Value.nrm (fun q => X (ix2 r q)) (fun q => G (ix2 0 q)) k := by
  unfold Cert.FfnRefIdeal.Value.nrm
  pointwise [k0_pay3]

/-- What the body stores, at an index. -/
theorem blockF_at (X : Vec Ideal S512x1024 .f32) (A : Vec Ideal S512x2816 .bf16) (WD : Vec Ideal S2816x1024 .bf16) (FG : Vec Ideal S1x1024 .f32) (r : Fin 512) (d : Fin 1024) :
    blockF X A WD FG (ix2 r d)
      = Cert.FfnRefIdeal.Value.nrm (fun q => X (ix2 r q) + ∑ j : Fin 2816, @HMul.hMul EReal EReal EReal instHMul (A (ix2 r j)) (WD (ix2 j q))) (fun q => FG (ix2 0 q)) d := by
  unfold Cert.FfnRefIdeal.Value.nrm
  pointwise [blockF, k0_pay1, k0_pay134, k0_pay135, k0_pay136]

/-- The product of the block is the reference's. -/
theorem up_eq (c : Dev nD) (t : Fin cfg0.N) (r : Fin 512) (n : Fin 5632) (b : Fin 8) (s : Fin 2048) (h : b.val * 2048 + s.val = 512 * t.val + r.val) :
    upF (k0_pay3 (iblk m c 0 t) (iblk m c 1 t)) (iblk m c 2 t) r n = Cert.FfnRefIdeal.Value.up (m ((c : Thread nD τ).loc main_arg0)) (m ((c : Thread nD τ).loc main_arg1)) (m ((c : Thread nD τ).loc main_arg2)) (ix3 b s n) := by
  rw [Cert.FfnRefIdeal.Value.up_at]
  unfold upF
  refine Finset.sum_congr rfl fun k _ => ?_
  rw [pay3_at, Cert.FfnRefIdeal.Value.normed_at, in_w]
  simp only [in_x m c t r _ (Cert.FfnRefIdeal.Value.row b s) h, in_g]

/-- One row before, in the block and in the reference. -/
theorem sh1_back (f : Fin 512 → EReal) (g : Fin 8 → EReal) (u : Fin 2048 → EReal) (a : Fin 2048) (ha : a.val + 512 ≤ 2048)
    (hu : ∀ q : Fin 512, f q = u ⟨a.val + q.val, by omega⟩) (h7 : g 7 = Cert.FfnRefIdeal.Value.back u 1 a) (r : Fin 512) (s : Fin 2048) (hs : s.val = a.val + r.val) :
    sh1 f g r = Cert.FfnRefIdeal.Value.back u 1 s := by
  unfold sh1
  by_cases h : 1 ≤ r.val
  · rw [dif_pos h, hu]
    unfold Cert.FfnRefIdeal.Value.back
    rw [dif_pos (by omega)]
    congr 1
    apply Fin.ext
    show a.val + (r.val - 1) = s.val - 1
    omega
  · rw [dif_neg h, h7, show s = a from Fin.ext (by omega)]

/-- Two rows before, in the block and in the reference. -/
theorem sh2_back (f : Fin 512 → EReal) (g : Fin 8 → EReal) (u : Fin 2048 → EReal) (a : Fin 2048) (ha : a.val + 512 ≤ 2048)
    (hu : ∀ q : Fin 512, f q = u ⟨a.val + q.val, by omega⟩) (h6 : g 6 = Cert.FfnRefIdeal.Value.back u 2 a) (h7 : g 7 = Cert.FfnRefIdeal.Value.back u 1 a) (r : Fin 512) (s : Fin 2048) (hs : s.val = a.val + r.val) :
    sh2 f g r = Cert.FfnRefIdeal.Value.back u 2 s := by
  unfold sh2
  by_cases h : 2 ≤ r.val
  · rw [dif_pos h, hu]
    unfold Cert.FfnRefIdeal.Value.back
    rw [dif_pos (by omega)]
    congr 1
    apply Fin.ext
    show a.val + (r.val - 2) = s.val - 2
    omega
  · rw [dif_neg h]
    by_cases h0 : r.val = 0
    · rw [show (⟨r.val + 6, by omega⟩ : Fin 8) = 6 from Fin.ext (by simp [h0]), h6, show s = a from Fin.ext (by omega)]
    · rw [show (⟨r.val + 6, by omega⟩ : Fin 8) = 7 from Fin.ext (by show r.val + 6 = 7; omega), h7]
      unfold Cert.FfnRefIdeal.Value.back
      by_cases h1 : 1 ≤ a.val
      · rw [dif_pos h1, dif_pos (by omega)]
        congr 1
        apply Fin.ext
        show a.val - 1 = s.val - 2
        omega
      · rw [dif_neg h1, dif_neg (by omega)]

/-- The convolution of the block is the reference's, if the carried rows are the reference's. -/
theorem cv_eq (c : Dev nD) (t : Fin cfg0.N) (CR : FVec Ideal S8x5632 .f32) (b : Fin 8) (a : Fin 2048) (ha : a.val + 512 ≤ 2048) (hb : b.val * 2048 + a.val = 512 * t.val)
    (h6 : ∀ n : Fin 5632, CR (ix2 6 n) = Cert.FfnRefIdeal.Value.back (fun q => Cert.FfnRefIdeal.Value.up (m ((c : Thread nD τ).loc main_arg0)) (m ((c : Thread nD τ).loc main_arg1)) (m ((c : Thread nD τ).loc main_arg2)) (ix3 b q n)) 2 a)
    (h7 : ∀ n : Fin 5632, CR (ix2 7 n) = Cert.FfnRefIdeal.Value.back (fun q => Cert.FfnRefIdeal.Value.up (m ((c : Thread nD τ).loc main_arg0)) (m ((c : Thread nD τ).loc main_arg1)) (m ((c : Thread nD τ).loc main_arg2)) (ix3 b q n)) 1 a)
    (r : Fin 512) (s : Fin 2048) (hs : s.val = a.val + r.val) (n : Fin 5632) :
    cvF (k0_pay3 (iblk m c 0 t) (iblk m c 1 t)) (iblk m c 2 t) (iblk m c 3 t) (iblk m c 4 t) CR r n = Cert.FfnRefIdeal.Value.conv (m ((c : Thread nD τ).loc main_arg0)) (m ((c : Thread nD τ).loc main_arg1)) (m ((c : Thread nD τ).loc main_arg2)) (m ((c : Thread nD τ).loc main_arg3)) (m ((c : Thread nD τ).loc main_arg4)) (ix3 b s n) := by
  rw [Cert.FfnRefIdeal.Value.conv_at]
  unfold cvF
  have hu : ∀ q : Fin 512, upF (k0_pay3 (iblk m c 0 t) (iblk m c 1 t)) (iblk m c 2 t) q n = Cert.FfnRefIdeal.Value.up (m ((c : Thread nD τ).loc main_arg0)) (m ((c : Thread nD τ).loc main_arg1)) (m ((c : Thread nD τ).loc main_arg2)) (ix3 b ⟨a.val + q.val, by omega⟩ n) :=
    fun q => up_eq m c t q n b ⟨a.val + q.val, by omega⟩ (by simp only []; omega)
  rw [sh1_back _ _ (fun q => Cert.FfnRefIdeal.Value.up (m ((c : Thread nD τ).loc main_arg0)) (m ((c : Thread nD τ).loc main_arg1)) (m ((c : Thread nD τ).loc main_arg2)) (ix3 b q n)) a ha hu (h7 n) r s hs,
    sh2_back _ _ (fun q => Cert.FfnRefIdeal.Value.up (m ((c : Thread nD τ).loc main_arg0)) (m ((c : Thread nD τ).loc main_arg1)) (m ((c : Thread nD τ).loc main_arg2)) (ix3 b q n)) a ha hu (h6 n) (h7 n) r s hs,
    up_eq m c t r n b s (by omega), in_cw, in_cw, in_cw, in_cb]
  congr 1
  rw [add_comm, add_comm (@HMul.hMul EReal EReal EReal instHMul _ (Cert.FfnRefIdeal.Value.up (m ((c : Thread nD τ).loc main_arg0)) (m ((c : Thread nD τ).loc main_arg1)) (m ((c : Thread nD τ).loc main_arg2)) (ix3 b s n))) _, ← add_assoc]

/-- The gated channels of the block at an index. -/
theorem actF_at (H : FVec Ideal S512x1024 .bf16) (W : FVec Ideal S1024x5632 .bf16) (CW : FVec Ideal S3x5632 .f32) (CB : FVec Ideal S1x5632 .f32) (CR : FVec Ideal S8x5632 .f32) (r : Fin 512) (j : Fin 2816) :
    actF H W CW CB CR (ix2 r j)
      = @HMul.hMul EReal EReal EReal instHMul (@HMul.hMul EReal EReal EReal instHMul (cvF H W CW CB CR r ⟨j.val, by omega⟩) (Ideal.logistic (cvF H W CW CB CR r ⟨j.val, by omega⟩))) (cvF H W CW CB CR r ⟨2816 + j.val, by omega⟩) := by
  have e2 : (⟨2816 + j.val, by omega⟩ : Fin 5632) = ⟨j.val + 2816, by omega⟩ := Fin.ext (Nat.add_comm _ _)
  rw [e2]
  rfl

/-- The gated channels of the block are the reference's, if the carried rows are the reference's. -/
theorem act_eq (c : Dev nD) (t : Fin cfg0.N) (CR : FVec Ideal S8x5632 .f32) (b : Fin 8) (a : Fin 2048) (ha : a.val + 512 ≤ 2048) (hb : b.val * 2048 + a.val = 512 * t.val)
    (h6 : ∀ n : Fin 5632, CR (ix2 6 n) = Cert.FfnRefIdeal.Value.back (fun q => Cert.FfnRefIdeal.Value.up (m ((c : Thread nD τ).loc main_arg0)) (m ((c : Thread nD τ).loc main_arg1)) (m ((c : Thread nD τ).loc main_arg2)) (ix3 b q n)) 2 a)
    (h7 : ∀ n : Fin 5632, CR (ix2 7 n) = Cert.FfnRefIdeal.Value.back (fun q => Cert.FfnRefIdeal.Value.up (m ((c : Thread nD τ).loc main_arg0)) (m ((c : Thread nD τ).loc main_arg1)) (m ((c : Thread nD τ).loc main_arg2)) (ix3 b q n)) 1 a)
    (r : Fin 512) (s : Fin 2048) (hs : s.val = a.val + r.val) (j : Fin 2816) :
    actF (k0_pay3 (iblk m c 0 t) (iblk m c 1 t)) (iblk m c 2 t) (iblk m c 3 t) (iblk m c 4 t) CR (ix2 r j) = Cert.FfnRefIdeal.Value.act (m ((c : Thread nD τ).loc main_arg0)) (m ((c : Thread nD τ).loc main_arg1)) (m ((c : Thread nD τ).loc main_arg2)) (m ((c : Thread nD τ).loc main_arg3)) (m ((c : Thread nD τ).loc main_arg4)) (ix3 b s j) := by
  rw [actF_at, Cert.FfnRefIdeal.Value.act_at, cv_eq m c t CR b a ha hb h6 h7 r s hs ⟨j.val, by omega⟩, cv_eq m c t CR b a ha hb h6 h7 r s hs ⟨2816 + j.val, by omega⟩]

/-- What is stored is the reference, if the carried rows are the reference's. -/
theorem block_eq (c : Dev nD) (t : Fin cfg0.N) (CR : FVec Ideal S8x5632 .f32) (b : Fin 8) (a : Fin 2048) (ha : a.val + 512 ≤ 2048) (hb : b.val * 2048 + a.val = 512 * t.val)
    (h6 : ∀ n : Fin 5632, CR (ix2 6 n) = Cert.FfnRefIdeal.Value.back (fun q => Cert.FfnRefIdeal.Value.up (m ((c : Thread nD τ).loc main_arg0)) (m ((c : Thread nD τ).loc main_arg1)) (m ((c : Thread nD τ).loc main_arg2)) (ix3 b q n)) 2 a)
    (h7 : ∀ n : Fin 5632, CR (ix2 7 n) = Cert.FfnRefIdeal.Value.back (fun q => Cert.FfnRefIdeal.Value.up (m ((c : Thread nD τ).loc main_arg0)) (m ((c : Thread nD τ).loc main_arg1)) (m ((c : Thread nD τ).loc main_arg2)) (ix3 b q n)) 1 a)
    (r : Fin 512) (d : Fin 1024) (i : Fin 16384) (hi : i.val = 512 * t.val + r.val) :
    blockF (iblk m c 0 t) (actF (k0_pay3 (iblk m c 0 t) (iblk m c 1 t)) (iblk m c 2 t) (iblk m c 3 t) (iblk m c 4 t) CR) (iblk m c 5 t) (iblk m c 6 t) (ix2 r d)
      = Cert.FfnRefIdeal.Value.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 i d) := by
  rw [blockF_at, Cert.FfnRefIdeal.Value.result_at]
  have es : (⟨i.val % 2048, by omega⟩ : Fin 2048) = ⟨a.val + r.val, by omega⟩ := Fin.ext (by show i.val % 2048 = a.val + r.val; omega)
  have eb : (⟨i.val / 2048, by omega⟩ : Fin 8) = b := Fin.ext (by show i.val / 2048 = b.val; omega)
  rw [es, eb]
  have er : Cert.FfnRefIdeal.Value.row b ⟨a.val + r.val, by omega⟩ = i := Fin.ext (by show b.val * 2048 + (a.val + r.val) = i.val; omega)
  refine congrArg₂ (fun f g => Cert.FfnRefIdeal.Value.nrm f g d) ?_ ?_
  · funext q
    rw [Cert.FfnRefIdeal.Value.resid_at, er, in_x m c t r q i hi]
    refine congrArg _ (Finset.sum_congr rfl fun j _ => ?_)
    rw [in_wd, act_eq m c t CR b a ha hb h6 h7 r ⟨a.val + r.val, by omega⟩ rfl j]
  · funext q
    rw [in_fg]

end Cert.FfnIdeal.Value

end
-- ==== Proof.FfnOutA.lean ====
module

public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import Idealize.ShloMosaic.Lib.Pipeline.Value
public import Idealize.ShloMosaic.Lib.StableHlo.Run
public import Idealize.ShloMosaic.Lib.Claim
public import Idealize.ShloMosaic.Lib.Pipeline.ValueKit
public import Idealize.ShloMosaic.Lib.Pointwise
public import Idealize.ShloMosaic.Lib.WordCmp
public import Idealize.ShloMosaic.Lib.Pipeline.FrameTail
public import Idealize.ShloMosaic.Lib.LayoutAt
public import Idealize.ShloMosaic.Lib.Pipeline.ReadBack
public import proofs.«01_k».proof.Proof.FfnRef
public import proofs.«01_k».proof.Proof.FfnStores

/- The feed-forward block: the block a grid point stores. -/

@[expose] public section

set_option maxRecDepth 16384

noncomputable section

open Idealize.ShloMosaic Idealize.ShloMosaic.TcCoe Idealize.SL.Sem
open Idealize.ShloMosaic.Pipeline (Dat)
open scoped BigOperators

namespace Cert.FfnIdeal.Value

open Cert.FfnIdeal Cert.FfnIdeal.Gen

variable (m : (ℓ : Loc nD τ sig) → Buf (Elt Ideal) ℓ)

set_option maxHeartbeats 8000000

/-- The stored block, where a sequence begins. -/
theorem out_A (c : Dev nD) (t : Fin cfg0.N) (h0 : t.val % 4 = 0) (X : Vec Ideal S512x1024 .f32) (G : Vec Ideal S1x1024 .f32) (W : Vec Ideal S1024x5632 .bf16) (CW : Vec Ideal S3x5632 .f32) (CB : Vec Ideal S1x5632 .f32) (WD : Vec Ideal S2816x1024 .bf16) (FG : Vec Ideal S1x1024 .f32) (z : S512x1024.Idx) :
    out0_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) X G W CW CB WD FG z
      = blockF X (actF (k0_pay3 X G) W CW CB k0_pay2) WD FG z := by
  frame_out
  simp only [↓skip_cols, ↓fill_cols, ↓read_slot1, ↓read_slot2, ↓read_unread_whole, Nat.reduceAdd, Nat.reduceLeDiff, true_or, or_true, or_false, false_or]
  rw [read_act _ _ _ (actF (k0_pay3 X G) W CW CB k0_pay2) ?_]
  · rfl
  intro y
  clear h0 z
  canon_tiles x h using (View.cover_of_tiledBy _ ![512, 256] (by sl_kernel_rfl) y)
  · exact gate_at (k0_pay3 X G) W CW CB k0_pay2 2560 inb_S1024x5632_S1024x256_0_2560 inb_S3x5632_S3x256_0_2560 inb_S1x5632_S1x256_0_2560 inb_S8x5632_S8x256_0_2560 5376 inb_S1024x5632_S1024x256_0_5376 inb_S3x5632_S3x256_0_5376 inb_S1x5632_S1x256_0_5376 inb_S8x5632_S8x256_0_5376 x y (by omega) (by omega) rfl
  · exact gate_at (k0_pay3 X G) W CW CB k0_pay2 2304 inb_S1024x5632_S1024x256_0_2304 inb_S3x5632_S3x256_0_2304 inb_S1x5632_S1x256_0_2304 inb_S8x5632_S8x256_0_2304 5120 inb_S1024x5632_S1024x256_0_5120 inb_S3x5632_S3x256_0_5120 inb_S1x5632_S1x256_0_5120 inb_S8x5632_S8x256_0_5120 x y (by omega) (by omega) rfl
  · exact gate_at (k0_pay3 X G) W CW CB k0_pay2 2048 inb_S1024x5632_S1024x256_0_2048 inb_S3x5632_S3x256_0_2048 inb_S1x5632_S1x256_0_2048 inb_S8x5632_S8x256_0_2048 4864 inb_S1024x5632_S1024x256_0_4864 inb_S3x5632_S3x256_0_4864 inb_S1x5632_S1x256_0_4864 inb_S8x5632_S8x256_0_4864 x y (by omega) (by omega) rfl
  · exact gate_at (k0_pay3 X G) W CW CB k0_pay2 1792 inb_S1024x5632_S1024x256_0_1792 inb_S3x5632_S3x256_0_1792 inb_S1x5632_S1x256_0_1792 inb_S8x5632_S8x256_0_1792 4608 inb_S1024x5632_S1024x256_0_4608 inb_S3x5632_S3x256_0_4608 inb_S1x5632_S1x256_0_4608 inb_S8x5632_S8x256_0_4608 x y (by omega) (by omega) rfl
  · exact gate_at (k0_pay3 X G) W CW CB k0_pay2 1536 inb_S1024x5632_S1024x256_0_1536 inb_S3x5632_S3x256_0_1536 inb_S1x5632_S1x256_0_1536 inb_S8x5632_S8x256_0_1536 4352 inb_S1024x5632_S1024x256_0_4352 inb_S3x5632_S3x256_0_4352 inb_S1x5632_S1x256_0_4352 inb_S8x5632_S8x256_0_4352 x y (by omega) (by omega) rfl
  · exact gate_at (k0_pay3 X G) W CW CB k0_pay2 1280 inb_S1024x5632_S1024x256_0_1280 inb_S3x5632_S3x256_0_1280 inb_S1x5632_S1x256_0_1280 inb_S8x5632_S8x256_0_1280 4096 inb_S1024x5632_S1024x256_0_4096 inb_S3x5632_S3x256_0_4096 inb_S1x5632_S1x256_0_4096 inb_S8x5632_S8x256_0_4096 x y (by omega) (by omega) rfl
  · exact gate_at (k0_pay3 X G) W CW CB k0_pay2 1024 inb_S1024x5632_S1024x256_0_1024 inb_S3x5632_S3x256_0_1024 inb_S1x5632_S1x256_0_1024 inb_S8x5632_S8x256_0_1024 3840 inb_S1024x5632_S1024x256_0_3840 inb_S3x5632_S3x256_0_3840 inb_S1x5632_S1x256_0_3840 inb_S8x5632_S8x256_0_3840 x y (by omega) (by omega) rfl
  · exact gate_at (k0_pay3 X G) W CW CB k0_pay2 768 inb_S1024x5632_S1024x256_0_768 inb_S3x5632_S3x256_0_768 inb_S1x5632_S1x256_0_768 inb_S8x5632_S8x256_0_768 3584 inb_S1024x5632_S1024x256_0_3584 inb_S3x5632_S3x256_0_3584 inb_S1x5632_S1x256_0_3584 inb_S8x5632_S8x256_0_3584 x y (by omega) (by omega) rfl
  · exact gate_at (k0_pay3 X G) W CW CB k0_pay2 512 inb_S1024x5632_S1024x256_0_512 inb_S3x5632_S3x256_0_512 inb_S1x5632_S1x256_0_512 inb_S8x5632_S8x256_0_512 3328 inb_S1024x5632_S1024x256_0_3328 inb_S3x5632_S3x256_0_3328 inb_S1x5632_S1x256_0_3328 inb_S8x5632_S8x256_0_3328 x y (by omega) (by omega) rfl
  · exact gate_at (k0_pay3 X G) W CW CB k0_pay2 256 inb_S1024x5632_S1024x256_0_256 inb_S3x5632_S3x256_0_256 inb_S1x5632_S1x256_0_256 inb_S8x5632_S8x256_0_256 3072 inb_S1024x5632_S1024x256_0_3072 inb_S3x5632_S3x256_0_3072 inb_S1x5632_S1x256_0_3072 inb_S8x5632_S8x256_0_3072 x y (by omega) (by omega) rfl
  · exact gate_at (k0_pay3 X G) W CW CB k0_pay2 0 inb_S1024x5632_S1024x256_0_0 inb_S3x5632_S3x256_0_0 inb_S1x5632_S1x256_0_0 inb_S8x5632_S8x256_0_0 2816 inb_S1024x5632_S1024x256_0_2816 inb_S3x5632_S3x256_0_2816 inb_S1x5632_S1x256_0_2816 inb_S8x5632_S8x256_0_2816 x y (by omega) (by omega) rfl

end Cert.FfnIdeal.Value

end
-- ==== Proof.FfnOutB.lean ====
module

public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import Idealize.ShloMosaic.Lib.Pipeline.Value
public import Idealize.ShloMosaic.Lib.StableHlo.Run
public import Idealize.ShloMosaic.Lib.Claim
public import Idealize.ShloMosaic.Lib.Pipeline.ValueKit
public import Idealize.ShloMosaic.Lib.Pointwise
public import Idealize.ShloMosaic.Lib.WordCmp
public import Idealize.ShloMosaic.Lib.Pipeline.FrameTail
public import Idealize.ShloMosaic.Lib.LayoutAt
public import Idealize.ShloMosaic.Lib.Pipeline.ReadBack
public import proofs.«01_k».proof.Proof.FfnRef
public import proofs.«01_k».proof.Proof.FfnStores

/- The feed-forward block: the block a grid point stores. -/

@[expose] public section

set_option maxRecDepth 16384

noncomputable section

open Idealize.ShloMosaic Idealize.ShloMosaic.TcCoe Idealize.SL.Sem
open Idealize.ShloMosaic.Pipeline (Dat)
open scoped BigOperators

namespace Cert.FfnIdeal.Value

open Cert.FfnIdeal Cert.FfnIdeal.Gen

variable (m : (ℓ : Loc nD τ sig) → Buf (Elt Ideal) ℓ)

set_option maxHeartbeats 8000000

/-- The stored block, where a sequence goes on. -/
theorem out_B (c : Dev nD) (t : Fin cfg0.N) (h0 : ¬t.val % 4 = 0) (X : Vec Ideal S512x1024 .f32) (G : Vec Ideal S1x1024 .f32) (W : Vec Ideal S1024x5632 .bf16) (CW : Vec Ideal S3x5632 .f32) (CB : Vec Ideal S1x5632 .f32) (WD : Vec Ideal S2816x1024 .bf16) (FG : Vec Ideal S1x1024 .f32) (CR : Vec Ideal S8x5632 .f32) (z : S512x1024.Idx) :
    out0_B_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) X G W CW CB WD FG CR z
      = blockF X (actF (k0_pay3 X G) W CW CB CR) WD FG z := by
  frame_out
  simp only [↓skip_cols, ↓fill_cols, ↓read_slot1, ↓read_slot2, ↓read_unread_whole, Nat.reduceAdd, Nat.reduceLeDiff, true_or, or_true, or_false, false_or]
  rw [read_act _ _ _ (actF (k0_pay3 X G) W CW CB CR) ?_]
  · rfl
  intro y
  clear h0 z
  canon_tiles x h using (View.cover_of_tiledBy _ ![512, 256] (by sl_kernel_rfl) y)
  · exact gate_at (k0_pay3 X G) W CW CB CR 2560 inb_S1024x5632_S1024x256_0_2560 inb_S3x5632_S3x256_0_2560 inb_S1x5632_S1x256_0_2560 inb_S8x5632_S8x256_0_2560 5376 inb_S1024x5632_S1024x256_0_5376 inb_S3x5632_S3x256_0_5376 inb_S1x5632_S1x256_0_5376 inb_S8x5632_S8x256_0_5376 x y (by omega) (by omega) rfl
  · exact gate_at (k0_pay3 X G) W CW CB CR 2304 inb_S1024x5632_S1024x256_0_2304 inb_S3x5632_S3x256_0_2304 inb_S1x5632_S1x256_0_2304 inb_S8x5632_S8x256_0_2304 5120 inb_S1024x5632_S1024x256_0_5120 inb_S3x5632_S3x256_0_5120 inb_S1x5632_S1x256_0_5120 inb_S8x5632_S8x256_0_5120 x y (by omega) (by omega) rfl
  · exact gate_at (k0_pay3 X G) W CW CB CR 2048 inb_S1024x5632_S1024x256_0_2048 inb_S3x5632_S3x256_0_2048 inb_S1x5632_S1x256_0_2048 inb_S8x5632_S8x256_0_2048 4864 inb_S1024x5632_S1024x256_0_4864 inb_S3x5632_S3x256_0_4864 inb_S1x5632_S1x256_0_4864 inb_S8x5632_S8x256_0_4864 x y (by omega) (by omega) rfl
  · exact gate_at (k0_pay3 X G) W CW CB CR 1792 inb_S1024x5632_S1024x256_0_1792 inb_S3x5632_S3x256_0_1792 inb_S1x5632_S1x256_0_1792 inb_S8x5632_S8x256_0_1792 4608 inb_S1024x5632_S1024x256_0_4608 inb_S3x5632_S3x256_0_4608 inb_S1x5632_S1x256_0_4608 inb_S8x5632_S8x256_0_4608 x y (by omega) (by omega) rfl
  · exact gate_at (k0_pay3 X G) W CW CB CR 1536 inb_S1024x5632_S1024x256_0_1536 inb_S3x5632_S3x256_0_1536 inb_S1x5632_S1x256_0_1536 inb_S8x5632_S8x256_0_1536 4352 inb_S1024x5632_S1024x256_0_4352 inb_S3x5632_S3x256_0_4352 inb_S1x5632_S1x256_0_4352 inb_S8x5632_S8x256_0_4352 x y (by omega) (by omega) rfl
  · exact gate_at (k0_pay3 X G) W CW CB CR 1280 inb_S1024x5632_S1024x256_0_1280 inb_S3x5632_S3x256_0_1280 inb_S1x5632_S1x256_0_1280 inb_S8x5632_S8x256_0_1280 4096 inb_S1024x5632_S1024x256_0_4096 inb_S3x5632_S3x256_0_4096 inb_S1x5632_S1x256_0_4096 inb_S8x5632_S8x256_0_4096 x y (by omega) (by omega) rfl
  · exact gate_at (k0_pay3 X G) W CW CB CR 1024 inb_S1024x5632_S1024x256_0_1024 inb_S3x5632_S3x256_0_1024 inb_S1x5632_S1x256_0_1024 inb_S8x5632_S8x256_0_1024 3840 inb_S1024x5632_S1024x256_0_3840 inb_S3x5632_S3x256_0_3840 inb_S1x5632_S1x256_0_3840 inb_S8x5632_S8x256_0_3840 x y (by omega) (by omega) rfl
  · exact gate_at (k0_pay3 X G) W CW CB CR 768 inb_S1024x5632_S1024x256_0_768 inb_S3x5632_S3x256_0_768 inb_S1x5632_S1x256_0_768 inb_S8x5632_S8x256_0_768 3584 inb_S1024x5632_S1024x256_0_3584 inb_S3x5632_S3x256_0_3584 inb_S1x5632_S1x256_0_3584 inb_S8x5632_S8x256_0_3584 x y (by omega) (by omega) rfl
  · exact gate_at (k0_pay3 X G) W CW CB CR 512 inb_S1024x5632_S1024x256_0_512 inb_S3x5632_S3x256_0_512 inb_S1x5632_S1x256_0_512 inb_S8x5632_S8x256_0_512 3328 inb_S1024x5632_S1024x256_0_3328 inb_S3x5632_S3x256_0_3328 inb_S1x5632_S1x256_0_3328 inb_S8x5632_S8x256_0_3328 x y (by omega) (by omega) rfl
  · exact gate_at (k0_pay3 X G) W CW CB CR 256 inb_S1024x5632_S1024x256_0_256 inb_S3x5632_S3x256_0_256 inb_S1x5632_S1x256_0_256 inb_S8x5632_S8x256_0_256 3072 inb_S1024x5632_S1024x256_0_3072 inb_S3x5632_S3x256_0_3072 inb_S1x5632_S1x256_0_3072 inb_S8x5632_S8x256_0_3072 x y (by omega) (by omega) rfl
  · exact gate_at (k0_pay3 X G) W CW CB CR 0 inb_S1024x5632_S1024x256_0_0 inb_S3x5632_S3x256_0_0 inb_S1x5632_S1x256_0_0 inb_S8x5632_S8x256_0_0 2816 inb_S1024x5632_S1024x256_0_2816 inb_S3x5632_S3x256_0_2816 inb_S1x5632_S1x256_0_2816 inb_S8x5632_S8x256_0_2816 x y (by omega) (by omega) rfl

end Cert.FfnIdeal.Value

end
-- ==== Proof.FfnCarryA.lean ====
module

public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import Idealize.ShloMosaic.Lib.Pipeline.Value
public import Idealize.ShloMosaic.Lib.StableHlo.Run
public import Idealize.ShloMosaic.Lib.Claim
public import Idealize.ShloMosaic.Lib.Pipeline.ValueKit
public import Idealize.ShloMosaic.Lib.Pointwise
public import Idealize.ShloMosaic.Lib.WordCmp
public import Idealize.ShloMosaic.Lib.Pipeline.FrameTail
public import Idealize.ShloMosaic.Lib.LayoutAt
public import Idealize.ShloMosaic.Lib.Pipeline.ReadBack
public import proofs.«01_k».proof.Proof.FfnRef
public import proofs.«01_k».proof.Proof.FfnStores

/- The feed-forward block: the rows a grid point carries on. -/

@[expose] public section

set_option maxRecDepth 16384

noncomputable section

open Idealize.ShloMosaic Idealize.ShloMosaic.TcCoe Idealize.SL.Sem
open Idealize.ShloMosaic.Pipeline (Dat)
open scoped BigOperators

namespace Cert.FfnIdeal.Value

open Cert.FfnIdeal Cert.FfnIdeal.Gen

variable (m : (ℓ : Loc nD τ sig) → Buf (Elt Ideal) ℓ)

set_option maxHeartbeats 8000000

/-- The rows carried on, where a sequence begins. -/
theorem carry_A (c : Dev nD) (t : Fin cfg0.N) (h0 : t.val % 4 = 0) (X : Vec Ideal S512x1024 .f32) (G : Vec Ideal S1x1024 .f32) (W : Vec Ideal S1024x5632 .bf16) (CW : Vec Ideal S3x5632 .f32) (CB : Vec Ideal S1x5632 .f32) (WD : Vec Ideal S2816x1024 .bf16) (FG : Vec Ideal S1x1024 .f32) (y : S8x5632.Idx) :
    sout0_A_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) X G W CW CB WD FG y
      = tailF (k0_pay3 X G) W y := by
  frame_out
  clear h0
  refine (canon_dropLast _ y (View.cover_of_tiledBy _ ![8, 256] (by sl_kernel_rfl) y)).trans ?_
  simp only [List.dropLast_cons₂, List.dropLast_singleton]
  canon_tiles x h using (View.cover_of_tiledBy _ ![8, 256] (by sl_kernel_rfl) y)
  · exact tail_piece (k0_pay3 X G) W 5376 inb_S1024x5632_S1024x256_0_5376 x y (by omega) (by omega)
  · exact tail_piece (k0_pay3 X G) W 2560 inb_S1024x5632_S1024x256_0_2560 x y (by omega) (by omega)
  · exact tail_piece (k0_pay3 X G) W 5120 inb_S1024x5632_S1024x256_0_5120 x y (by omega) (by omega)
  · exact tail_piece (k0_pay3 X G) W 2304 inb_S1024x5632_S1024x256_0_2304 x y (by omega) (by omega)
  · exact tail_piece (k0_pay3 X G) W 4864 inb_S1024x5632_S1024x256_0_4864 x y (by omega) (by omega)
  · exact tail_piece (k0_pay3 X G) W 2048 inb_S1024x5632_S1024x256_0_2048 x y (by omega) (by omega)
  · exact tail_piece (k0_pay3 X G) W 4608 inb_S1024x5632_S1024x256_0_4608 x y (by omega) (by omega)
  · exact tail_piece (k0_pay3 X G) W 1792 inb_S1024x5632_S1024x256_0_1792 x y (by omega) (by omega)
  · exact tail_piece (k0_pay3 X G) W 4352 inb_S1024x5632_S1024x256_0_4352 x y (by omega) (by omega)
  · exact tail_piece (k0_pay3 X G) W 1536 inb_S1024x5632_S1024x256_0_1536 x y (by omega) (by omega)
  · exact tail_piece (k0_pay3 X G) W 4096 inb_S1024x5632_S1024x256_0_4096 x y (by omega) (by omega)
  · exact tail_piece (k0_pay3 X G) W 1280 inb_S1024x5632_S1024x256_0_1280 x y (by omega) (by omega)
  · exact tail_piece (k0_pay3 X G) W 3840 inb_S1024x5632_S1024x256_0_3840 x y (by omega) (by omega)
  · exact tail_piece (k0_pay3 X G) W 1024 inb_S1024x5632_S1024x256_0_1024 x y (by omega) (by omega)
  · exact tail_piece (k0_pay3 X G) W 3584 inb_S1024x5632_S1024x256_0_3584 x y (by omega) (by omega)
  · exact tail_piece (k0_pay3 X G) W 768 inb_S1024x5632_S1024x256_0_768 x y (by omega) (by omega)
  · exact tail_piece (k0_pay3 X G) W 3328 inb_S1024x5632_S1024x256_0_3328 x y (by omega) (by omega)
  · exact tail_piece (k0_pay3 X G) W 512 inb_S1024x5632_S1024x256_0_512 x y (by omega) (by omega)
  · exact tail_piece (k0_pay3 X G) W 3072 inb_S1024x5632_S1024x256_0_3072 x y (by omega) (by omega)
  · exact tail_piece (k0_pay3 X G) W 256 inb_S1024x5632_S1024x256_0_256 x y (by omega) (by omega)
  · exact tail_piece (k0_pay3 X G) W 2816 inb_S1024x5632_S1024x256_0_2816 x y (by omega) (by omega)
  · exact tail_piece (k0_pay3 X G) W 0 inb_S1024x5632_S1024x256_0_0 x y (by omega) (by omega)

end Cert.FfnIdeal.Value

end
-- ==== Proof.FfnCarryB.lean ====
module

public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import Idealize.ShloMosaic.Lib.Pipeline.Value
public import Idealize.ShloMosaic.Lib.StableHlo.Run
public import Idealize.ShloMosaic.Lib.Claim
public import Idealize.ShloMosaic.Lib.Pipeline.ValueKit
public import Idealize.ShloMosaic.Lib.Pointwise
public import Idealize.ShloMosaic.Lib.WordCmp
public import Idealize.ShloMosaic.Lib.Pipeline.FrameTail
public import Idealize.ShloMosaic.Lib.LayoutAt
public import Idealize.ShloMosaic.Lib.Pipeline.ReadBack
public import proofs.«01_k».proof.Proof.FfnRef
public import proofs.«01_k».proof.Proof.FfnStores

/- The feed-forward block: the rows a grid point carries on. -/

@[expose] public section

set_option maxRecDepth 16384

noncomputable section

open Idealize.ShloMosaic Idealize.ShloMosaic.TcCoe Idealize.SL.Sem
open Idealize.ShloMosaic.Pipeline (Dat)
open scoped BigOperators

namespace Cert.FfnIdeal.Value

open Cert.FfnIdeal Cert.FfnIdeal.Gen

variable (m : (ℓ : Loc nD τ sig) → Buf (Elt Ideal) ℓ)

set_option maxHeartbeats 8000000

/-- The rows carried on, where a sequence goes on. -/
theorem carry_B (c : Dev nD) (t : Fin cfg0.N) (h0 : ¬t.val % 4 = 0) (X : Vec Ideal S512x1024 .f32) (G : Vec Ideal S1x1024 .f32) (W : Vec Ideal S1024x5632 .bf16) (CW : Vec Ideal S3x5632 .f32) (CB : Vec Ideal S1x5632 .f32) (WD : Vec Ideal S2816x1024 .bf16) (FG : Vec Ideal S1x1024 .f32) (CR : Vec Ideal S8x5632 .f32) (y : S8x5632.Idx) :
    sout0_B_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) X G W CW CB WD FG CR y
      = tailF (k0_pay3 X G) W y := by
  frame_out
  clear h0
  canon_tiles x h using (View.cover_of_tiledBy _ ![8, 256] (by sl_kernel_rfl) y)
  · exact tail_piece (k0_pay3 X G) W 5376 inb_S1024x5632_S1024x256_0_5376 x y (by omega) (by omega)
  · exact tail_piece (k0_pay3 X G) W 2560 inb_S1024x5632_S1024x256_0_2560 x y (by omega) (by omega)
  · exact tail_piece (k0_pay3 X G) W 5120 inb_S1024x5632_S1024x256_0_5120 x y (by omega) (by omega)
  · exact tail_piece (k0_pay3 X G) W 2304 inb_S1024x5632_S1024x256_0_2304 x y (by omega) (by omega)
  · exact tail_piece (k0_pay3 X G) W 4864 inb_S1024x5632_S1024x256_0_4864 x y (by omega) (by omega)
  · exact tail_piece (k0_pay3 X G) W 2048 inb_S1024x5632_S1024x256_0_2048 x y (by omega) (by omega)
  · exact tail_piece (k0_pay3 X G) W 4608 inb_S1024x5632_S1024x256_0_4608 x y (by omega) (by omega)
  · exact tail_piece (k0_pay3 X G) W 1792 inb_S1024x5632_S1024x256_0_1792 x y (by omega) (by omega)
  · exact tail_piece (k0_pay3 X G) W 4352 inb_S1024x5632_S1024x256_0_4352 x y (by omega) (by omega)
  · exact tail_piece (k0_pay3 X G) W 1536 inb_S1024x5632_S1024x256_0_1536 x y (by omega) (by omega)
  · exact tail_piece (k0_pay3 X G) W 4096 inb_S1024x5632_S1024x256_0_4096 x y (by omega) (by omega)
  · exact tail_piece (k0_pay3 X G) W 1280 inb_S1024x5632_S1024x256_0_1280 x y (by omega) (by omega)
  · exact tail_piece (k0_pay3 X G) W 3840 inb_S1024x5632_S1024x256_0_3840 x y (by omega) (by omega)
  · exact tail_piece (k0_pay3 X G) W 1024 inb_S1024x5632_S1024x256_0_1024 x y (by omega) (by omega)
  · exact tail_piece (k0_pay3 X G) W 3584 inb_S1024x5632_S1024x256_0_3584 x y (by omega) (by omega)
  · exact tail_piece (k0_pay3 X G) W 768 inb_S1024x5632_S1024x256_0_768 x y (by omega) (by omega)
  · exact tail_piece (k0_pay3 X G) W 3328 inb_S1024x5632_S1024x256_0_3328 x y (by omega) (by omega)
  · exact tail_piece (k0_pay3 X G) W 512 inb_S1024x5632_S1024x256_0_512 x y (by omega) (by omega)
  · exact tail_piece (k0_pay3 X G) W 3072 inb_S1024x5632_S1024x256_0_3072 x y (by omega) (by omega)
  · exact tail_piece (k0_pay3 X G) W 256 inb_S1024x5632_S1024x256_0_256 x y (by omega) (by omega)
  · exact tail_piece (k0_pay3 X G) W 2816 inb_S1024x5632_S1024x256_0_2816 x y (by omega) (by omega)
  · exact tail_piece (k0_pay3 X G) W 0 inb_S1024x5632_S1024x256_0_0 x y (by omega) (by omega)

end Cert.FfnIdeal.Value

end
-- ==== Proof.FfnValue.lean ====
module

public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import Idealize.ShloMosaic.Lib.Pipeline.Value
public import Idealize.ShloMosaic.Lib.StableHlo.Run
public import Idealize.ShloMosaic.Lib.Claim
public import Idealize.ShloMosaic.Lib.Pipeline.ValueKit
public import Idealize.ShloMosaic.Lib.Pointwise
public import Idealize.ShloMosaic.Lib.WordCmp
public import Idealize.ShloMosaic.Lib.Pipeline.FrameTail
public import Idealize.ShloMosaic.Lib.LayoutAt
public import Idealize.ShloMosaic.Lib.Pipeline.ReadBack
public import proofs.«01_k».proof.Proof.FfnRef
public import proofs.«01_k».proof.Proof.FfnPoint
public import proofs.«01_k».proof.Proof.FfnOutA
public import proofs.«01_k».proof.Proof.FfnOutB
public import proofs.«01_k».proof.Proof.FfnCarryA
public import proofs.«01_k».proof.Proof.FfnCarryB

/- The values of the feed-forward block. -/

@[expose] public section

set_option maxRecDepth 16384

noncomputable section

open Idealize.ShloMosaic Idealize.ShloMosaic.TcCoe Idealize.SL.Sem
open Idealize.ShloMosaic.Pipeline (Dat)
open scoped BigOperators

namespace Cert.FfnIdeal.Value

open Cert.FfnIdeal Cert.FfnIdeal.Gen

variable (m : (ℓ : Loc nD τ sig) → Buf (Elt Ideal) ℓ)

/-- The rows a grid point carries on: the last eight rows of its product. -/
theorem carried (c : Dev nD) (t : Fin cfg0.N) (y : S8x5632.Idx) :
    (outsAt0 m c t.val t.isLt).2 y = tailF (k0_pay3 (iblk m c 0 t) (iblk m c 1 t)) (iblk m c 2 t) y := by
  by_cases h : t.val % 4 = 0
  · rw [outsAt0_A m c t h]; dsimp only; exact carry_A c t h (iblk m c 0 t) (iblk m c 1 t) (iblk m c 2 t) (iblk m c 3 t) (iblk m c 4 t) (iblk m c 5 t) (iblk m c 6 t) y
  · rw [outsAt0_B m c t h]; dsimp only; exact carry_B c t h (iblk m c 0 t) (iblk m c 1 t) (iblk m c 2 t) (iblk m c 3 t) (iblk m c 4 t) (iblk m c 5 t) (iblk m c 6 t) _ y

/-- The rows carried into a grid point within a sequence are the reference's. -/
theorem carried_at (c : Dev nD) (t : Fin cfg0.N) (h0 : ¬ t.val % 4 = 0) (q : Fin 8) (d : ℕ) (hd : q.val + d = 8) (hq : 1 ≤ d) (b : Fin 8) (a : Fin 2048) (ha : a.val + 512 ≤ 2048) (hb : b.val * 2048 + a.val = 512 * t.val) (n : Fin 5632) :
    (outsAt0 m c (t.val - 1) (Nat.lt_of_le_of_lt (Nat.sub_le _ _) t.isLt)).2 (ix2 q n) = Cert.FfnRefIdeal.Value.back (fun p => Cert.FfnRefIdeal.Value.up (m ((c : Thread nD τ).loc main_arg0)) (m ((c : Thread nD τ).loc main_arg1)) (m ((c : Thread nD τ).loc main_arg2)) (ix3 b p n)) d a := by
  refine (carried m c ⟨t.val - 1, Nat.lt_of_le_of_lt (Nat.sub_le _ _) t.isLt⟩ (ix2 q n)).trans ?_
  unfold Cert.FfnRefIdeal.Value.back
  have hp : 512 ≤ a.val := by omega
  rw [dif_pos (by omega)]
  unfold tailF
  exact up_eq m c ⟨t.val - 1, Nat.lt_of_le_of_lt (Nat.sub_le _ _) t.isLt⟩ ⟨504 + q.val, by omega⟩ n b ⟨a.val - d, by omega⟩ (by simp only []; omega)

/-- The first rows before a sequence are zero. -/
theorem zero_at (q : Fin 8) (n : Fin 5632) : (k0_pay2 : FVec Ideal S8x5632 .f32) (ix2 q n) = 0 := by
  pointwise [k0_pay2]

/-- What is stored at a grid point is the reference. -/
theorem point (c : Dev nD) (t : Fin cfg0.N) (y : S512x1024.Idx) (i : Fin 16384) (d : Fin 1024) (hi : i.val = 512 * t.val + (y 0).val) (hd : d.val = (y 1).val) :
    (outsAt0 m c t.val t.isLt).1 y = Cert.FfnRefIdeal.Value.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 i d) := by
  obtain ⟨r, d', rfl⟩ : ∃ (r : Fin 512) (d' : Fin 1024), y = ix2 r d' := ⟨y 0, y 1, by funext a; fin_cases a <;> rfl⟩
  have ed : d' = d := Fin.ext hd.symm
  subst ed
  have ht : t.val < 32 := t.isLt
  by_cases h : t.val % 4 = 0
  · rw [outsAt0_A m c t h]; dsimp only
    refine (out_A c t h (iblk m c 0 t) (iblk m c 1 t) (iblk m c 2 t) (iblk m c 3 t) (iblk m c 4 t) (iblk m c 5 t) (iblk m c 6 t) (ix2 r d')).trans ?_
    refine block_eq m c t _ ⟨t.val / 4, by omega⟩ ⟨0, by omega⟩ (by simp only []; omega) (by simp only []; omega) (fun n => ?_) (fun n => ?_) r d' i hi
    · rw [zero_at]; rfl
    · rw [zero_at]; rfl
  · rw [outsAt0_B m c t h]; dsimp only
    refine (out_B c t h (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2 (ix2 r d')).trans ?_
    refine block_eq m c t _ ⟨t.val / 4, by omega⟩ ⟨512 * (t.val % 4), by omega⟩ (by simp only []; omega) (by simp only []; omega) (fun n => ?_) (fun n => ?_) r d' i hi
    · exact carried_at m c t h 6 2 rfl (by omega) _ _ (by simp only []; omega) (by simp only []; omega) n
    · exact carried_at m c t h 7 1 rfl (by omega) _ _ (by simp only []; omega) (by simp only []; omega) n

/-- The result array after the run. -/
theorem final (c : Dev nD) : (dats m 0 c).arrAt 7 (cfgs 0).N = Cert.FfnRefIdeal.Value.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t hf y => ?_
  blk_simp; rw [after0_7]
  have e : ((cfg0.win 7).blk t).view.emb y = ix2 (((cfg0.win 7).blk t).view.emb y 0) (((cfg0.win 7).blk t).view.emb y 1) := by
    funext a; fin_cases a <;> rfl
  rw [e]
  refine point m c t y _ _ ?_ ?_ <;> blk_simp [idx_val t] <;> omega

end Cert.FfnIdeal.Value

end
-- ==== Proof.FfnMidRef.lean ====
module

public import proofs.«01_k».proof.Proof.Gen.FfnMidRefIdeal
public import Idealize.ShloMosaic.Lib.Pointwise

/- The reference of the feed-forward block without the final norm, operation by operation. -/

@[expose] public section

set_option maxRecDepth 16384

noncomputable section

open Idealize.ShloMosaic Idealize.ShloMosaic.TcCoe Idealize.SL.Sem
open scoped BigOperators

namespace Cert.FfnMidRefIdeal.Value

open Cert.FfnMidRefIdeal Cert.FfnMidRefIdeal.Gen

/-- The rows of `x`, normalised. -/
def normed (x : FVec Ideal S16384x1024 .f32) (g : FVec Ideal S1024 .f32) : FVec Ideal S8x2048x1024 .f32 :=
  (mulf (mulf (shapeCast S8x2048x1024 x shapeCasts_S16384x1024_S8x2048x1024) (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf (shapeCast S8x2048x1024 x shapeCasts_S16384x1024_S8x2048x1024) (shapeCast S8x2048x1024 x shapeCasts_S16384x1024_S8x2048x1024)) (constant S_ .f32 0x00000000#32 : FVec Ideal S_ .f32) reducesTo_S8x2048x1024_S8x2048_d2 h_S_)) (broadcastInDim S8x2048x1 ![] bcast_S_S8x2048x1 (constant S_ .f32 0x44800000#32 : FVec Ideal S_ .f32))) (broadcastInDim S8x2048x1 ![] bcast_S_S8x2048x1 (constant S_ .f32 0x358637BD#32 : FVec Ideal S_ .f32)))))) (broadcastInDim S8x2048x1024 ![0, 1, 2] bcast_S1x1x1024_S8x2048x1024_0_1_2 (broadcastInDim S1x1x1024 ![2] bcast_S1024_S1x1x1024_2 g)))

/-- The rows projected upwards. -/
def up (x : FVec Ideal S16384x1024 .f32) (g : FVec Ideal S1024 .f32) (w : FVec Ideal S1024x5632 .f32) : FVec Ideal S8x2048x5632 .f32 :=
  (Host.dotGeneral dot_S8x2048x1024_S1024x5632_S8x2048x5632_2_0_01_1_n_n none (normed x g) w)

/-- The same with two zero rows before each sequence. -/
def padded (x : FVec Ideal S16384x1024 .f32) (g : FVec Ideal S1024 .f32) (w : FVec Ideal S1024x5632 .f32) : FVec Ideal S8x2050x5632 .f32 :=
  (concatenate S8x2050x5632 1 [⟨S8x2x5632, (broadcastInDim S8x2x5632 ![] bcast_S_S8x2x5632 (constant S_ .f32 0x00000000#32 : FVec Ideal S_ .f32))⟩, ⟨S8x2048x5632, (up x g w)⟩] concatenates_S8x2x5632_S8x2048x5632_S8x2050x5632_d1)

/-- The causal convolution of width three. -/
def conv (x : FVec Ideal S16384x1024 .f32) (g : FVec Ideal S1024 .f32) (w : FVec Ideal S1024x5632 .f32) (cw : FVec Ideal S3x5632 .f32) (cb : FVec Ideal S5632 .f32) : FVec Ideal S8x2048x5632 .f32 :=
  (addf (addf (addf (mulf (broadcastInDim S8x2048x5632 ![0, 1, 2] bcast_S1x1x5632_S8x2048x5632_0_1_2 (broadcastInDim S1x1x5632 ![2] bcast_S5632_S1x1x5632_2 (shapeCast S5632 (extractStridedSlice S1x5632 ![0, 0] cw slices_S3x5632_S1x5632_0_0) shapeCasts_S1x5632_S5632))) (extractStridedSlice S8x2048x5632 ![0, 0, 0] (padded x g w) slices_S8x2050x5632_S8x2048x5632_0_0_0)) (mulf (broadcastInDim S8x2048x5632 ![0, 1, 2] bcast_S1x1x5632_S8x2048x5632_0_1_2 (broadcastInDim S1x1x5632 ![2] bcast_S5632_S1x1x5632_2 (shapeCast S5632 (extractStridedSlice S1x5632 ![1, 0] cw slices_S3x5632_S1x5632_1_0) shapeCasts_S1x5632_S5632))) (extractStridedSlice S8x2048x5632 ![0, 1, 0] (padded x g w) slices_S8x2050x5632_S8x2048x5632_0_1_0))) (mulf (broadcastInDim S8x2048x5632 ![0, 1, 2] bcast_S1x1x5632_S8x2048x5632_0_1_2 (broadcastInDim S1x1x5632 ![2] bcast_S5632_S1x1x5632_2 (shapeCast S5632 (extractStridedSlice S1x5632 ![2, 0] cw slices_S3x5632_S1x5632_2_0) shapeCasts_S1x5632_S5632))) (extractStridedSlice S8x2048x5632 ![0, 2, 0] (padded x g w) slices_S8x2050x5632_S8x2048x5632_0_2_0))) (broadcastInDim S8x2048x5632 ![0, 1, 2] bcast_S1x1x5632_S8x2048x5632_0_1_2 (broadcastInDim S1x1x5632 ![2] bcast_S5632_S1x1x5632_2 cb)))

/-- The gated channels. -/
def act (x : FVec Ideal S16384x1024 .f32) (g : FVec Ideal S1024 .f32) (w : FVec Ideal S1024x5632 .f32) (cw : FVec Ideal S3x5632 .f32) (cb : FVec Ideal S5632 .f32) : FVec Ideal S8x2048x2816 .f32 :=
  (mulf (mulf (extractStridedSlice S8x2048x2816 ![0, 0, 0] (conv x g w cw cb) slices_S8x2048x5632_S8x2048x2816_0_0_0) (Host.divf (broadcastInDim S8x2048x2816 ![] bcast_S_S8x2048x2816 (constant S_ .f32 0x3F800000#32 : FVec Ideal S_ .f32)) (addf (broadcastInDim S8x2048x2816 ![] bcast_S_S8x2048x2816 (constant S_ .f32 0x3F800000#32 : FVec Ideal S_ .f32)) (Host.exp (Host.negf (extractStridedSlice S8x2048x2816 ![0, 0, 0] (conv x g w cw cb) slices_S8x2048x5632_S8x2048x2816_0_0_0)))))) (extractStridedSlice S8x2048x2816 ![0, 0, 2816] (conv x g w cw cb) slices_S8x2048x5632_S8x2048x2816_0_0_2816))

/-- The residual and the rows projected downwards. -/
def resid (x : FVec Ideal S16384x1024 .f32) (g : FVec Ideal S1024 .f32) (w : FVec Ideal S1024x5632 .f32) (cw : FVec Ideal S3x5632 .f32) (cb : FVec Ideal S5632 .f32) (wd : FVec Ideal S2816x1024 .f32) : FVec Ideal S8x2048x1024 .f32 :=
  (addf (shapeCast S8x2048x1024 x shapeCasts_S16384x1024_S8x2048x1024) (Host.dotGeneral dot_S8x2048x2816_S2816x1024_S8x2048x1024_2_0_01_1_n_n none (act x g w cw cb) wd))

/-- The result of the reference: the same on flat rows. -/
def result (x : FVec Ideal S16384x1024 .f32) (g : FVec Ideal S1024 .f32) (w : FVec Ideal S1024x5632 .f32) (cw : FVec Ideal S3x5632 .f32) (cb : FVec Ideal S5632 .f32) (wd : FVec Ideal S2816x1024 .f32) : FVec Ideal S16384x1024 .f32 :=
  (shapeCast S16384x1024 (resid x g w cw cb wd) shapeCasts_S8x2048x1024_S16384x1024)

end Cert.FfnMidRefIdeal.Value

end
-- ==== Proof.FfnMidRun.lean ====
module

public import proofs.«01_k».proof.Defs
public import proofs.«01_k».proof.Proof.Gen.FfnMidRefIdeal
public import proofs.«01_k».proof.Proof.FfnMidRef
public import Idealize.ShloMosaic.Lib.Claim

/- What the reference of the feed-forward block without the final norm leaves in memory when it runs. -/

@[expose] public section

set_option maxRecDepth 16384
set_option maxHeartbeats 8000000

noncomputable section

open Idealize.ShloMosaic Idealize.ShloMosaic.TcCoe Idealize.SL.Sem

namespace Cert.FfnMidRefIdeal.Value

/-- The arguments are left as they were. -/
theorem args_kept (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine θ_run_mono (StableHlo.run_hlo _ _ (by hlo_seq) (by decide) (by decide) (by simp)
    (by intro _ h; (repeat (cases h with | head => rfl | tail _ h => ?_)); exact nomatch h) _ _) ?_
  intro r hr c
  have hc := hr c
  clear hr
  refine ⟨(hc main_arg0).trans ?_, (hc main_arg1).trans ?_, (hc main_arg2).trans ?_, (hc main_arg3).trans ?_, (hc main_arg4).trans ?_, (hc main_arg5).trans ?_, (hc main_arg6).trans ?_⟩
  all_goals clear hc r
  all_goals simp only [StableHlo.after_cons, StableHlo.after_nil]
  all_goals after_results_simp
  all_goals repeat rw [StableHlo.launchContents_devRef]

/-- The result is what the definitions above say. -/
theorem leaves_result (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v53) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine θ_run_mono (StableHlo.run_hlo _ _ (by hlo_seq) (by decide) (by decide) (by simp)
    (by intro _ h; (repeat (cases h with | head => rfl | tail _ h => ?_)); exact nomatch h) _ _) ?_
  intro r hr c
  have hc := hr c
  clear hr
  refine (hc main_v53).trans ?_
  all_goals clear hc r
  after_results
  all_goals repeat rw [StableHlo.launchContents_devRef]
  all_goals rfl

end Cert.FfnMidRefIdeal.Value

end
-- ==== Proof.FfnMidSlots.lean ====
module

public import proofs.«01_k».proof.Proof.Gen.FfnMidIdeal
public import proofs.«01_k».proof.Proof.Gen.FfnMidIdeal.Skeleton
public import proofs.«01_k».proof.Proof.Gen.FfnMidIdeal.Launch
public import proofs.«01_k».proof.Proof.Gen.FfnMidIdeal.Points
public import proofs.«01_k».proof.Proof.Gen.FfnMidIdeal.Frame
public import Idealize.ShloMosaic.Lib.Pipeline.Value
public import Idealize.ShloMosaic.Lib.StableHlo.Run
public import Idealize.ShloMosaic.Lib.Claim
public import Idealize.ShloMosaic.Lib.Pipeline.ValueKit
public import Idealize.ShloMosaic.Lib.Pointwise
public import Idealize.ShloMosaic.Lib.WordCmp
public import Idealize.ShloMosaic.Lib.Pipeline.FrameTail
public import Idealize.ShloMosaic.Lib.LayoutAt
public import Idealize.ShloMosaic.Lib.Pipeline.ReadBack
public import proofs.«01_k».proof.Proof.FfnMidRef

/- The feed-forward block without the final norm: what its loads read of the scratch it stored before. -/

@[expose] public section

set_option maxRecDepth 16384

noncomputable section

open Idealize.ShloMosaic Idealize.ShloMosaic.TcCoe Idealize.SL.Sem
open Idealize.ShloMosaic.Pipeline (Dat)
open scoped BigOperators

namespace Cert.FfnMidIdeal.Value

open Cert.FfnMidIdeal Cert.FfnMidIdeal.Gen

variable (m : (ℓ : Loc nD τ sig) → Buf (Elt Ideal) ℓ)

/-- The value one row before, the row before the first being the last carried. -/
def sh1 (u : Fin 512 → EReal) (c : Fin 8 → EReal) (r : Fin 512) : EReal :=
  if h : 1 ≤ r.val then u ⟨r.val - 1, by omega⟩ else c 7

/-- The value two rows before, the rows before the first being the last two carried. -/
def sh2 (u : Fin 512 → EReal) (c : Fin 8 → EReal) (r : Fin 512) : EReal :=
  if h : 2 ≤ r.val then u ⟨r.val - 2, by omega⟩ else c ⟨r.val + 6, by omega⟩

/-- A slot's rows one before its own. -/
def slot1 (u : S1x512x256.Idx → Elt Ideal .f32) (k : S1x8x256.Idx → Elt Ideal .f32) : S1x512x256.Idx → Elt Ideal .f32 :=
  fun x => sh1 (fun r => u (ix3 0 r (x 2))) (fun r => k (ix3 0 r (x 2))) (x 1)

/-- A slot's rows two before its own. -/
def slot2 (u : S1x512x256.Idx → Elt Ideal .f32) (k : S1x8x256.Idx → Elt Ideal .f32) : S1x512x256.Idx → Elt Ideal .f32 :=
  fun x => sh2 (fun r => u (ix3 0 r (x 2))) (fun r => k (ix3 0 r (x 2))) (x 1)

/-- Rows 1 before a slot's own, read after the slot's two stores. -/
theorem read_slot1 (v : View sig .tc .vmem S4x520x256 .f32) (s : ℕ) (i1 : ∀ a, (![s, 8, 0] : Fin 3 → ℕ) a + (![1, 512, 256] : Fin 3 → ℕ) a ≤ S4x520x256.size a)
    (i2 : ∀ a, (![s, 0, 0] : Fin 3 → ℕ) a + (![1, 8, 256] : Fin 3 → ℕ) a ≤ S4x520x256.size a)
    (i3 : ∀ a, (![s, 7, 0] : Fin 3 → ℕ) a + (![1, 512, 256] : Fin 3 → ℕ) a ≤ S4x520x256.size a) (u : S1x512x256.Idx → Elt Ideal .f32) (k : S1x8x256.Idx → Elt Ideal .f32)
    (L : List (View.Piece (Elt Ideal) S4x520x256 .f32)) :
    v.readCov (⟨Rect.unit ![s, 8, 0] ![1, 512, 256] i1, u⟩ :: ⟨Rect.unit ![s, 0, 0] ![1, 8, 256] i2, k⟩ :: L) (Rect.unit ![s, 7, 0] ![1, 512, 256] i3 : Rect S4x520x256).toLoadRect = slot1 u k := by
  rw [View.readCov_eq_canon']
  funext j
  have hs : s < 4 := by have := i1 0; simpa using this
  obtain ⟨a, b, d, rfl⟩ : ∃ (a : Fin 1) (b : Fin 512) (d : Fin 256), j = ix3 a b d := ⟨j 0, j 1, j 2, by funext q; fin_cases q <;> rfl⟩
  by_cases h : 1 ≤ b.val
  · have e : (Rect.unit ![s, 7, 0] ![1, 512, 256] i3 : Rect S4x520x256).toLoadRect.idx (ix3 a b d) = (Rect.unit ![s, 8, 0] ![1, 512, 256] i1 : Rect S4x520x256).emb (ix3 (0 : Fin 1) (⟨b.val - 1, by omega⟩ : Fin 512) d) := by
      funext q
      apply Fin.ext
      fin_cases q
      · have := a.isLt; simp [ix3] <;> omega
      · simp [ix3] <;> omega
      · simp [ix3]
    rw [e, View.canon_cons_emb]
    unfold slot1 sh1
    rw [dif_pos (show 1 ≤ ((ix3 a b d : S1x512x256.Idx) 1).val from h)]
    rfl
  · have n1 : (Rect.unit ![s, 7, 0] ![1, 512, 256] i3 : Rect S4x520x256).toLoadRect.idx (ix3 a b d) ∉ (Rect.unit ![s, 8, 0] ![1, 512, 256] i1 : Rect S4x520x256).set := by
      rw [Rect.mem_set_unit]
      intro hh
      have := (hh 1).1
      simp [ix3] at this
      omega
    have e : (Rect.unit ![s, 7, 0] ![1, 512, 256] i3 : Rect S4x520x256).toLoadRect.idx (ix3 a b d) = (Rect.unit ![s, 0, 0] ![1, 8, 256] i2 : Rect S4x520x256).emb (ix3 (0 : Fin 1) (⟨b.val + 7, by omega⟩ : Fin 8) d) := by
      funext q
      apply Fin.ext
      fin_cases q
      · have := a.isLt; simp [ix3] <;> omega
      · simp [ix3] <;> omega
      · simp [ix3]
    refine (View.canon_cons_of_not_mem (⟨Rect.unit ![s, 8, 0] ![1, 512, 256] i1, u⟩ : View.Piece (Elt Ideal) S4x520x256 .f32) _ n1).trans ?_
    rw [e, View.canon_cons_emb]
    unfold slot1 sh1
    rw [dif_neg (show ¬ 1 ≤ ((ix3 a b d : S1x512x256.Idx) 1).val from h)]
    blk_ext

/-- Rows 2 before a slot's own, read after the slot's two stores. -/
theorem read_slot2 (v : View sig .tc .vmem S4x520x256 .f32) (s : ℕ) (i1 : ∀ a, (![s, 8, 0] : Fin 3 → ℕ) a + (![1, 512, 256] : Fin 3 → ℕ) a ≤ S4x520x256.size a)
    (i2 : ∀ a, (![s, 0, 0] : Fin 3 → ℕ) a + (![1, 8, 256] : Fin 3 → ℕ) a ≤ S4x520x256.size a)
    (i3 : ∀ a, (![s, 6, 0] : Fin 3 → ℕ) a + (![1, 512, 256] : Fin 3 → ℕ) a ≤ S4x520x256.size a) (u : S1x512x256.Idx → Elt Ideal .f32) (k : S1x8x256.Idx → Elt Ideal .f32)
    (L : List (View.Piece (Elt Ideal) S4x520x256 .f32)) :
    v.readCov (⟨Rect.unit ![s, 8, 0] ![1, 512, 256] i1, u⟩ :: ⟨Rect.unit ![s, 0, 0] ![1, 8, 256] i2, k⟩ :: L) (Rect.unit ![s, 6, 0] ![1, 512, 256] i3 : Rect S4x520x256).toLoadRect = slot2 u k := by
  rw [View.readCov_eq_canon']
  funext j
  have hs : s < 4 := by have := i1 0; simpa using this
  obtain ⟨a, b, d, rfl⟩ : ∃ (a : Fin 1) (b : Fin 512) (d : Fin 256), j = ix3 a b d := ⟨j 0, j 1, j 2, by funext q; fin_cases q <;> rfl⟩
  by_cases h : 2 ≤ b.val
  · have e : (Rect.unit ![s, 6, 0] ![1, 512, 256] i3 : Rect S4x520x256).toLoadRect.idx (ix3 a b d) = (Rect.unit ![s, 8, 0] ![1, 512, 256] i1 : Rect S4x520x256).emb (ix3 (0 : Fin 1) (⟨b.val - 2, by omega⟩ : Fin 512) d) := by
      funext q
      apply Fin.ext
      fin_cases q
      · have := a.isLt; simp [ix3] <;> omega
      · simp [ix3] <;> omega
      · simp [ix3]
    rw [e, View.canon_cons_emb]
    unfold slot2 sh2
    rw [dif_pos (show 2 ≤ ((ix3 a b d : S1x512x256.Idx) 1).val from h)]
    rfl
  · have n1 : (Rect.unit ![s, 6, 0] ![1, 512, 256] i3 : Rect S4x520x256).toLoadRect.idx (ix3 a b d) ∉ (Rect.unit ![s, 8, 0] ![1, 512, 256] i1 : Rect S4x520x256).set := by
      rw [Rect.mem_set_unit]
      intro hh
      have := (hh 1).1
      simp [ix3] at this
      omega
    have e : (Rect.unit ![s, 6, 0] ![1, 512, 256] i3 : Rect S4x520x256).toLoadRect.idx (ix3 a b d) = (Rect.unit ![s, 0, 0] ![1, 8, 256] i2 : Rect S4x520x256).emb (ix3 (0 : Fin 1) (⟨b.val + 6, by omega⟩ : Fin 8) d) := by
      funext q
      apply Fin.ext
      fin_cases q
      · have := a.isLt; simp [ix3] <;> omega
      · simp [ix3] <;> omega
      · simp [ix3]
    refine (View.canon_cons_of_not_mem (⟨Rect.unit ![s, 8, 0] ![1, 512, 256] i1, u⟩ : View.Piece (Elt Ideal) S4x520x256 .f32) _ n1).trans ?_
    rw [e, View.canon_cons_emb]
    unfold slot2 sh2
    rw [dif_neg (show ¬ 2 ≤ ((ix3 a b d : S1x512x256.Idx) 1).val from h)]
    blk_ext

/-- A load of the carried rows passes over a store to other columns. -/
theorem skip_cols (v : View sig .tc .vmem S8x5632 .f32) (a b : ℕ) (i1 : ∀ d, (![0, a] : Fin 2 → ℕ) d + (![8, 256] : Fin 2 → ℕ) d ≤ S8x5632.size d)
    (i2 : ∀ d, (![0, b] : Fin 2 → ℕ) d + (![8, 256] : Fin 2 → ℕ) d ≤ S8x5632.size d) (w : S8x256.Idx → Elt Ideal .f32)
    (L : List (View.Piece (Elt Ideal) S8x5632 .f32)) (h : a + 256 ≤ b ∨ b + 256 ≤ a) :
    v.readCov (⟨Rect.unit ![0, a] ![8, 256] i1, w⟩ :: L) (Rect.unit ![0, b] ![8, 256] i2).toLoadRect = v.readCov L (Rect.unit ![0, b] ![8, 256] i2).toLoadRect := by
  rw [View.readCov_eq_canon', View.readCov_eq_canon']
  funext j
  refine View.canon_cons_of_not_mem ⟨Rect.unit ![0, a] ![8, 256] i1, w⟩ L ?_
  rw [Rect.mem_set_unit]
  intro hh
  have h1 := (hh 1).1
  have h2 := (hh 1).2
  have h3 := (j 1).isLt
  simp at h1 h2 h3
  omega

/-- A load of the carried rows after a store of all of them reads that store. -/
theorem fill_cols (v : View sig .tc .vmem S8x5632 .f32) (i1 : ∀ d, (![0, 0] : Fin 2 → ℕ) d + (![8, 5632] : Fin 2 → ℕ) d ≤ S8x5632.size d)
    (w : S8x5632.Idx → Elt Ideal .f32) (L : List (View.Piece (Elt Ideal) S8x5632 .f32)) (r : Rect S8x5632) :
    v.readCov (⟨Rect.unit ![0, 0] ![8, 5632] i1, w⟩ :: L) r.toLoadRect = View.ld w r :=
  View.readCov_fill v i1 w L r (by intro d; fin_cases d <;> rfl)

/-- A load of the whole gated block reads the function its stores are pieces of. -/
theorem read_act (v : View sig .tc .vmem S512x2816 .bf16) (i1 : ∀ d, (![0, 0] : Fin 2 → ℕ) d + (![512, 2816] : Fin 2 → ℕ) d ≤ S512x2816.size d)
    (L : List (View.Piece (Elt Ideal) S512x2816 .bf16)) (G : S512x2816.Idx → Elt Ideal .bf16) (h : ∀ y, View.canon L y = G y) :
    v.readCov L (Rect.unit ![0, 0] ![512, 2816] i1).toLoadRect = G := by
  rw [View.readCov_eq_canon']
  funext j
  have e : (Rect.unit ![0, 0] ![512, 2816] i1).toLoadRect.idx j = j := by
    funext q
    apply Fin.ext
    fin_cases q <;> simp
  rw [e]
  exact h j

end Cert.FfnMidIdeal.Value

end
-- ==== Proof.FfnMidHalf.lean ====
module

public import proofs.«01_k».proof.Proof.Gen.FfnMidIdeal
public import proofs.«01_k».proof.Proof.Gen.FfnMidIdeal.Skeleton
public import proofs.«01_k».proof.Proof.Gen.FfnMidIdeal.Launch
public import proofs.«01_k».proof.Proof.Gen.FfnMidIdeal.Points
public import proofs.«01_k».proof.Proof.Gen.FfnMidIdeal.Frame
public import Idealize.ShloMosaic.Lib.Pipeline.Value
public import Idealize.ShloMosaic.Lib.StableHlo.Run
public import Idealize.ShloMosaic.Lib.Claim
public import Idealize.ShloMosaic.Lib.Pipeline.ValueKit
public import Idealize.ShloMosaic.Lib.Pointwise
public import Idealize.ShloMosaic.Lib.WordCmp
public import Idealize.ShloMosaic.Lib.Pipeline.FrameTail
public import Idealize.ShloMosaic.Lib.LayoutAt
public import Idealize.ShloMosaic.Lib.Pipeline.ReadBack
public import proofs.«01_k».proof.Proof.FfnMidRef
public import proofs.«01_k».proof.Proof.FfnMidSlots

/- The feed-forward block without the final norm: 256 columns of the convolution and the gate, at a row and a column. -/

@[expose] public section

set_option maxRecDepth 16384

noncomputable section

open Idealize.ShloMosaic Idealize.ShloMosaic.TcCoe Idealize.SL.Sem
open Idealize.ShloMosaic.Pipeline (Dat)
open scoped BigOperators

namespace Cert.FfnMidIdeal.Value

open Cert.FfnMidIdeal Cert.FfnMidIdeal.Gen

variable (m : (ℓ : Loc nD τ sig) → Buf (Elt Ideal) ℓ)

/-- Columns `c` on of the upward weight. -/
abbrev ldW (W : FVec Ideal S1024x5632 .bf16) (c : ℕ) (h : ∀ a, (![0, c] : Fin 2 → ℕ) a + (![1024, 256] : Fin 2 → ℕ) a ≤ S1024x5632.size a) : Vec Ideal S1024x256 .bf16 :=
  View.ld (Val := Elt Ideal) (e' := .bf16) W (Rect.unit ![0, c] ![1024, 256] h : Rect S1024x5632)

/-- Columns `c` on of the convolution's weights. -/
abbrev ldC (W : FVec Ideal S3x5632 .f32) (c : ℕ) (h : ∀ a, (![0, c] : Fin 2 → ℕ) a + (![3, 256] : Fin 2 → ℕ) a ≤ S3x5632.size a) : Vec Ideal S3x256 .f32 :=
  View.ld (Val := Elt Ideal) (e' := .f32) W (Rect.unit ![0, c] ![3, 256] h : Rect S3x5632)

/-- Columns `c` on of the convolution's bias. -/
abbrev ldB (W : FVec Ideal S1x5632 .f32) (c : ℕ) (h : ∀ a, (![0, c] : Fin 2 → ℕ) a + (![1, 256] : Fin 2 → ℕ) a ≤ S1x5632.size a) : Vec Ideal S1x256 .f32 :=
  View.ld (Val := Elt Ideal) (e' := .f32) W (Rect.unit ![0, c] ![1, 256] h : Rect S1x5632)

/-- Columns `c` on of the carried rows. -/
abbrev ldR (W : FVec Ideal S8x5632 .f32) (c : ℕ) (h : ∀ a, (![0, c] : Fin 2 → ℕ) a + (![8, 256] : Fin 2 → ℕ) a ≤ S8x5632.size a) : Vec Ideal S8x256 .f32 :=
  View.ld (Val := Elt Ideal) (e' := .f32) W (Rect.unit ![0, c] ![8, 256] h : Rect S8x5632)

/-- A row of the block times a column of the upward weight. -/
def upF (H : FVec Ideal S512x1024 .bf16) (W : FVec Ideal S1024x5632 .bf16) (r : Fin 512) (n : Fin 5632) : EReal :=
  ∑ k : Fin 1024, @HMul.hMul EReal EReal EReal instHMul (H (ix2 r k)) (W (ix2 k n))

/-- The convolution of a column of the block, the rows before the block being the carried ones. -/
def cvF (H : FVec Ideal S512x1024 .bf16) (W : FVec Ideal S1024x5632 .bf16) (CW : FVec Ideal S3x5632 .f32) (CB : FVec Ideal S1x5632 .f32) (CR : FVec Ideal S8x5632 .f32) (r : Fin 512) (n : Fin 5632) : EReal :=
  @HMul.hMul EReal EReal EReal instHMul (CW (ix2 2 n)) (upF H W r n)
    + @HMul.hMul EReal EReal EReal instHMul (CW (ix2 1 n)) (sh1 (fun q => upF H W q n) (fun q => CR (ix2 q n)) r)
    + @HMul.hMul EReal EReal EReal instHMul (CW (ix2 0 n)) (sh2 (fun q => upF H W q n) (fun q => CR (ix2 q n)) r)
    + CB (ix2 0 n)

/-- A column of the gated block is one of 2816. -/
theorem idx_lt (y : S512x2816.Idx) : (y 1).val < 2816 := (y 1).isLt

/-- The gated channels of the block. -/
def actF (H : FVec Ideal S512x1024 .bf16) (W : FVec Ideal S1024x5632 .bf16) (CW : FVec Ideal S3x5632 .f32) (CB : FVec Ideal S1x5632 .f32) (CR : FVec Ideal S8x5632 .f32) : S512x2816.Idx → Elt Ideal .bf16 := fun y =>
  @HMul.hMul EReal EReal EReal instHMul
    (@HMul.hMul EReal EReal EReal instHMul (cvF H W CW CB CR (y 0) ⟨(y 1).val, by have := idx_lt y; omega⟩)
      (Ideal.logistic (cvF H W CW CB CR (y 0) ⟨(y 1).val, by have := idx_lt y; omega⟩)))
    (cvF H W CW CB CR (y 0) ⟨(y 1).val + 2816, by have := idx_lt y; omega⟩)

/-- 256 columns of the convolution, as the body computes them. -/
def half (H : FVec Ideal S512x1024 .bf16) (W : FVec Ideal S1024x5632 .bf16) (CW : FVec Ideal S3x5632 .f32) (CB : FVec Ideal S1x5632 .f32) (CR : FVec Ideal S8x5632 .f32) (c : ℕ) (hW : ∀ a, (![0, c] : Fin 2 → ℕ) a + (![1024, 256] : Fin 2 → ℕ) a ≤ S1024x5632.size a) (hC : ∀ a, (![0, c] : Fin 2 → ℕ) a + (![3, 256] : Fin 2 → ℕ) a ≤ S3x5632.size a)
    (hB : ∀ a, (![0, c] : Fin 2 → ℕ) a + (![1, 256] : Fin 2 → ℕ) a ≤ S1x5632.size a) (hR : ∀ a, (![0, c] : Fin 2 → ℕ) a + (![8, 256] : Fin 2 → ℕ) a ≤ S8x5632.size a) : FVec Ideal S512x256 .f32 :=
  k0_pay9 (k0_pay10 H (ldW W c hW)) (ldC CW c hC)
    (slot1 (k0_pay12 H (ldW W c hW)) (k0_pay11 (ldR CR c hR)))
    (slot2 (k0_pay12 H (ldW W c hW)) (k0_pay11 (ldR CR c hR)))
    (ldB CB c hB)

/-- The gate of two groups of 256 columns, as the body computes it. -/
def gate (a b : FVec Ideal S512x256 .f32) : FVec Ideal S512x256 .bf16 :=
  shapeCast S512x256 (truncf .bf16 (mulf (mulf a (logistic a)) b) bitsLt_bf16_f32) shapeCasts_S512x256_S512x256

/-- The product of a row and a column, read off the body's product of 256 columns. -/
theorem up_at (H : FVec Ideal S512x1024 .bf16) (W : FVec Ideal S1024x5632 .bf16) (c : ℕ) (hW : ∀ a, (![0, c] : Fin 2 → ℕ) a + (![1024, 256] : Fin 2 → ℕ) a ≤ S1024x5632.size a)
    (r : Fin 512) (j : Fin 256) (n : Fin 5632) (hn : n.val = c + j.val) :
    k0_pay10 H (ldW W c hW) (ix2 r j) = upF H W r n := by
  pointwise [k0_pay10, upF, ldW]
  blk_point [ldW, ldC, ldB, ldR]

/-- The same, the product being kept as a slot. -/
theorem up3_at (H : FVec Ideal S512x1024 .bf16) (W : FVec Ideal S1024x5632 .bf16) (c : ℕ) (hW : ∀ a, (![0, c] : Fin 2 → ℕ) a + (![1024, 256] : Fin 2 → ℕ) a ≤ S1024x5632.size a)
    (r : Fin 512) (j : Fin 256) (n : Fin 5632) (hn : n.val = c + j.val) :
    k0_pay12 H (ldW W c hW) (ix3 0 r j) = upF H W r n := by
  pointwise [k0_pay12, k0_pay10, upF, ldW]
  blk_point [ldW, ldC, ldB, ldR]

/-- The carried rows of 256 columns. -/
theorem cr3_at (CR : FVec Ideal S8x5632 .f32) (c : ℕ) (hR : ∀ a, (![0, c] : Fin 2 → ℕ) a + (![8, 256] : Fin 2 → ℕ) a ≤ S8x5632.size a)
    (r : Fin 8) (j : Fin 256) (n : Fin 5632) (hn : n.val = c + j.val) :
    k0_pay11 (ldR CR c hR) (ix3 0 r j) = CR (ix2 r n) := by
  pointwise [k0_pay11, ldR]
  blk_point [ldW, ldC, ldB, ldR]

/-- The last eight rows of 256 columns of the product. -/
theorem tail_at (H : FVec Ideal S512x1024 .bf16) (W : FVec Ideal S1024x5632 .bf16) (c : ℕ) (hW : ∀ a, (![0, c] : Fin 2 → ℕ) a + (![1024, 256] : Fin 2 → ℕ) a ≤ S1024x5632.size a)
    (q : Fin 8) (j : Fin 256) (n : Fin 5632) (hn : n.val = c + j.val) :
    k0_pay13 H (ldW W c hW) (ix2 q j) = upF H W ⟨504 + q.val, by omega⟩ n := by
  pointwise [k0_pay13, k0_pay10, upF, ldW]
  blk_point [ldW, ldC, ldB, ldR]

/-- The body's convolution of 256 columns, at a row and a column. -/
theorem half_at (H : FVec Ideal S512x1024 .bf16) (W : FVec Ideal S1024x5632 .bf16) (CW : FVec Ideal S3x5632 .f32) (CB : FVec Ideal S1x5632 .f32) (CR : FVec Ideal S8x5632 .f32) (c : ℕ) (hW : ∀ a, (![0, c] : Fin 2 → ℕ) a + (![1024, 256] : Fin 2 → ℕ) a ≤ S1024x5632.size a) (hC : ∀ a, (![0, c] : Fin 2 → ℕ) a + (![3, 256] : Fin 2 → ℕ) a ≤ S3x5632.size a)
    (hB : ∀ a, (![0, c] : Fin 2 → ℕ) a + (![1, 256] : Fin 2 → ℕ) a ≤ S1x5632.size a) (hR : ∀ a, (![0, c] : Fin 2 → ℕ) a + (![8, 256] : Fin 2 → ℕ) a ≤ S8x5632.size a) (r : Fin 512) (j : Fin 256) (n : Fin 5632) (hn : n.val = c + j.val) :
    half H W CW CB CR c hW hC hB hR (ix2 r j) = cvF H W CW CB CR r n := by
  have e1 : slot1 (k0_pay12 H (ldW W c hW)) (k0_pay11 (ldR CR c hR)) (ix3 0 r j)
      = sh1 (fun q => upF H W q n) (fun q => CR (ix2 q n)) r := by
    rw [show (fun q => upF H W q n) = fun q => k0_pay12 H (ldW W c hW) (ix3 0 q j) from funext fun q => (up3_at H W c hW q j n hn).symm,
      show (fun q => CR (ix2 q n)) = fun q => k0_pay11 (ldR CR c hR) (ix3 0 q j) from funext fun q => (cr3_at CR c hR q j n hn).symm]
    rfl
  have e2 : slot2 (k0_pay12 H (ldW W c hW)) (k0_pay11 (ldR CR c hR)) (ix3 0 r j)
      = sh2 (fun q => upF H W q n) (fun q => CR (ix2 q n)) r := by
    rw [show (fun q => upF H W q n) = fun q => k0_pay12 H (ldW W c hW) (ix3 0 q j) from funext fun q => (up3_at H W c hW q j n hn).symm,
      show (fun q => CR (ix2 q n)) = fun q => k0_pay11 (ldR CR c hR) (ix3 0 q j) from funext fun q => (cr3_at CR c hR q j n hn).symm]
    rfl
  unfold half cvF
  rw [← e1, ← e2, ← up_at H W c hW r j n hn]
  generalize k0_pay10 H (ldW W c hW) = u
  generalize (slot1 (k0_pay12 H (ldW W c hW)) (k0_pay11 (ldR CR c hR))) = s1
  generalize (slot2 (k0_pay12 H (ldW W c hW)) (k0_pay11 (ldR CR c hR))) = s2
  pointwise [k0_pay9, ldC, ldB]
  blk_point [ldW, ldC, ldB, ldR]

/-- The body's gate of two groups of columns, 2816 apart, is the gated channels there. -/
theorem gate_at (H : FVec Ideal S512x1024 .bf16) (W : FVec Ideal S1024x5632 .bf16) (CW : FVec Ideal S3x5632 .f32) (CB : FVec Ideal S1x5632 .f32) (CR : FVec Ideal S8x5632 .f32) (c1 : ℕ) (h1W : ∀ a, (![0, c1] : Fin 2 → ℕ) a + (![1024, 256] : Fin 2 → ℕ) a ≤ S1024x5632.size a) (h1C : ∀ a, (![0, c1] : Fin 2 → ℕ) a + (![3, 256] : Fin 2 → ℕ) a ≤ S3x5632.size a)
    (h1B : ∀ a, (![0, c1] : Fin 2 → ℕ) a + (![1, 256] : Fin 2 → ℕ) a ≤ S1x5632.size a) (h1R : ∀ a, (![0, c1] : Fin 2 → ℕ) a + (![8, 256] : Fin 2 → ℕ) a ≤ S8x5632.size a) (c2 : ℕ) (h2W : ∀ a, (![0, c2] : Fin 2 → ℕ) a + (![1024, 256] : Fin 2 → ℕ) a ≤ S1024x5632.size a) (h2C : ∀ a, (![0, c2] : Fin 2 → ℕ) a + (![3, 256] : Fin 2 → ℕ) a ≤ S3x5632.size a)
    (h2B : ∀ a, (![0, c2] : Fin 2 → ℕ) a + (![1, 256] : Fin 2 → ℕ) a ≤ S1x5632.size a) (h2R : ∀ a, (![0, c2] : Fin 2 → ℕ) a + (![8, 256] : Fin 2 → ℕ) a ≤ S8x5632.size a) (x : S512x256.Idx) (y : S512x2816.Idx)
    (h0 : (y 0 : ℕ) = x 0) (h1 : (y 1 : ℕ) = c1 + x 1) (hc : c2 = c1 + 2816) :
    gate (half H W CW CB CR c1 h1W h1C h1B h1R) (half H W CW CB CR c2 h2W h2C h2B h2R) x = actF H W CW CB CR y := by
  obtain ⟨r, j, rfl⟩ : ∃ (r : Fin 512) (j : Fin 256), x = ix2 r j := ⟨x 0, x 1, by funext q; fin_cases q <;> rfl⟩
  obtain ⟨r', n, rfl⟩ : ∃ (r' : Fin 512) (n : Fin 2816), y = ix2 r' n := ⟨y 0, y 1, by funext q; fin_cases q <;> rfl⟩
  have hr : r' = r := Fin.ext (by simpa [ix2] using h0)
  have hn : n.val = c1 + j.val := by simpa [ix2] using h1
  subst hr
  have a1 := half_at H W CW CB CR c1 h1W h1C h1B h1R r' j ⟨n.val, by omega⟩ hn
  have a2 := half_at H W CW CB CR c2 h2W h2C h2B h2R r' j ⟨n.val + 2816, by omega⟩ (by simp only; omega)
  have e : actF H W CW CB CR (ix2 r' n) = @HMul.hMul EReal EReal EReal instHMul (@HMul.hMul EReal EReal EReal instHMul (cvF H W CW CB CR r' ⟨n.val, by omega⟩) (Ideal.logistic (cvF H W CW CB CR r' ⟨n.val, by omega⟩))) (cvF H W CW CB CR r' ⟨n.val + 2816, by omega⟩) := rfl
  rw [e, ← a1, ← a2]
  generalize half H W CW CB CR c1 h1W h1C h1B h1R = a
  generalize half H W CW CB CR c2 h2W h2C h2B h2R = b
  pointwise [gate, Ideal.logistic]

end Cert.FfnMidIdeal.Value

end
-- ==== Proof.FfnMidStores.lean ====
module

public import proofs.«01_k».proof.Proof.Gen.FfnMidIdeal
public import proofs.«01_k».proof.Proof.Gen.FfnMidIdeal.Skeleton
public import proofs.«01_k».proof.Proof.Gen.FfnMidIdeal.Launch
public import proofs.«01_k».proof.Proof.Gen.FfnMidIdeal.Points
public import proofs.«01_k».proof.Proof.Gen.FfnMidIdeal.Frame
public import Idealize.ShloMosaic.Lib.Pipeline.Value
public import Idealize.ShloMosaic.Lib.StableHlo.Run
public import Idealize.ShloMosaic.Lib.Claim
public import Idealize.ShloMosaic.Lib.Pipeline.ValueKit
public import Idealize.ShloMosaic.Lib.Pointwise
public import Idealize.ShloMosaic.Lib.WordCmp
public import Idealize.ShloMosaic.Lib.Pipeline.FrameTail
public import Idealize.ShloMosaic.Lib.LayoutAt
public import Idealize.ShloMosaic.Lib.Pipeline.ReadBack
public import proofs.«01_k».proof.Proof.FfnMidRef
public import proofs.«01_k».proof.Proof.FfnMidHalf

/- The feed-forward block without the final norm: what its stores leave, as functions. -/

@[expose] public section

set_option maxRecDepth 16384

noncomputable section

open Idealize.ShloMosaic Idealize.ShloMosaic.TcCoe Idealize.SL.Sem
open Idealize.ShloMosaic.Pipeline (Dat)
open scoped BigOperators

namespace Cert.FfnMidIdeal.Value

open Cert.FfnMidIdeal Cert.FfnMidIdeal.Gen

variable (m : (ℓ : Loc nD τ sig) → Buf (Elt Ideal) ℓ)

/-- What the body stores, the gated block being one function. -/
def blockF (X : Vec Ideal S512x1024 .f32) (A : Vec Ideal S512x2816 .bf16) (WD : Vec Ideal S2816x1024 .bf16) : FVec Ideal S512x1024 .f32 :=
  k0_pay2 X A WD

/-- The earliest store does not matter where a later one covers. -/
theorem canon_dropLast (L : List (View.Piece (Elt Ideal) S8x5632 .f32)) (y : S8x5632.Idx) (hc : ∃ p ∈ L.dropLast, y ∈ p.1.set) :
    View.canon L y = View.canon L.dropLast y := by
  induction L with
  | nil => rfl
  | cons p L ih =>
    cases L with
    | nil => simp at hc
    | cons q L =>
      rw [List.dropLast_cons₂] at hc ⊢
      by_cases hm : y ∈ p.1.set
      · obtain ⟨x, rfl⟩ := p.1.exists_idx_of_mem hm
        rw [show p.1.idx x = p.1.emb x from rfl, View.canon_cons_emb, View.canon_cons_emb]
      · rw [View.canon_cons_of_not_mem _ _ hm, View.canon_cons_of_not_mem _ _ hm]
        refine ih ?_
        obtain ⟨r, hr, hy⟩ := hc
        rcases List.mem_cons.mp hr with rfl | hr
        · exact absurd hy hm
        · exact ⟨r, hr, hy⟩

/-- The last eight rows of a column of the product. -/
def tailF (H : FVec Ideal S512x1024 .bf16) (W : FVec Ideal S1024x5632 .bf16) : S8x5632.Idx → Elt Ideal .f32 :=
  fun y => upF H W ⟨504 + (y 0).val, by have : (y 0).val < 8 := (y 0).isLt; omega⟩ ⟨(y 1).val, (y 1).isLt⟩

/-- The same, read off the body's last rows of 256 columns. -/
theorem tail_piece (H : FVec Ideal S512x1024 .bf16) (W : FVec Ideal S1024x5632 .bf16) (c : ℕ) (hW : ∀ a, (![0, c] : Fin 2 → ℕ) a + (![1024, 256] : Fin 2 → ℕ) a ≤ S1024x5632.size a)
    (x : S8x256.Idx) (y : S8x5632.Idx) (h0 : (y 0 : ℕ) = x 0) (h1 : (y 1 : ℕ) = c + x 1) :
    k0_pay13 H (ldW W c hW) x = tailF H W y := by
  obtain ⟨q, j, rfl⟩ : ∃ (q : Fin 8) (j : Fin 256), x = ix2 q j := ⟨x 0, x 1, by funext a; fin_cases a <;> rfl⟩
  have e := tail_at H W c hW q j ⟨(y 1).val, (y 1).isLt⟩ h1
  refine e.trans ?_
  unfold tailF
  congr 1
  apply Fin.ext
  simpa [ix2] using h0.symm

end Cert.FfnMidIdeal.Value

end
-- ==== Proof.FfnMidRefAt.lean ====
module

public import proofs.«01_k».proof.Proof.Gen.FfnMidRefIdeal
public import proofs.«01_k».proof.Proof.FfnMidRef
public import Idealize.ShloMosaic.Lib.Pointwise

/- The reference of the feed-forward block without the final norm, read at an index. -/

@[expose] public section

set_option maxRecDepth 16384

noncomputable section

open Idealize.ShloMosaic Idealize.ShloMosaic.TcCoe Idealize.SL.Sem
open scoped BigOperators

namespace Cert.FfnMidRefIdeal.Value

open Cert.FfnMidRefIdeal Cert.FfnMidRefIdeal.Gen

/-- A row over the root of its mean square, times the weight. -/
def nrm (f g : Fin 1024 → EReal) (k : Fin 1024) : EReal :=
  @HMul.hMul EReal EReal EReal instHMul (@HMul.hMul EReal EReal EReal instHMul (f k) (Ideal.rsqrt (Ideal.div (∑ q : Fin 1024, @HMul.hMul EReal EReal EReal instHMul (f q) (f q)) (Ideal.ofBits FTy.f32 0x44800000#32) + Ideal.ofBits FTy.f32 0x358637BD#32))) (g k)

/-- The row of position `s` of sequence `b`. -/
def row (b : Fin 8) (s : Fin 2048) : Fin 16384 := ⟨b.val * 2048 + s.val, by omega⟩

/-- The value `d` positions before, zero before the first. -/
def back (u : Fin 2048 → EReal) (d : ℕ) (s : Fin 2048) : EReal :=
  if h : d ≤ s.val then u ⟨s.val - d, by omega⟩ else 0

/-- The normalised rows at an index. -/
theorem normed_at (x : FVec Ideal S16384x1024 .f32) (g : FVec Ideal S1024 .f32) (b : Fin 8) (s : Fin 2048) (k : Fin 1024) :
    normed x g (ix3 b s k) = nrm (fun q => x (ix2 (row b s) q)) (fun q => g (ix1 q)) k := by
  unfold nrm row
  pointwise [normed]

/-- The upward projection at an index. -/
theorem up_at (x : FVec Ideal S16384x1024 .f32) (g : FVec Ideal S1024 .f32) (w : FVec Ideal S1024x5632 .f32) (b : Fin 8) (s : Fin 2048) (n : Fin 5632) :
    up x g w (ix3 b s n) = ∑ k : Fin 1024, @HMul.hMul EReal EReal EReal instHMul (normed x g (ix3 b s k)) (w (ix2 k n)) := by
  pointwise [up]

/-- The padded rows at an index. -/
theorem padded_at (x : FVec Ideal S16384x1024 .f32) (g : FVec Ideal S1024 .f32) (w : FVec Ideal S1024x5632 .f32) (b : Fin 8) (p : Fin 2050) (d : ℕ) (s : Fin 2048) (n : Fin 5632) (hp : p.val + d = s.val + 2) :
    padded x g w (ix3 b p n) = back (fun q => up x g w (ix3 b q n)) d s := by
  unfold back
  pointwise [padded]
  by_cases h : d ≤ s.val
  · rw [dif_neg (show ¬ p.val < 2 by omega), dif_pos h]
    congr 2
    apply Fin.ext
    show p.val - 2 = s.val - d
    omega
  · rw [dif_pos (show p.val < 2 by omega), dif_neg h]

/-- The convolution at an index. -/
theorem conv_at (x : FVec Ideal S16384x1024 .f32) (g : FVec Ideal S1024 .f32) (w : FVec Ideal S1024x5632 .f32) (cw : FVec Ideal S3x5632 .f32) (cb : FVec Ideal S5632 .f32) (b : Fin 8) (s : Fin 2048) (n : Fin 5632) :
    conv x g w cw cb (ix3 b s n)
      = @HMul.hMul EReal EReal EReal instHMul (cw (ix2 0 n)) (back (fun q => up x g w (ix3 b q n)) 2 s)
        + @HMul.hMul EReal EReal EReal instHMul (cw (ix2 1 n)) (back (fun q => up x g w (ix3 b q n)) 1 s)
        + @HMul.hMul EReal EReal EReal instHMul (cw (ix2 2 n)) (up x g w (ix3 b s n))
        + cb (ix1 n) := by
  have e0 : up x g w (ix3 b s n) = back (fun q => up x g w (ix3 b q n)) 0 s := by
    unfold back; rw [dif_pos (Nat.zero_le _)]; rfl
  rw [e0, ← padded_at x g w b ⟨s.val, by omega⟩ 2 s n rfl, ← padded_at x g w b ⟨1 + s.val, by omega⟩ 1 s n (by simp only []; omega), ← padded_at x g w b ⟨2 + s.val, by omega⟩ 0 s n (by simp only []; omega)]
  pointwise [conv]

/-- The gated channels at an index. -/
theorem act_at (x : FVec Ideal S16384x1024 .f32) (g : FVec Ideal S1024 .f32) (w : FVec Ideal S1024x5632 .f32) (cw : FVec Ideal S3x5632 .f32) (cb : FVec Ideal S5632 .f32) (b : Fin 8) (s : Fin 2048) (j : Fin 2816) :
    act x g w cw cb (ix3 b s j)
      = @HMul.hMul EReal EReal EReal instHMul (@HMul.hMul EReal EReal EReal instHMul (conv x g w cw cb (ix3 b s ⟨j.val, by omega⟩)) (Ideal.logistic (conv x g w cw cb (ix3 b s ⟨j.val, by omega⟩))))
          (conv x g w cw cb (ix3 b s ⟨2816 + j.val, by omega⟩)) := by
  pointwise [act, Ideal.logistic]

/-- The residual sum at an index. -/
theorem resid_at (x : FVec Ideal S16384x1024 .f32) (g : FVec Ideal S1024 .f32) (w : FVec Ideal S1024x5632 .f32) (cw : FVec Ideal S3x5632 .f32) (cb : FVec Ideal S5632 .f32) (wd : FVec Ideal S2816x1024 .f32) (b : Fin 8) (s : Fin 2048) (q : Fin 1024) :
    resid x g w cw cb wd (ix3 b s q) = x (ix2 (row b s) q) + ∑ j : Fin 2816, @HMul.hMul EReal EReal EReal instHMul (act x g w cw cb (ix3 b s j)) (wd (ix2 j q)) := by
  unfold row
  pointwise [resid]

/-- The result at an index. -/
theorem result_at (x : FVec Ideal S16384x1024 .f32) (g : FVec Ideal S1024 .f32) (w : FVec Ideal S1024x5632 .f32) (cw : FVec Ideal S3x5632 .f32) (cb : FVec Ideal S5632 .f32) (wd : FVec Ideal S2816x1024 .f32) (i : Fin 16384) (d : Fin 1024) :
    result x g w cw cb wd (ix2 i d) = resid x g w cw cb wd (ix3 ⟨i.val / 2048, by omega⟩ ⟨i.val % 2048, by omega⟩ d) := by
  pointwise [result]

end Cert.FfnMidRefIdeal.Value

end
-- ==== Proof.FfnMidPoint.lean ====
module

public import proofs.«01_k».proof.Proof.Gen.FfnMidIdeal
public import proofs.«01_k».proof.Proof.Gen.FfnMidIdeal.Skeleton
public import proofs.«01_k».proof.Proof.Gen.FfnMidIdeal.Launch
public import proofs.«01_k».proof.Proof.Gen.FfnMidIdeal.Points
public import proofs.«01_k».proof.Proof.Gen.FfnMidIdeal.Frame
public import Idealize.ShloMosaic.Lib.Pipeline.Value
public import Idealize.ShloMosaic.Lib.StableHlo.Run
public import Idealize.ShloMosaic.Lib.Claim
public import Idealize.ShloMosaic.Lib.Pipeline.ValueKit
public import Idealize.ShloMosaic.Lib.Pointwise
public import Idealize.ShloMosaic.Lib.WordCmp
public import Idealize.ShloMosaic.Lib.Pipeline.FrameTail
public import Idealize.ShloMosaic.Lib.LayoutAt
public import Idealize.ShloMosaic.Lib.Pipeline.ReadBack
public import proofs.«01_k».proof.Proof.FfnMidRef
public import proofs.«01_k».proof.Proof.FfnMidStores
public import proofs.«01_k».proof.Proof.FfnMidRefAt

/- The feed-forward block without the final norm at an index: the block functions against the reference. -/

@[expose] public section

set_option maxRecDepth 16384

noncomputable section

open Idealize.ShloMosaic Idealize.ShloMosaic.TcCoe Idealize.SL.Sem
open Idealize.ShloMosaic.Pipeline (Dat)
open scoped BigOperators

namespace Cert.FfnMidIdeal.Value

open Cert.FfnMidIdeal Cert.FfnMidIdeal.Gen

variable (m : (ℓ : Loc nD τ sig) → Buf (Elt Ideal) ℓ)

/-- Every window's block index at a grid point. -/
theorem idx_val : ∀ t : Fin cfg0.N, win0_0.index t = ![t.val, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![t.val, 0] :=
  (by decide +kernel : ∀ t : Fin grid0.N, _)

/-- The block of `x`. -/
theorem in_x (c : Dev nD) (t : Fin cfg0.N) (r : Fin 512) (k : Fin 1024) (i : Fin 16384) (hi : (i : ℕ) = 512 * t.val + r) :
    iblk m c 0 t (ix2 r k) = m ((c : Thread nD τ).loc main_arg0) (ix2 i k) := by
  blk_point [iblk, V, idx_val t]

/-- The first norm's weight. -/
theorem in_g (c : Dev nD) (t : Fin cfg0.N) (k : Fin 1024) :
    iblk m c 1 t (ix2 0 k) = m ((c : Thread nD τ).loc main_arg1) (ix1 k) := by
  blk_point [iblk, V, idx_val t]

/-- The upward weight. -/
theorem in_w (c : Dev nD) (t : Fin cfg0.N) (k : Fin 1024) (n : Fin 5632) :
    iblk m c 2 t (ix2 k n) = m ((c : Thread nD τ).loc main_arg2) (ix2 k n) := by
  blk_point [iblk, V, idx_val t]

/-- The convolution's weights. -/
theorem in_cw (c : Dev nD) (t : Fin cfg0.N) (a : Fin 3) (n : Fin 5632) :
    iblk m c 3 t (ix2 a n) = m ((c : Thread nD τ).loc main_arg3) (ix2 a n) := by
  blk_point [iblk, V, idx_val t]

/-- The convolution's bias. -/
theorem in_cb (c : Dev nD) (t : Fin cfg0.N) (n : Fin 5632) :
    iblk m c 4 t (ix2 0 n) = m ((c : Thread nD τ).loc main_arg4) (ix1 n) := by
  blk_point [iblk, V, idx_val t]

/-- The downward weight. -/
theorem in_wd (c : Dev nD) (t : Fin cfg0.N) (j : Fin 2816) (q : Fin 1024) :
    iblk m c 5 t (ix2 j q) = m ((c : Thread nD τ).loc main_arg5) (ix2 j q) := by
  blk_point [iblk, V, idx_val t]

/-- The block's normalised rows at an index. -/
theorem pay3_at (X : Vec Ideal S512x1024 .f32) (G : Vec Ideal S1x1024 .f32) (r : Fin 512) (k : Fin 1024) :
    k0_pay4 X G (ix2 r k) = Cert.FfnMidRefIdeal.Value.nrm (fun q => X (ix2 r q)) (fun q => G (ix2 0 q)) k := by
  unfold Cert.FfnMidRefIdeal.Value.nrm
  pointwise [k0_pay4]

/-- What the body stores, at an index. -/
theorem blockF_at (X : Vec Ideal S512x1024 .f32) (A : Vec Ideal S512x2816 .bf16) (WD : Vec Ideal S2816x1024 .bf16) (r : Fin 512) (d : Fin 1024) :
    blockF X A WD (ix2 r d)
      = X (ix2 r d) + ∑ j : Fin 2816, @HMul.hMul EReal EReal EReal instHMul (A (ix2 r j)) (WD (ix2 j d)) := by
  pointwise [blockF, k0_pay2]

/-- The product of the block is the reference's. -/
theorem up_eq (c : Dev nD) (t : Fin cfg0.N) (r : Fin 512) (n : Fin 5632) (b : Fin 8) (s : Fin 2048) (h : b.val * 2048 + s.val = 512 * t.val + r.val) :
    upF (k0_pay4 (iblk m c 0 t) (iblk m c 1 t)) (iblk m c 2 t) r n = Cert.FfnMidRefIdeal.Value.up (m ((c : Thread nD τ).loc main_arg0)) (m ((c : Thread nD τ).loc main_arg1)) (m ((c : Thread nD τ).loc main_arg2)) (ix3 b s n) := by
  rw [Cert.FfnMidRefIdeal.Value.up_at]
  unfold upF
  refine Finset.sum_congr rfl fun k _ => ?_
  rw [pay3_at, Cert.FfnMidRefIdeal.Value.normed_at, in_w]
  simp only [in_x m c t r _ (Cert.FfnMidRefIdeal.Value.row b s) h, in_g]

/-- One row before, in the block and in the reference. -/
theorem sh1_back (f : Fin 512 → EReal) (g : Fin 8 → EReal) (u : Fin 2048 → EReal) (a : Fin 2048) (ha : a.val + 512 ≤ 2048)
    (hu : ∀ q : Fin 512, f q = u ⟨a.val + q.val, by omega⟩) (h7 : g 7 = Cert.FfnMidRefIdeal.Value.back u 1 a) (r : Fin 512) (s : Fin 2048) (hs : s.val = a.val + r.val) :
    sh1 f g r = Cert.FfnMidRefIdeal.Value.back u 1 s := by
  unfold sh1
  by_cases h : 1 ≤ r.val
  · rw [dif_pos h, hu]
    unfold Cert.FfnMidRefIdeal.Value.back
    rw [dif_pos (by omega)]
    congr 1
    apply Fin.ext
    show a.val + (r.val - 1) = s.val - 1
    omega
  · rw [dif_neg h, h7, show s = a from Fin.ext (by omega)]

/-- Two rows before, in the block and in the reference. -/
theorem sh2_back (f : Fin 512 → EReal) (g : Fin 8 → EReal) (u : Fin 2048 → EReal) (a : Fin 2048) (ha : a.val + 512 ≤ 2048)
    (hu : ∀ q : Fin 512, f q = u ⟨a.val + q.val, by omega⟩) (h6 : g 6 = Cert.FfnMidRefIdeal.Value.back u 2 a) (h7 : g 7 = Cert.FfnMidRefIdeal.Value.back u 1 a) (r : Fin 512) (s : Fin 2048) (hs : s.val = a.val + r.val) :
    sh2 f g r = Cert.FfnMidRefIdeal.Value.back u 2 s := by
  unfold sh2
  by_cases h : 2 ≤ r.val
  · rw [dif_pos h, hu]
    unfold Cert.FfnMidRefIdeal.Value.back
    rw [dif_pos (by omega)]
    congr 1
    apply Fin.ext
    show a.val + (r.val - 2) = s.val - 2
    omega
  · rw [dif_neg h]
    by_cases h0 : r.val = 0
    · rw [show (⟨r.val + 6, by omega⟩ : Fin 8) = 6 from Fin.ext (by simp [h0]), h6, show s = a from Fin.ext (by omega)]
    · rw [show (⟨r.val + 6, by omega⟩ : Fin 8) = 7 from Fin.ext (by show r.val + 6 = 7; omega), h7]
      unfold Cert.FfnMidRefIdeal.Value.back
      by_cases h1 : 1 ≤ a.val
      · rw [dif_pos h1, dif_pos (by omega)]
        congr 1
        apply Fin.ext
        show a.val - 1 = s.val - 2
        omega
      · rw [dif_neg h1, dif_neg (by omega)]

/-- The convolution of the block is the reference's, if the carried rows are the reference's. -/
theorem cv_eq (c : Dev nD) (t : Fin cfg0.N) (CR : FVec Ideal S8x5632 .f32) (b : Fin 8) (a : Fin 2048) (ha : a.val + 512 ≤ 2048) (hb : b.val * 2048 + a.val = 512 * t.val)
    (h6 : ∀ n : Fin 5632, CR (ix2 6 n) = Cert.FfnMidRefIdeal.Value.back (fun q => Cert.FfnMidRefIdeal.Value.up (m ((c : Thread nD τ).loc main_arg0)) (m ((c : Thread nD τ).loc main_arg1)) (m ((c : Thread nD τ).loc main_arg2)) (ix3 b q n)) 2 a)
    (h7 : ∀ n : Fin 5632, CR (ix2 7 n) = Cert.FfnMidRefIdeal.Value.back (fun q => Cert.FfnMidRefIdeal.Value.up (m ((c : Thread nD τ).loc main_arg0)) (m ((c : Thread nD τ).loc main_arg1)) (m ((c : Thread nD τ).loc main_arg2)) (ix3 b q n)) 1 a)
    (r : Fin 512) (s : Fin 2048) (hs : s.val = a.val + r.val) (n : Fin 5632) :
    cvF (k0_pay4 (iblk m c 0 t) (iblk m c 1 t)) (iblk m c 2 t) (iblk m c 3 t) (iblk m c 4 t) CR r n = Cert.FfnMidRefIdeal.Value.conv (m ((c : Thread nD τ).loc main_arg0)) (m ((c : Thread nD τ).loc main_arg1)) (m ((c : Thread nD τ).loc main_arg2)) (m ((c : Thread nD τ).loc main_arg3)) (m ((c : Thread nD τ).loc main_arg4)) (ix3 b s n) := by
  rw [Cert.FfnMidRefIdeal.Value.conv_at]
  unfold cvF
  have hu : ∀ q : Fin 512, upF (k0_pay4 (iblk m c 0 t) (iblk m c 1 t)) (iblk m c 2 t) q n = Cert.FfnMidRefIdeal.Value.up (m ((c : Thread nD τ).loc main_arg0)) (m ((c : Thread nD τ).loc main_arg1)) (m ((c : Thread nD τ).loc main_arg2)) (ix3 b ⟨a.val + q.val, by omega⟩ n) :=
    fun q => up_eq m c t q n b ⟨a.val + q.val, by omega⟩ (by simp only []; omega)
  rw [sh1_back _ _ (fun q => Cert.FfnMidRefIdeal.Value.up (m ((c : Thread nD τ).loc main_arg0)) (m ((c : Thread nD τ).loc main_arg1)) (m ((c : Thread nD τ).loc main_arg2)) (ix3 b q n)) a ha hu (h7 n) r s hs,
    sh2_back _ _ (fun q => Cert.FfnMidRefIdeal.Value.up (m ((c : Thread nD τ).loc main_arg0)) (m ((c : Thread nD τ).loc main_arg1)) (m ((c : Thread nD τ).loc main_arg2)) (ix3 b q n)) a ha hu (h6 n) (h7 n) r s hs,
    up_eq m c t r n b s (by omega), in_cw, in_cw, in_cw, in_cb]
  congr 1
  rw [add_comm, add_comm (@HMul.hMul EReal EReal EReal instHMul _ (Cert.FfnMidRefIdeal.Value.up (m ((c : Thread nD τ).loc main_arg0)) (m ((c : Thread nD τ).loc main_arg1)) (m ((c : Thread nD τ).loc main_arg2)) (ix3 b s n))) _, ← add_assoc]

/-- The gated channels of the block at an index. -/
theorem actF_at (H : FVec Ideal S512x1024 .bf16) (W : FVec Ideal S1024x5632 .bf16) (CW : FVec Ideal S3x5632 .f32) (CB : FVec Ideal S1x5632 .f32) (CR : FVec Ideal S8x5632 .f32) (r : Fin 512) (j : Fin 2816) :
    actF H W CW CB CR (ix2 r j)
      = @HMul.hMul EReal EReal EReal instHMul (@HMul.hMul EReal EReal EReal instHMul (cvF H W CW CB CR r ⟨j.val, by omega⟩) (Ideal.logistic (cvF H W CW CB CR r ⟨j.val, by omega⟩))) (cvF H W CW CB CR r ⟨2816 + j.val, by omega⟩) := by
  have e2 : (⟨2816 + j.val, by omega⟩ : Fin 5632) = ⟨j.val + 2816, by omega⟩ := Fin.ext (Nat.add_comm _ _)
  rw [e2]
  rfl

/-- The gated channels of the block are the reference's, if the carried rows are the reference's. -/
theorem act_eq (c : Dev nD) (t : Fin cfg0.N) (CR : FVec Ideal S8x5632 .f32) (b : Fin 8) (a : Fin 2048) (ha : a.val + 512 ≤ 2048) (hb : b.val * 2048 + a.val = 512 * t.val)
    (h6 : ∀ n : Fin 5632, CR (ix2 6 n) = Cert.FfnMidRefIdeal.Value.back (fun q => Cert.FfnMidRefIdeal.Value.up (m ((c : Thread nD τ).loc main_arg0)) (m ((c : Thread nD τ).loc main_arg1)) (m ((c : Thread nD τ).loc main_arg2)) (ix3 b q n)) 2 a)
    (h7 : ∀ n : Fin 5632, CR (ix2 7 n) = Cert.FfnMidRefIdeal.Value.back (fun q => Cert.FfnMidRefIdeal.Value.up (m ((c : Thread nD τ).loc main_arg0)) (m ((c : Thread nD τ).loc main_arg1)) (m ((c : Thread nD τ).loc main_arg2)) (ix3 b q n)) 1 a)
    (r : Fin 512) (s : Fin 2048) (hs : s.val = a.val + r.val) (j : Fin 2816) :
    actF (k0_pay4 (iblk m c 0 t) (iblk m c 1 t)) (iblk m c 2 t) (iblk m c 3 t) (iblk m c 4 t) CR (ix2 r j) = Cert.FfnMidRefIdeal.Value.act (m ((c : Thread nD τ).loc main_arg0)) (m ((c : Thread nD τ).loc main_arg1)) (m ((c : Thread nD τ).loc main_arg2)) (m ((c : Thread nD τ).loc main_arg3)) (m ((c : Thread nD τ).loc main_arg4)) (ix3 b s j) := by
  rw [actF_at, Cert.FfnMidRefIdeal.Value.act_at, cv_eq m c t CR b a ha hb h6 h7 r s hs ⟨j.val, by omega⟩, cv_eq m c t CR b a ha hb h6 h7 r s hs ⟨2816 + j.val, by omega⟩]

/-- What is stored is the reference, if the carried rows are the reference's. -/
theorem block_eq (c : Dev nD) (t : Fin cfg0.N) (CR : FVec Ideal S8x5632 .f32) (b : Fin 8) (a : Fin 2048) (ha : a.val + 512 ≤ 2048) (hb : b.val * 2048 + a.val = 512 * t.val)
    (h6 : ∀ n : Fin 5632, CR (ix2 6 n) = Cert.FfnMidRefIdeal.Value.back (fun q => Cert.FfnMidRefIdeal.Value.up (m ((c : Thread nD τ).loc main_arg0)) (m ((c : Thread nD τ).loc main_arg1)) (m ((c : Thread nD τ).loc main_arg2)) (ix3 b q n)) 2 a)
    (h7 : ∀ n : Fin 5632, CR (ix2 7 n) = Cert.FfnMidRefIdeal.Value.back (fun q => Cert.FfnMidRefIdeal.Value.up (m ((c : Thread nD τ).loc main_arg0)) (m ((c : Thread nD τ).loc main_arg1)) (m ((c : Thread nD τ).loc main_arg2)) (ix3 b q n)) 1 a)
    (r : Fin 512) (d : Fin 1024) (i : Fin 16384) (hi : i.val = 512 * t.val + r.val) :
    blockF (iblk m c 0 t) (actF (k0_pay4 (iblk m c 0 t) (iblk m c 1 t)) (iblk m c 2 t) (iblk m c 3 t) (iblk m c 4 t) CR) (iblk m c 5 t) (ix2 r d)
      = Cert.FfnMidRefIdeal.Value.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 i d) := by
  rw [blockF_at, Cert.FfnMidRefIdeal.Value.result_at]
  have es : (⟨i.val % 2048, by omega⟩ : Fin 2048) = ⟨a.val + r.val, by omega⟩ := Fin.ext (by show i.val % 2048 = a.val + r.val; omega)
  have eb : (⟨i.val / 2048, by omega⟩ : Fin 8) = b := Fin.ext (by show i.val / 2048 = b.val; omega)
  rw [es, eb]
  have er : Cert.FfnMidRefIdeal.Value.row b ⟨a.val + r.val, by omega⟩ = i := Fin.ext (by show b.val * 2048 + (a.val + r.val) = i.val; omega)
  rw [Cert.FfnMidRefIdeal.Value.resid_at, er, in_x m c t r d i hi]
  refine congrArg _ (Finset.sum_congr rfl fun j _ => ?_)
  rw [in_wd, act_eq m c t CR b a ha hb h6 h7 r ⟨a.val + r.val, by omega⟩ rfl j]

end Cert.FfnMidIdeal.Value

end
-- ==== Proof.FfnMidOutA.lean ====
module

public import proofs.«01_k».proof.Proof.Gen.FfnMidIdeal
public import proofs.«01_k».proof.Proof.Gen.FfnMidIdeal.Skeleton
public import proofs.«01_k».proof.Proof.Gen.FfnMidIdeal.Launch
public import proofs.«01_k».proof.Proof.Gen.FfnMidIdeal.Points
public import proofs.«01_k».proof.Proof.Gen.FfnMidIdeal.Frame
public import Idealize.ShloMosaic.Lib.Pipeline.Value
public import Idealize.ShloMosaic.Lib.StableHlo.Run
public import Idealize.ShloMosaic.Lib.Claim
public import Idealize.ShloMosaic.Lib.Pipeline.ValueKit
public import Idealize.ShloMosaic.Lib.Pointwise
public import Idealize.ShloMosaic.Lib.WordCmp
public import Idealize.ShloMosaic.Lib.Pipeline.FrameTail
public import Idealize.ShloMosaic.Lib.LayoutAt
public import Idealize.ShloMosaic.Lib.Pipeline.ReadBack
public import proofs.«01_k».proof.Proof.FfnMidRef
public import proofs.«01_k».proof.Proof.FfnMidStores

/- The feed-forward block without the final norm: the block a grid point stores. -/

@[expose] public section

set_option maxRecDepth 16384

noncomputable section

open Idealize.ShloMosaic Idealize.ShloMosaic.TcCoe Idealize.SL.Sem
open Idealize.ShloMosaic.Pipeline (Dat)
open scoped BigOperators

namespace Cert.FfnMidIdeal.Value

open Cert.FfnMidIdeal Cert.FfnMidIdeal.Gen

variable (m : (ℓ : Loc nD τ sig) → Buf (Elt Ideal) ℓ)

set_option maxHeartbeats 8000000

/-- The stored block, where a sequence begins. -/
theorem out_A (c : Dev nD) (t : Fin cfg0.N) (h0 : t.val % 4 = 0) (X : Vec Ideal S512x1024 .f32) (G : Vec Ideal S1x1024 .f32) (W : Vec Ideal S1024x5632 .bf16) (CW : Vec Ideal S3x5632 .f32) (CB : Vec Ideal S1x5632 .f32) (WD : Vec Ideal S2816x1024 .bf16) (FG : Vec Ideal S1x1024 .f32) (z : S512x1024.Idx) :
    out0_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) X G W CW CB WD FG z
      = blockF X (actF (k0_pay4 X G) W CW CB k0_pay3) WD z := by
  frame_out
  simp only [↓skip_cols, ↓fill_cols, ↓read_slot1, ↓read_slot2, ↓read_unread_whole, Nat.reduceAdd, Nat.reduceLeDiff, true_or, or_true, or_false, false_or]
  rw [read_act _ _ _ (actF (k0_pay4 X G) W CW CB k0_pay3) ?_]
  · rfl
  intro y
  clear h0 z
  canon_tiles x h using (View.cover_of_tiledBy _ ![512, 256] (by sl_kernel_rfl) y)
  · exact gate_at (k0_pay4 X G) W CW CB k0_pay3 2560 inb_S1024x5632_S1024x256_0_2560 inb_S3x5632_S3x256_0_2560 inb_S1x5632_S1x256_0_2560 inb_S8x5632_S8x256_0_2560 5376 inb_S1024x5632_S1024x256_0_5376 inb_S3x5632_S3x256_0_5376 inb_S1x5632_S1x256_0_5376 inb_S8x5632_S8x256_0_5376 x y (by omega) (by omega) rfl
  · exact gate_at (k0_pay4 X G) W CW CB k0_pay3 2304 inb_S1024x5632_S1024x256_0_2304 inb_S3x5632_S3x256_0_2304 inb_S1x5632_S1x256_0_2304 inb_S8x5632_S8x256_0_2304 5120 inb_S1024x5632_S1024x256_0_5120 inb_S3x5632_S3x256_0_5120 inb_S1x5632_S1x256_0_5120 inb_S8x5632_S8x256_0_5120 x y (by omega) (by omega) rfl
  · exact gate_at (k0_pay4 X G) W CW CB k0_pay3 2048 inb_S1024x5632_S1024x256_0_2048 inb_S3x5632_S3x256_0_2048 inb_S1x5632_S1x256_0_2048 inb_S8x5632_S8x256_0_2048 4864 inb_S1024x5632_S1024x256_0_4864 inb_S3x5632_S3x256_0_4864 inb_S1x5632_S1x256_0_4864 inb_S8x5632_S8x256_0_4864 x y (by omega) (by omega) rfl
  · exact gate_at (k0_pay4 X G) W CW CB k0_pay3 1792 inb_S1024x5632_S1024x256_0_1792 inb_S3x5632_S3x256_0_1792 inb_S1x5632_S1x256_0_1792 inb_S8x5632_S8x256_0_1792 4608 inb_S1024x5632_S1024x256_0_4608 inb_S3x5632_S3x256_0_4608 inb_S1x5632_S1x256_0_4608 inb_S8x5632_S8x256_0_4608 x y (by omega) (by omega) rfl
  · exact gate_at (k0_pay4 X G) W CW CB k0_pay3 1536 inb_S1024x5632_S1024x256_0_1536 inb_S3x5632_S3x256_0_1536 inb_S1x5632_S1x256_0_1536 inb_S8x5632_S8x256_0_1536 4352 inb_S1024x5632_S1024x256_0_4352 inb_S3x5632_S3x256_0_4352 inb_S1x5632_S1x256_0_4352 inb_S8x5632_S8x256_0_4352 x y (by omega) (by omega) rfl
  · exact gate_at (k0_pay4 X G) W CW CB k0_pay3 1280 inb_S1024x5632_S1024x256_0_1280 inb_S3x5632_S3x256_0_1280 inb_S1x5632_S1x256_0_1280 inb_S8x5632_S8x256_0_1280 4096 inb_S1024x5632_S1024x256_0_4096 inb_S3x5632_S3x256_0_4096 inb_S1x5632_S1x256_0_4096 inb_S8x5632_S8x256_0_4096 x y (by omega) (by omega) rfl
  · exact gate_at (k0_pay4 X G) W CW CB k0_pay3 1024 inb_S1024x5632_S1024x256_0_1024 inb_S3x5632_S3x256_0_1024 inb_S1x5632_S1x256_0_1024 inb_S8x5632_S8x256_0_1024 3840 inb_S1024x5632_S1024x256_0_3840 inb_S3x5632_S3x256_0_3840 inb_S1x5632_S1x256_0_3840 inb_S8x5632_S8x256_0_3840 x y (by omega) (by omega) rfl
  · exact gate_at (k0_pay4 X G) W CW CB k0_pay3 768 inb_S1024x5632_S1024x256_0_768 inb_S3x5632_S3x256_0_768 inb_S1x5632_S1x256_0_768 inb_S8x5632_S8x256_0_768 3584 inb_S1024x5632_S1024x256_0_3584 inb_S3x5632_S3x256_0_3584 inb_S1x5632_S1x256_0_3584 inb_S8x5632_S8x256_0_3584 x y (by omega) (by omega) rfl
  · exact gate_at (k0_pay4 X G) W CW CB k0_pay3 512 inb_S1024x5632_S1024x256_0_512 inb_S3x5632_S3x256_0_512 inb_S1x5632_S1x256_0_512 inb_S8x5632_S8x256_0_512 3328 inb_S1024x5632_S1024x256_0_3328 inb_S3x5632_S3x256_0_3328 inb_S1x5632_S1x256_0_3328 inb_S8x5632_S8x256_0_3328 x y (by omega) (by omega) rfl
  · exact gate_at (k0_pay4 X G) W CW CB k0_pay3 256 inb_S1024x5632_S1024x256_0_256 inb_S3x5632_S3x256_0_256 inb_S1x5632_S1x256_0_256 inb_S8x5632_S8x256_0_256 3072 inb_S1024x5632_S1024x256_0_3072 inb_S3x5632_S3x256_0_3072 inb_S1x5632_S1x256_0_3072 inb_S8x5632_S8x256_0_3072 x y (by omega) (by omega) rfl
  · exact gate_at (k0_pay4 X G) W CW CB k0_pay3 0 inb_S1024x5632_S1024x256_0_0 inb_S3x5632_S3x256_0_0 inb_S1x5632_S1x256_0_0 inb_S8x5632_S8x256_0_0 2816 inb_S1024x5632_S1024x256_0_2816 inb_S3x5632_S3x256_0_2816 inb_S1x5632_S1x256_0_2816 inb_S8x5632_S8x256_0_2816 x y (by omega) (by omega) rfl

end Cert.FfnMidIdeal.Value

end
-- ==== Proof.FfnMidOutB.lean ====
module

public import proofs.«01_k».proof.Proof.Gen.FfnMidIdeal
public import proofs.«01_k».proof.Proof.Gen.FfnMidIdeal.Skeleton
public import proofs.«01_k».proof.Proof.Gen.FfnMidIdeal.Launch
public import proofs.«01_k».proof.Proof.Gen.FfnMidIdeal.Points
public import proofs.«01_k».proof.Proof.Gen.FfnMidIdeal.Frame
public import Idealize.ShloMosaic.Lib.Pipeline.Value
public import Idealize.ShloMosaic.Lib.StableHlo.Run
public import Idealize.ShloMosaic.Lib.Claim
public import Idealize.ShloMosaic.Lib.Pipeline.ValueKit
public import Idealize.ShloMosaic.Lib.Pointwise
public import Idealize.ShloMosaic.Lib.WordCmp
public import Idealize.ShloMosaic.Lib.Pipeline.FrameTail
public import Idealize.ShloMosaic.Lib.LayoutAt
public import Idealize.ShloMosaic.Lib.Pipeline.ReadBack
public import proofs.«01_k».proof.Proof.FfnMidRef
public import proofs.«01_k».proof.Proof.FfnMidStores

/- The feed-forward block without the final norm: the block a grid point stores. -/

@[expose] public section

set_option maxRecDepth 16384

noncomputable section

open Idealize.ShloMosaic Idealize.ShloMosaic.TcCoe Idealize.SL.Sem
open Idealize.ShloMosaic.Pipeline (Dat)
open scoped BigOperators

namespace Cert.FfnMidIdeal.Value

open Cert.FfnMidIdeal Cert.FfnMidIdeal.Gen

variable (m : (ℓ : Loc nD τ sig) → Buf (Elt Ideal) ℓ)

set_option maxHeartbeats 8000000

/-- The stored block, where a sequence goes on. -/
theorem out_B (c : Dev nD) (t : Fin cfg0.N) (h0 : ¬t.val % 4 = 0) (X : Vec Ideal S512x1024 .f32) (G : Vec Ideal S1x1024 .f32) (W : Vec Ideal S1024x5632 .bf16) (CW : Vec Ideal S3x5632 .f32) (CB : Vec Ideal S1x5632 .f32) (WD : Vec Ideal S2816x1024 .bf16) (FG : Vec Ideal S1x1024 .f32) (CR : Vec Ideal S8x5632 .f32) (z : S512x1024.Idx) :
    out0_B_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) X G W CW CB WD FG CR z
      = blockF X (actF (k0_pay4 X G) W CW CB CR) WD z := by
  frame_out
  simp only [↓skip_cols, ↓fill_cols, ↓read_slot1, ↓read_slot2, ↓read_unread_whole, Nat.reduceAdd, Nat.reduceLeDiff, true_or, or_true, or_false, false_or]
  rw [read_act _ _ _ (actF (k0_pay4 X G) W CW CB CR) ?_]
  · rfl
  intro y
  clear h0 z
  canon_tiles x h using (View.cover_of_tiledBy _ ![512, 256] (by sl_kernel_rfl) y)
  · exact gate_at (k0_pay4 X G) W CW CB CR 2560 inb_S1024x5632_S1024x256_0_2560 inb_S3x5632_S3x256_0_2560 inb_S1x5632_S1x256_0_2560 inb_S8x5632_S8x256_0_2560 5376 inb_S1024x5632_S1024x256_0_5376 inb_S3x5632_S3x256_0_5376 inb_S1x5632_S1x256_0_5376 inb_S8x5632_S8x256_0_5376 x y (by omega) (by omega) rfl
  · exact gate_at (k0_pay4 X G) W CW CB CR 2304 inb_S1024x5632_S1024x256_0_2304 inb_S3x5632_S3x256_0_2304 inb_S1x5632_S1x256_0_2304 inb_S8x5632_S8x256_0_2304 5120 inb_S1024x5632_S1024x256_0_5120 inb_S3x5632_S3x256_0_5120 inb_S1x5632_S1x256_0_5120 inb_S8x5632_S8x256_0_5120 x y (by omega) (by omega) rfl
  · exact gate_at (k0_pay4 X G) W CW CB CR 2048 inb_S1024x5632_S1024x256_0_2048 inb_S3x5632_S3x256_0_2048 inb_S1x5632_S1x256_0_2048 inb_S8x5632_S8x256_0_2048 4864 inb_S1024x5632_S1024x256_0_4864 inb_S3x5632_S3x256_0_4864 inb_S1x5632_S1x256_0_4864 inb_S8x5632_S8x256_0_4864 x y (by omega) (by omega) rfl
  · exact gate_at (k0_pay4 X G) W CW CB CR 1792 inb_S1024x5632_S1024x256_0_1792 inb_S3x5632_S3x256_0_1792 inb_S1x5632_S1x256_0_1792 inb_S8x5632_S8x256_0_1792 4608 inb_S1024x5632_S1024x256_0_4608 inb_S3x5632_S3x256_0_4608 inb_S1x5632_S1x256_0_4608 inb_S8x5632_S8x256_0_4608 x y (by omega) (by omega) rfl
  · exact gate_at (k0_pay4 X G) W CW CB CR 1536 inb_S1024x5632_S1024x256_0_1536 inb_S3x5632_S3x256_0_1536 inb_S1x5632_S1x256_0_1536 inb_S8x5632_S8x256_0_1536 4352 inb_S1024x5632_S1024x256_0_4352 inb_S3x5632_S3x256_0_4352 inb_S1x5632_S1x256_0_4352 inb_S8x5632_S8x256_0_4352 x y (by omega) (by omega) rfl
  · exact gate_at (k0_pay4 X G) W CW CB CR 1280 inb_S1024x5632_S1024x256_0_1280 inb_S3x5632_S3x256_0_1280 inb_S1x5632_S1x256_0_1280 inb_S8x5632_S8x256_0_1280 4096 inb_S1024x5632_S1024x256_0_4096 inb_S3x5632_S3x256_0_4096 inb_S1x5632_S1x256_0_4096 inb_S8x5632_S8x256_0_4096 x y (by omega) (by omega) rfl
  · exact gate_at (k0_pay4 X G) W CW CB CR 1024 inb_S1024x5632_S1024x256_0_1024 inb_S3x5632_S3x256_0_1024 inb_S1x5632_S1x256_0_1024 inb_S8x5632_S8x256_0_1024 3840 inb_S1024x5632_S1024x256_0_3840 inb_S3x5632_S3x256_0_3840 inb_S1x5632_S1x256_0_3840 inb_S8x5632_S8x256_0_3840 x y (by omega) (by omega) rfl
  · exact gate_at (k0_pay4 X G) W CW CB CR 768 inb_S1024x5632_S1024x256_0_768 inb_S3x5632_S3x256_0_768 inb_S1x5632_S1x256_0_768 inb_S8x5632_S8x256_0_768 3584 inb_S1024x5632_S1024x256_0_3584 inb_S3x5632_S3x256_0_3584 inb_S1x5632_S1x256_0_3584 inb_S8x5632_S8x256_0_3584 x y (by omega) (by omega) rfl
  · exact gate_at (k0_pay4 X G) W CW CB CR 512 inb_S1024x5632_S1024x256_0_512 inb_S3x5632_S3x256_0_512 inb_S1x5632_S1x256_0_512 inb_S8x5632_S8x256_0_512 3328 inb_S1024x5632_S1024x256_0_3328 inb_S3x5632_S3x256_0_3328 inb_S1x5632_S1x256_0_3328 inb_S8x5632_S8x256_0_3328 x y (by omega) (by omega) rfl
  · exact gate_at (k0_pay4 X G) W CW CB CR 256 inb_S1024x5632_S1024x256_0_256 inb_S3x5632_S3x256_0_256 inb_S1x5632_S1x256_0_256 inb_S8x5632_S8x256_0_256 3072 inb_S1024x5632_S1024x256_0_3072 inb_S3x5632_S3x256_0_3072 inb_S1x5632_S1x256_0_3072 inb_S8x5632_S8x256_0_3072 x y (by omega) (by omega) rfl
  · exact gate_at (k0_pay4 X G) W CW CB CR 0 inb_S1024x5632_S1024x256_0_0 inb_S3x5632_S3x256_0_0 inb_S1x5632_S1x256_0_0 inb_S8x5632_S8x256_0_0 2816 inb_S1024x5632_S1024x256_0_2816 inb_S3x5632_S3x256_0_2816 inb_S1x5632_S1x256_0_2816 inb_S8x5632_S8x256_0_2816 x y (by omega) (by omega) rfl

end Cert.FfnMidIdeal.Value

end
-- ==== Proof.FfnMidCarryA.lean ====
module

public import proofs.«01_k».proof.Proof.Gen.FfnMidIdeal
public import proofs.«01_k».proof.Proof.Gen.FfnMidIdeal.Skeleton
public import proofs.«01_k».proof.Proof.Gen.FfnMidIdeal.Launch
public import proofs.«01_k».proof.Proof.Gen.FfnMidIdeal.Points
public import proofs.«01_k».proof.Proof.Gen.FfnMidIdeal.Frame
public import Idealize.ShloMosaic.Lib.Pipeline.Value
public import Idealize.ShloMosaic.Lib.StableHlo.Run
public import Idealize.ShloMosaic.Lib.Claim
public import Idealize.ShloMosaic.Lib.Pipeline.ValueKit
public import Idealize.ShloMosaic.Lib.Pointwise
public import Idealize.ShloMosaic.Lib.WordCmp
public import Idealize.ShloMosaic.Lib.Pipeline.FrameTail
public import Idealize.ShloMosaic.Lib.LayoutAt
public import Idealize.ShloMosaic.Lib.Pipeline.ReadBack
public import proofs.«01_k».proof.Proof.FfnMidRef
public import proofs.«01_k».proof.Proof.FfnMidStores

/- The feed-forward block without the final norm: the rows a grid point carries on. -/

@[expose] public section

set_option maxRecDepth 16384

noncomputable section

open Idealize.ShloMosaic Idealize.ShloMosaic.TcCoe Idealize.SL.Sem
open Idealize.ShloMosaic.Pipeline (Dat)
open scoped BigOperators

namespace Cert.FfnMidIdeal.Value

open Cert.FfnMidIdeal Cert.FfnMidIdeal.Gen

variable (m : (ℓ : Loc nD τ sig) → Buf (Elt Ideal) ℓ)

set_option maxHeartbeats 8000000

/-- The rows carried on, where a sequence begins. -/
theorem carry_A (c : Dev nD) (t : Fin cfg0.N) (h0 : t.val % 4 = 0) (X : Vec Ideal S512x1024 .f32) (G : Vec Ideal S1x1024 .f32) (W : Vec Ideal S1024x5632 .bf16) (CW : Vec Ideal S3x5632 .f32) (CB : Vec Ideal S1x5632 .f32) (WD : Vec Ideal S2816x1024 .bf16) (FG : Vec Ideal S1x1024 .f32) (y : S8x5632.Idx) :
    sout0_A_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) X G W CW CB WD FG y
      = tailF (k0_pay4 X G) W y := by
  frame_out
  clear h0
  refine (canon_dropLast _ y (View.cover_of_tiledBy _ ![8, 256] (by sl_kernel_rfl) y)).trans ?_
  simp only [List.dropLast_cons₂, List.dropLast_singleton]
  canon_tiles x h using (View.cover_of_tiledBy _ ![8, 256] (by sl_kernel_rfl) y)
  · exact tail_piece (k0_pay4 X G) W 5376 inb_S1024x5632_S1024x256_0_5376 x y (by omega) (by omega)
  · exact tail_piece (k0_pay4 X G) W 2560 inb_S1024x5632_S1024x256_0_2560 x y (by omega) (by omega)
  · exact tail_piece (k0_pay4 X G) W 5120 inb_S1024x5632_S1024x256_0_5120 x y (by omega) (by omega)
  · exact tail_piece (k0_pay4 X G) W 2304 inb_S1024x5632_S1024x256_0_2304 x y (by omega) (by omega)
  · exact tail_piece (k0_pay4 X G) W 4864 inb_S1024x5632_S1024x256_0_4864 x y (by omega) (by omega)
  · exact tail_piece (k0_pay4 X G) W 2048 inb_S1024x5632_S1024x256_0_2048 x y (by omega) (by omega)
  · exact tail_piece (k0_pay4 X G) W 4608 inb_S1024x5632_S1024x256_0_4608 x y (by omega) (by omega)
  · exact tail_piece (k0_pay4 X G) W 1792 inb_S1024x5632_S1024x256_0_1792 x y (by omega) (by omega)
  · exact tail_piece (k0_pay4 X G) W 4352 inb_S1024x5632_S1024x256_0_4352 x y (by omega) (by omega)
  · exact tail_piece (k0_pay4 X G) W 1536 inb_S1024x5632_S1024x256_0_1536 x y (by omega) (by omega)
  · exact tail_piece (k0_pay4 X G) W 4096 inb_S1024x5632_S1024x256_0_4096 x y (by omega) (by omega)
  · exact tail_piece (k0_pay4 X G) W 1280 inb_S1024x5632_S1024x256_0_1280 x y (by omega) (by omega)
  · exact tail_piece (k0_pay4 X G) W 3840 inb_S1024x5632_S1024x256_0_3840 x y (by omega) (by omega)
  · exact tail_piece (k0_pay4 X G) W 1024 inb_S1024x5632_S1024x256_0_1024 x y (by omega) (by omega)
  · exact tail_piece (k0_pay4 X G) W 3584 inb_S1024x5632_S1024x256_0_3584 x y (by omega) (by omega)
  · exact tail_piece (k0_pay4 X G) W 768 inb_S1024x5632_S1024x256_0_768 x y (by omega) (by omega)
  · exact tail_piece (k0_pay4 X G) W 3328 inb_S1024x5632_S1024x256_0_3328 x y (by omega) (by omega)
  · exact tail_piece (k0_pay4 X G) W 512 inb_S1024x5632_S1024x256_0_512 x y (by omega) (by omega)
  · exact tail_piece (k0_pay4 X G) W 3072 inb_S1024x5632_S1024x256_0_3072 x y (by omega) (by omega)
  · exact tail_piece (k0_pay4 X G) W 256 inb_S1024x5632_S1024x256_0_256 x y (by omega) (by omega)
  · exact tail_piece (k0_pay4 X G) W 2816 inb_S1024x5632_S1024x256_0_2816 x y (by omega) (by omega)
  · exact tail_piece (k0_pay4 X G) W 0 inb_S1024x5632_S1024x256_0_0 x y (by omega) (by omega)

end Cert.FfnMidIdeal.Value

end
-- ==== Proof.FfnMidCarryB.lean ====
module

public import proofs.«01_k».proof.Proof.Gen.FfnMidIdeal
public import proofs.«01_k».proof.Proof.Gen.FfnMidIdeal.Skeleton
public import proofs.«01_k».proof.Proof.Gen.FfnMidIdeal.Launch
public import proofs.«01_k».proof.Proof.Gen.FfnMidIdeal.Points
public import proofs.«01_k».proof.Proof.Gen.FfnMidIdeal.Frame
public import Idealize.ShloMosaic.Lib.Pipeline.Value
public import Idealize.ShloMosaic.Lib.StableHlo.Run
public import Idealize.ShloMosaic.Lib.Claim
public import Idealize.ShloMosaic.Lib.Pipeline.ValueKit
public import Idealize.ShloMosaic.Lib.Pointwise
public import Idealize.ShloMosaic.Lib.WordCmp
public import Idealize.ShloMosaic.Lib.Pipeline.FrameTail
public import Idealize.ShloMosaic.Lib.LayoutAt
public import Idealize.ShloMosaic.Lib.Pipeline.ReadBack
public import proofs.«01_k».proof.Proof.FfnMidRef
public import proofs.«01_k».proof.Proof.FfnMidStores

/- The feed-forward block without the final norm: the rows a grid point carries on. -/

@[expose] public section

set_option maxRecDepth 16384

noncomputable section

open Idealize.ShloMosaic Idealize.ShloMosaic.TcCoe Idealize.SL.Sem
open Idealize.ShloMosaic.Pipeline (Dat)
open scoped BigOperators

namespace Cert.FfnMidIdeal.Value

open Cert.FfnMidIdeal Cert.FfnMidIdeal.Gen

variable (m : (ℓ : Loc nD τ sig) → Buf (Elt Ideal) ℓ)

set_option maxHeartbeats 8000000

/-- The rows carried on, where a sequence goes on. -/
theorem carry_B (c : Dev nD) (t : Fin cfg0.N) (h0 : ¬t.val % 4 = 0) (X : Vec Ideal S512x1024 .f32) (G : Vec Ideal S1x1024 .f32) (W : Vec Ideal S1024x5632 .bf16) (CW : Vec Ideal S3x5632 .f32) (CB : Vec Ideal S1x5632 .f32) (WD : Vec Ideal S2816x1024 .bf16) (FG : Vec Ideal S1x1024 .f32) (CR : Vec Ideal S8x5632 .f32) (y : S8x5632.Idx) :
    sout0_B_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) X G W CW CB WD FG CR y
      = tailF (k0_pay4 X G) W y := by
  frame_out
  clear h0
  canon_tiles x h using (View.cover_of_tiledBy _ ![8, 256] (by sl_kernel_rfl) y)
  · exact tail_piece (k0_pay4 X G) W 5376 inb_S1024x5632_S1024x256_0_5376 x y (by omega) (by omega)
  · exact tail_piece (k0_pay4 X G) W 2560 inb_S1024x5632_S1024x256_0_2560 x y (by omega) (by omega)
  · exact tail_piece (k0_pay4 X G) W 5120 inb_S1024x5632_S1024x256_0_5120 x y (by omega) (by omega)
  · exact tail_piece (k0_pay4 X G) W 2304 inb_S1024x5632_S1024x256_0_2304 x y (by omega) (by omega)
  · exact tail_piece (k0_pay4 X G) W 4864 inb_S1024x5632_S1024x256_0_4864 x y (by omega) (by omega)
  · exact tail_piece (k0_pay4 X G) W 2048 inb_S1024x5632_S1024x256_0_2048 x y (by omega) (by omega)
  · exact tail_piece (k0_pay4 X G) W 4608 inb_S1024x5632_S1024x256_0_4608 x y (by omega) (by omega)
  · exact tail_piece (k0_pay4 X G) W 1792 inb_S1024x5632_S1024x256_0_1792 x y (by omega) (by omega)
  · exact tail_piece (k0_pay4 X G) W 4352 inb_S1024x5632_S1024x256_0_4352 x y (by omega) (by omega)
  · exact tail_piece (k0_pay4 X G) W 1536 inb_S1024x5632_S1024x256_0_1536 x y (by omega) (by omega)
  · exact tail_piece (k0_pay4 X G) W 4096 inb_S1024x5632_S1024x256_0_4096 x y (by omega) (by omega)
  · exact tail_piece (k0_pay4 X G) W 1280 inb_S1024x5632_S1024x256_0_1280 x y (by omega) (by omega)
  · exact tail_piece (k0_pay4 X G) W 3840 inb_S1024x5632_S1024x256_0_3840 x y (by omega) (by omega)
  · exact tail_piece (k0_pay4 X G) W 1024 inb_S1024x5632_S1024x256_0_1024 x y (by omega) (by omega)
  · exact tail_piece (k0_pay4 X G) W 3584 inb_S1024x5632_S1024x256_0_3584 x y (by omega) (by omega)
  · exact tail_piece (k0_pay4 X G) W 768 inb_S1024x5632_S1024x256_0_768 x y (by omega) (by omega)
  · exact tail_piece (k0_pay4 X G) W 3328 inb_S1024x5632_S1024x256_0_3328 x y (by omega) (by omega)
  · exact tail_piece (k0_pay4 X G) W 512 inb_S1024x5632_S1024x256_0_512 x y (by omega) (by omega)
  · exact tail_piece (k0_pay4 X G) W 3072 inb_S1024x5632_S1024x256_0_3072 x y (by omega) (by omega)
  · exact tail_piece (k0_pay4 X G) W 256 inb_S1024x5632_S1024x256_0_256 x y (by omega) (by omega)
  · exact tail_piece (k0_pay4 X G) W 2816 inb_S1024x5632_S1024x256_0_2816 x y (by omega) (by omega)
  · exact tail_piece (k0_pay4 X G) W 0 inb_S1024x5632_S1024x256_0_0 x y (by omega) (by omega)

end Cert.FfnMidIdeal.Value

end
-- ==== Proof.FfnMidValue.lean ====
module

public import proofs.«01_k».proof.Proof.Gen.FfnMidIdeal
public import proofs.«01_k».proof.Proof.Gen.FfnMidIdeal.Skeleton
public import proofs.«01_k».proof.Proof.Gen.FfnMidIdeal.Launch
public import proofs.«01_k».proof.Proof.Gen.FfnMidIdeal.Points
public import proofs.«01_k».proof.Proof.Gen.FfnMidIdeal.Frame
public import Idealize.ShloMosaic.Lib.Pipeline.Value
public import Idealize.ShloMosaic.Lib.StableHlo.Run
public import Idealize.ShloMosaic.Lib.Claim
public import Idealize.ShloMosaic.Lib.Pipeline.ValueKit
public import Idealize.ShloMosaic.Lib.Pointwise
public import Idealize.ShloMosaic.Lib.WordCmp
public import Idealize.ShloMosaic.Lib.Pipeline.FrameTail
public import Idealize.ShloMosaic.Lib.LayoutAt
public import Idealize.ShloMosaic.Lib.Pipeline.ReadBack
public import proofs.«01_k».proof.Proof.FfnMidRef
public import proofs.«01_k».proof.Proof.FfnMidPoint
public import proofs.«01_k».proof.Proof.FfnMidOutA
public import proofs.«01_k».proof.Proof.FfnMidOutB
public import proofs.«01_k».proof.Proof.FfnMidCarryA
public import proofs.«01_k».proof.Proof.FfnMidCarryB

/- The values of the feed-forward block without the final norm. -/

@[expose] public section

set_option maxRecDepth 16384

noncomputable section

open Idealize.ShloMosaic Idealize.ShloMosaic.TcCoe Idealize.SL.Sem
open Idealize.ShloMosaic.Pipeline (Dat)
open scoped BigOperators

namespace Cert.FfnMidIdeal.Value

open Cert.FfnMidIdeal Cert.FfnMidIdeal.Gen

variable (m : (ℓ : Loc nD τ sig) → Buf (Elt Ideal) ℓ)

/-- The rows a grid point carries on: the last eight rows of its product. -/
theorem carried (c : Dev nD) (t : Fin cfg0.N) (y : S8x5632.Idx) :
    (outsAt0 m c t.val t.isLt).2 y = tailF (k0_pay4 (iblk m c 0 t) (iblk m c 1 t)) (iblk m c 2 t) y := by
  by_cases h : t.val % 4 = 0
  · rw [outsAt0_A m c t h]; dsimp only; exact carry_A c t h (iblk m c 0 t) (iblk m c 1 t) (iblk m c 2 t) (iblk m c 3 t) (iblk m c 4 t) (iblk m c 5 t) (iblk m c 6 t) y
  · rw [outsAt0_B m c t h]; dsimp only; exact carry_B c t h (iblk m c 0 t) (iblk m c 1 t) (iblk m c 2 t) (iblk m c 3 t) (iblk m c 4 t) (iblk m c 5 t) (iblk m c 6 t) _ y

/-- The rows carried into a grid point within a sequence are the reference's. -/
theorem carried_at (c : Dev nD) (t : Fin cfg0.N) (h0 : ¬ t.val % 4 = 0) (q : Fin 8) (d : ℕ) (hd : q.val + d = 8) (hq : 1 ≤ d) (b : Fin 8) (a : Fin 2048) (ha : a.val + 512 ≤ 2048) (hb : b.val * 2048 + a.val = 512 * t.val) (n : Fin 5632) :
    (outsAt0 m c (t.val - 1) (Nat.lt_of_le_of_lt (Nat.sub_le _ _) t.isLt)).2 (ix2 q n) = Cert.FfnMidRefIdeal.Value.back (fun p => Cert.FfnMidRefIdeal.Value.up (m ((c : Thread nD τ).loc main_arg0)) (m ((c : Thread nD τ).loc main_arg1)) (m ((c : Thread nD τ).loc main_arg2)) (ix3 b p n)) d a := by
  refine (carried m c ⟨t.val - 1, Nat.lt_of_le_of_lt (Nat.sub_le _ _) t.isLt⟩ (ix2 q n)).trans ?_
  unfold Cert.FfnMidRefIdeal.Value.back
  have hp : 512 ≤ a.val := by omega
  rw [dif_pos (by omega)]
  unfold tailF
  exact up_eq m c ⟨t.val - 1, Nat.lt_of_le_of_lt (Nat.sub_le _ _) t.isLt⟩ ⟨504 + q.val, by omega⟩ n b ⟨a.val - d, by omega⟩ (by simp only []; omega)

/-- The first rows before a sequence are zero. -/
theorem zero_at (q : Fin 8) (n : Fin 5632) : (k0_pay3 : FVec Ideal S8x5632 .f32) (ix2 q n) = 0 := by
  pointwise [k0_pay3]

/-- What is stored at a grid point is the reference. -/
theorem point (c : Dev nD) (t : Fin cfg0.N) (y : S512x1024.Idx) (i : Fin 16384) (d : Fin 1024) (hi : i.val = 512 * t.val + (y 0).val) (hd : d.val = (y 1).val) :
    (outsAt0 m c t.val t.isLt).1 y = Cert.FfnMidRefIdeal.Value.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 i d) := by
  obtain ⟨r, d', rfl⟩ : ∃ (r : Fin 512) (d' : Fin 1024), y = ix2 r d' := ⟨y 0, y 1, by funext a; fin_cases a <;> rfl⟩
  have ed : d' = d := Fin.ext hd.symm
  subst ed
  have ht : t.val < 32 := t.isLt
  by_cases h : t.val % 4 = 0
  · rw [outsAt0_A m c t h]; dsimp only
    refine (out_A c t h (iblk m c 0 t) (iblk m c 1 t) (iblk m c 2 t) (iblk m c 3 t) (iblk m c 4 t) (iblk m c 5 t) (iblk m c 6 t) (ix2 r d')).trans ?_
    refine block_eq m c t _ ⟨t.val / 4, by omega⟩ ⟨0, by omega⟩ (by simp only []; omega) (by simp only []; omega) (fun n => ?_) (fun n => ?_) r d' i hi
    · rw [zero_at]; rfl
    · rw [zero_at]; rfl
  · rw [outsAt0_B m c t h]; dsimp only
    refine (out_B c t h (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2 (ix2 r d')).trans ?_
    refine block_eq m c t _ ⟨t.val / 4, by omega⟩ ⟨512 * (t.val % 4), by omega⟩ (by simp only []; omega) (by simp only []; omega) (fun n => ?_) (fun n => ?_) r d' i hi
    · exact carried_at m c t h 6 2 rfl (by omega) _ _ (by simp only []; omega) (by simp only []; omega) n
    · exact carried_at m c t h 7 1 rfl (by omega) _ _ (by simp only []; omega) (by simp only []; omega) n

/-- The result array after the run. -/
theorem final (c : Dev nD) : (dats m 0 c).arrAt 7 (cfgs 0).N = Cert.FfnMidRefIdeal.Value.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t hf y => ?_
  blk_simp; rw [after0_7]
  have e : ((cfg0.win 7).blk t).view.emb y = ix2 (((cfg0.win 7).blk t).view.emb y 0) (((cfg0.win 7).blk t).view.emb y 1) := by
    funext a; fin_cases a <;> rfl
  rw [e]
  refine point m c t y _ _ ?_ ?_ <;> blk_simp [idx_val t] <;> omega

end Cert.FfnMidIdeal.Value

end
-- ==== Proof.lean ====
/- The proof of the claims: each program's frame, the exact-number program's erasure, and the value claims of the merge, the feed-forward block and the joint projection. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.FfnMid
public import proofs.«01_k».proof.Proof.Gen.FfnMid.Skeleton
public import proofs.«01_k».proof.Proof.Gen.FfnMid.Launch
public import proofs.«01_k».proof.Proof.Gen.FfnMid.Points
public import proofs.«01_k».proof.Proof.Gen.FfnMid.Frame
public import proofs.«01_k».proof.Proof.Gen.FfnMidIdeal
public import proofs.«01_k».proof.Proof.Gen.FfnMidIdeal.Skeleton
public import proofs.«01_k».proof.Proof.Gen.FfnMidIdeal.Launch
public import proofs.«01_k».proof.Proof.Gen.FfnMidIdeal.Points
public import proofs.«01_k».proof.Proof.Gen.FfnMidIdeal.Frame
public import proofs.«01_k».proof.Proof.Gen.FfnMidRefIdeal
public import proofs.«01_k».proof.Proof.Gen.Inproj
public import proofs.«01_k».proof.Proof.Gen.Inproj.Skeleton
public import proofs.«01_k».proof.Proof.Gen.Inproj.Launch
public import proofs.«01_k».proof.Proof.Gen.Inproj.Points
public import proofs.«01_k».proof.Proof.Gen.Inproj.Frame
public import proofs.«01_k».proof.Proof.Gen.InprojIdeal
public import proofs.«01_k».proof.Proof.Gen.InprojIdeal.Skeleton
public import proofs.«01_k».proof.Proof.Gen.InprojIdeal.Launch
public import proofs.«01_k».proof.Proof.Gen.InprojIdeal.Points
public import proofs.«01_k».proof.Proof.Gen.InprojIdeal.Frame
public import proofs.«01_k».proof.Proof.Gen.InprojRefIdeal
public import Idealize.ShloMosaic.Adequacy
public import Idealize.ShloMosaic.Init
public import proofs.«01_k».proof.Proof.Gen.Repack
public import proofs.«01_k».proof.Proof.Gen.Repack.Frame
public import proofs.«01_k».proof.Proof.Gen.RepackIdeal
public import proofs.«01_k».proof.Proof.Gen.RepackIdeal.Frame
public import proofs.«01_k».proof.Proof.Gen.Fcum
public import proofs.«01_k».proof.Proof.Gen.Fcum.Frame
public import proofs.«01_k».proof.Proof.Gen.FcumIdeal
public import proofs.«01_k».proof.Proof.Gen.FcumIdeal.Frame
public import proofs.«01_k».proof.Proof.Gen.Swa
public import proofs.«01_k».proof.Proof.Gen.Swa.Frame
public import proofs.«01_k».proof.Proof.Gen.SwaIdeal
public import proofs.«01_k».proof.Proof.Gen.SwaIdeal.Frame

import Idealize.ShloMosaic.Lib.Claim
import Idealize.ShloMosaic.Lib.Pipeline.ValueKit
import Idealize.ShloMosaic.Lib.Pointwise
import Idealize.ShloMosaic.Lib.WordCmp
import Idealize.ShloMosaic.Lib.LayoutAt
import proofs.«01_k».proof.Proof.MergeRun
import proofs.«01_k».proof.Proof.InprojRun
import proofs.«01_k».proof.Proof.FfnRun
import proofs.«01_k».proof.Proof.MergeValue
import proofs.«01_k».proof.Proof.InprojMain
import proofs.«01_k».proof.Proof.InprojValue
import proofs.«01_k».proof.Proof.Frame
import proofs.«01_k».proof.Proof.FfnValue
import proofs.«01_k».proof.Proof.FfnMidRun
import proofs.«01_k».proof.Proof.FfnMidValue

@[expose] public section

set_option maxRecDepth 16384
set_option maxHeartbeats 1600000

noncomputable section

namespace Cert.Proof

open Idealize.ShloMosaic Idealize.SL.Sem

/-- The frame of the sparse attention: it runs, leaves its arguments as they were, and every semaphore at zero. -/
theorem quiescent_Kernel : Cert.quiescent_Kernel := by
  exact fun m g _ => Cert.Kernel.Hand.frame m g

/-- The frame of the merge: it runs, leaves its arguments as they were, and every semaphore at zero. -/
theorem quiescent_Merge : Cert.quiescent_Merge := by
  exact fun m g _ => Cert.Merge.Gen.frame m g

/-- The frame of the merge at exact numbers: it runs, leaves its arguments as they were, and every semaphore at zero. -/
theorem quiescent_MergeIdeal : Cert.quiescent_MergeIdeal := by
  exact fun m g _ => Cert.MergeIdeal.Gen.frame m g

/-- The frame of the merge's reference at exact numbers: it runs, leaves its arguments as they were, and every semaphore at zero. -/
theorem quiescent_MergeRefIdeal : Cert.quiescent_MergeRefIdeal := by
  intro m g _
  exact θ_run_mono (Cert.MergeRefIdeal.Value.args_kept m g) fun r h => ⟨h, sem_eq_zero_of_no_sems (by decide) r.2⟩

/-- The frame of the feed-forward block: it runs, leaves its arguments as they were, and every semaphore at zero. -/
theorem quiescent_Ffn : Cert.quiescent_Ffn := by
  exact fun m g _ => Cert.Ffn.Gen.frame m g

/-- The frame of the feed-forward block at exact numbers: it runs, leaves its arguments as they were, and every semaphore at zero. -/
theorem quiescent_FfnIdeal : Cert.quiescent_FfnIdeal := by
  exact fun m g _ => Cert.FfnIdeal.Gen.frame m g

/-- The frame of the feed-forward block's reference at exact numbers: it runs, leaves its arguments as they were, and every semaphore at zero. -/
theorem quiescent_FfnRefIdeal : Cert.quiescent_FfnRefIdeal := by
  intro m g _
  exact θ_run_mono (Cert.FfnRefIdeal.Value.args_kept m g) fun r h => ⟨h, sem_eq_zero_of_no_sems (by decide) r.2⟩

/-- The frame of the feed-forward block without the final norm: it runs, leaves its arguments as they were, and every semaphore at zero. -/
theorem quiescent_FfnMid : Cert.quiescent_FfnMid := by
  exact fun m g _ => Cert.FfnMid.Gen.frame m g

/-- The frame of the feed-forward block without the final norm at exact numbers: it runs, leaves its arguments as they were, and every semaphore at zero. -/
theorem quiescent_FfnMidIdeal : Cert.quiescent_FfnMidIdeal := by
  exact fun m g _ => Cert.FfnMidIdeal.Gen.frame m g

/-- The frame of the reference, at exact numbers, of the feed-forward block without the final norm: it runs, leaves its arguments as they were, and every semaphore at zero. -/
theorem quiescent_FfnMidRefIdeal : Cert.quiescent_FfnMidRefIdeal := by
  intro m g _
  exact θ_run_mono (Cert.FfnMidRefIdeal.Value.args_kept m g) fun r h => ⟨h, sem_eq_zero_of_no_sems (by decide) r.2⟩

/-- The frame of the joint projection: it runs, leaves its arguments as they were, and every semaphore at zero. -/
theorem quiescent_Inproj : Cert.quiescent_Inproj := by
  exact fun m g _ => Cert.Inproj.Gen.frame m g

/-- The frame of the joint projection at exact numbers: it runs, leaves its arguments as they were, and every semaphore at zero. -/
theorem quiescent_InprojIdeal : Cert.quiescent_InprojIdeal := by
  exact fun m g _ => Cert.InprojIdeal.Gen.frame m g

/-- The frame of the joint projection's reference at exact numbers: it runs, leaves its arguments as they were, and every semaphore at zero. -/
theorem quiescent_InprojRefIdeal : Cert.quiescent_InprojRefIdeal := by
  intro m g _
  exact θ_run_mono (Cert.InprojRefIdeal.Value.args_kept m g) fun r h => ⟨h, sem_eq_zero_of_no_sems (by decide) r.2⟩

/-- The frame of the reordering of the input weights: it runs, leaves its arguments as they were, and every semaphore at zero. -/
theorem quiescent_Repack : Cert.quiescent_Repack := by
  exact fun m g _ => Cert.Repack.Gen.frame m g

/-- The frame of the reordering of the input weights at exact numbers: it runs, leaves its arguments as they were, and every semaphore at zero. -/
theorem quiescent_RepackIdeal : Cert.quiescent_RepackIdeal := by
  exact fun m g _ => Cert.RepackIdeal.Gen.frame m g

/-- The frame of the forget-gate sums: it runs, leaves its arguments as they were, and every semaphore at zero. -/
theorem quiescent_Fcum : Cert.quiescent_Fcum := by
  exact fun m g _ => Cert.Fcum.Gen.frame m g

/-- The frame of the forget-gate sums at exact numbers: it runs, leaves its arguments as they were, and every semaphore at zero. -/
theorem quiescent_FcumIdeal : Cert.quiescent_FcumIdeal := by
  exact fun m g _ => Cert.FcumIdeal.Gen.frame m g

/-- The frame of the windowed attention: it runs, leaves its arguments as they were, and every semaphore at zero. -/
theorem quiescent_Swa : Cert.quiescent_Swa := by
  exact fun m g _ => Cert.Swa.Gen.frame m g

/-- The frame of the windowed attention at exact numbers: it runs, leaves its arguments as they were, and every semaphore at zero. -/
theorem quiescent_SwaIdeal : Cert.quiescent_SwaIdeal := by
  exact fun m g _ => Cert.SwaIdeal.Gen.frame m g

/-- The merge at exact numbers is the same program: nothing was rewritten. -/
theorem preserves_Merge_MergeIdeal : Cert.preserves_Merge_MergeIdeal := trivial

/-- At exact numbers the merge leaves what its reference computes. -/
theorem algebraic_MergeIdeal_MergeRefIdeal : Cert.algebraic_MergeIdeal_MergeRefIdeal := by
  pair_intro
  · run_from Cert.MergeIdeal.Gen.run_main m g
  · refine θ_run_mono (θ_run_and (Cert.MergeRefIdeal.Value.leaves_result m' g') (Cert.MergeRefIdeal.Value.args_kept m' g')) ?_
    intro r hr c
    obtain ⟨h0, h1, h2, h3, h4, h5, h6, h7, h8⟩ := hagree c
    refine ⟨(hr.1 c).trans ?_, hr.2 c⟩
    rw [h0, h1, h2, h3, h4, h5, h6, h7, h8]
    exact (Cert.MergeIdeal.Value.final m c).symm

/-- The feed-forward block at exact numbers is the same program: nothing was rewritten. -/
theorem preserves_Ffn_FfnIdeal : Cert.preserves_Ffn_FfnIdeal := trivial

/-- At exact numbers the feed-forward block leaves what its reference computes. -/
theorem algebraic_FfnIdeal_FfnRefIdeal : Cert.algebraic_FfnIdeal_FfnRefIdeal := by
  pair_intro
  · run_from Cert.FfnIdeal.Gen.run_main m g
  · refine θ_run_mono (θ_run_and (Cert.FfnRefIdeal.Value.leaves_result m' g') (Cert.FfnRefIdeal.Value.args_kept m' g')) ?_
    intro r hr c
    obtain ⟨h0, h1, h2, h3, h4, h5, h6⟩ := hagree c
    refine ⟨(hr.1 c).trans ?_, hr.2 c⟩
    rw [h0, h1, h2, h3, h4, h5, h6]
    exact (Cert.FfnIdeal.Value.final m c).symm

/-- The feed-forward block without the final norm at exact numbers is the same program: nothing was rewritten. -/
theorem preserves_FfnMid_FfnMidIdeal : Cert.preserves_FfnMid_FfnMidIdeal := trivial

/-- At exact numbers the feed-forward block without the final norm leaves what its reference computes. -/
theorem algebraic_FfnMidIdeal_FfnMidRefIdeal : Cert.algebraic_FfnMidIdeal_FfnMidRefIdeal := by
  pair_intro
  · run_from Cert.FfnMidIdeal.Gen.run_main m g
  · refine θ_run_mono (θ_run_and (Cert.FfnMidRefIdeal.Value.leaves_result m' g') (Cert.FfnMidRefIdeal.Value.args_kept m' g')) ?_
    intro r hr c
    obtain ⟨h0, h1, h2, h3, h4, h5, h6⟩ := hagree c
    refine ⟨(hr.1 c).trans ?_, hr.2 c⟩
    rw [h0, h1, h2, h3, h4, h5]
    exact (Cert.FfnMidIdeal.Value.final m c).symm

/-- The joint projection at exact numbers is the same program: nothing was rewritten. -/
theorem preserves_Inproj_InprojIdeal : Cert.preserves_Inproj_InprojIdeal := trivial

/-- At exact numbers the joint projection leaves what its reference computes. -/
theorem algebraic_InprojIdeal_InprojRefIdeal : Cert.algebraic_InprojIdeal_InprojRefIdeal := by
  pair_intro
  · run_from Cert.InprojIdeal.Gen.run_main m g
  · refine θ_run_mono (θ_run_and (Cert.InprojRefIdeal.Value.leaves_result m' g') (θ_run_and (Cert.InprojRefIdeal.Value.leaves_small m' g') (Cert.InprojRefIdeal.Value.args_kept m' g'))) ?_
    intro r hr c
    obtain ⟨h0, h1, h2, h3⟩ := hagree c
    refine ⟨(hr.1 c).trans ?_, (hr.2.1 c).trans ?_, hr.2.2 c⟩
    · rw [h0, h1, h2]
      exact (Cert.InprojIdeal.Value.final_6 m c).symm
    · rw [h0, h1, h3]
      exact (Cert.InprojIdeal.Value.final_7 m c).symm

/-- The reordering of the input weights at exact numbers is the same program: nothing was rewritten. -/
theorem preserves_Repack_RepackIdeal : Cert.preserves_Repack_RepackIdeal := trivial

/-- The forget-gate sums at exact numbers is the same program: nothing was rewritten. -/
theorem preserves_Fcum_FcumIdeal : Cert.preserves_Fcum_FcumIdeal := trivial

/-- The windowed attention at exact numbers is the same program: nothing was rewritten. -/
theorem preserves_Swa_SwaIdeal : Cert.preserves_Swa_SwaIdeal := trivial

/-- Every claim. -/
theorem claim : Cert.Claim :=
  ⟨Cert.Kernel.Gen.facts, Cert.Merge.Gen.facts, Cert.MergeIdeal.Gen.facts, Cert.MergeRefIdeal.Gen.facts, Cert.Ffn.Gen.facts, Cert.FfnIdeal.Gen.facts, Cert.FfnRefIdeal.Gen.facts, Cert.FfnMid.Gen.facts, Cert.FfnMidIdeal.Gen.facts, Cert.FfnMidRefIdeal.Gen.facts, Cert.Inproj.Gen.facts, Cert.InprojIdeal.Gen.facts, Cert.InprojRefIdeal.Gen.facts, Cert.Repack.Gen.facts, Cert.RepackIdeal.Gen.facts, Cert.Fcum.Gen.facts, Cert.FcumIdeal.Gen.facts, Cert.Swa.Gen.facts, Cert.SwaIdeal.Gen.facts,
   quiescent_Kernel,
   quiescent_Merge,
   quiescent_MergeIdeal,
   quiescent_MergeRefIdeal,
   quiescent_Ffn,
   quiescent_FfnIdeal,
   quiescent_FfnRefIdeal,
   quiescent_FfnMid,
   quiescent_FfnMidIdeal,
   quiescent_FfnMidRefIdeal,
   quiescent_Inproj,
   quiescent_InprojIdeal,
   quiescent_InprojRefIdeal,
   quiescent_Repack,
   quiescent_RepackIdeal,
   quiescent_Fcum,
   quiescent_FcumIdeal,
   quiescent_Swa,
   quiescent_SwaIdeal,
   preserves_Merge_MergeIdeal,
   algebraic_MergeIdeal_MergeRefIdeal,
   preserves_Ffn_FfnIdeal,
   algebraic_FfnIdeal_FfnRefIdeal,
   preserves_FfnMid_FfnMidIdeal,
   algebraic_FfnMidIdeal_FfnMidRefIdeal,
   preserves_Inproj_InprojIdeal,
   algebraic_InprojIdeal_InprojRefIdeal,
   preserves_Repack_RepackIdeal,
   preserves_Fcum_FcumIdeal,
   preserves_Swa_SwaIdeal⟩

end Cert.Proof

end
